-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_well_posed [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_well_posed [hKernelIdeal : Cert.KernelIdeal.Facts] [hReferenceIdeal : Cert.ReferenceIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v208) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_well_posed : Cert.Pre_well_posed.Facts),
    quiescent_Kernel (hKernel := hKernel)
    ∧ quiescent_KernelIdeal (hKernelIdeal := hKernelIdeal)
    ∧ quiescent_KernelIdeal_pre_well_posed (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ preserves_Kernel_KernelIdeal
    ∧ algebraic_KernelIdeal_ReferenceIdeal_pre_well_posed (hKernelIdeal := hKernelIdeal) (hReferenceIdeal := hReferenceIdeal) (hPre_well_posed := hPre_well_posed)
-- ==== Pre_well_posed.lean ====
abbrev S64x196x384 : Shape := ⟨3, ![64, 196, 384]⟩
abbrev S64x196x196 : Shape := ⟨3, ![64, 196, 196]⟩
abbrev S3x384 : Shape := ⟨2, ![3, 384]⟩
abbrev S512x73920 : Shape := ⟨2, ![512, 73920]⟩
abbrev S512 : Shape := ⟨1, ![512]⟩
abbrev S512x2048 : Shape := ⟨2, ![512, 2048]⟩
abbrev S_ : Shape := ⟨0, ![]⟩
abbrev S64x196 : Shape := ⟨2, ![64, 196]⟩
abbrev S64x196x1 : Shape := ⟨3, ![64, 196, 1]⟩
abbrev S64x1x196 : Shape := ⟨3, ![64, 1, 196]⟩
abbrev S64 : Shape := ⟨1, ![64]⟩
abbrev S64x384 : Shape := ⟨2, ![64, 384]⟩
abbrev S64x1 : Shape := ⟨2, ![64, 1]⟩
abbrev S64x1x384 : Shape := ⟨3, ![64, 1, 384]⟩

class Facts : Prop where
  reducesTo_S64x196x196_S64x196_d2 : S64x196x196.ReducesTo [2] S64x196
  h_S_ : 0 < S_.numel
  bcast_S_S64x196 : S_.BroadcastsInDim S64x196 (![] : Fin 0 → Fin S64x196.rank)
  bcast_S64x196_S64x196x1_0_1 : S64x196.BroadcastsInDim S64x196x1 (![0, 1] : Fin 2 → Fin S64x196x1.rank)
  bcast_S64x196x1_S64x196x196_0_1_2 : S64x196x1.BroadcastsInDim S64x196x196 (![0, 1, 2] : Fin 3 → Fin S64x196x196.rank)
  bcast_S64x196_S64x1x196_0_2 : S64x196.BroadcastsInDim S64x1x196 (![0, 2] : Fin 2 → Fin S64x1x196.rank)
  bcast_S64x1x196_S64x196x196_0_1_2 : S64x1x196.BroadcastsInDim S64x196x196 (![0, 1, 2] : Fin 3 → Fin S64x196x196.rank)
  bcast_S_S64x196x196 : S_.BroadcastsInDim S64x196x196 (![] : Fin 0 → Fin S64x196x196.rank)
  reducesTo_S64x196x196_S64_d1_2 : S64x196x196.ReducesTo [1, 2] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x384_0_1 : S64x1.BroadcastsInDim S64x384 (![0, 1] : Fin 2 → Fin S64x384.rank)
  bcast_S64x384_S64x1x384_0_2 : S64x384.BroadcastsInDim S64x1x384 (![0, 2] : Fin 2 → Fin S64x1x384.rank)
  bcast_S64x1x384_S64x196x384_0_1_2 : S64x1x384.BroadcastsInDim S64x196x384 (![0, 1, 2] : Fin 3 → Fin S64x196x384.rank)
  reducesTo_S64x196x384_S64_d1_2 : S64x196x384.ReducesTo [1, 2] S64
  bcast_S_S64 : S_.BroadcastsInDim S64 (![] : Fin 0 → Fin S64.rank)
  reducesTo_S64_S_d0 : S64.ReducesTo [0] S_
  bcast_S_S3x384 : S_.BroadcastsInDim S3x384 (![] : Fin 0 → Fin S3x384.rank)
  reducesTo_S3x384_S_d0_1 : S3x384.ReducesTo [0, 1] S_
  dot_S64x196x384_S64x196_S64x384_1_1_2_n_0_0_wf : DotDims.WF S64x196x384 S64x196 S64x384 [1] [1] [2] [] [0] [0]
  dot_S64x196x196_S64x196x384_S64x196x384_2_1_1_2_0_0_wf : DotDims.WF S64x196x196 S64x196x384 S64x196x384 [2] [1] [1] [2] [0] [0]

variable [Facts]

def dot_S64x196x384_S64x196_S64x384_1_1_2_n_0_0 : DotDims S64x196x384 S64x196 S64x384 where
  lhsContracting := [1]
  rhsContracting := [1]
  lhsNonContracting := [2]
  rhsNonContracting := []
  lhsBatch := [0]
  rhsBatch := [0]
  wf := dot_S64x196x384_S64x196_S64x384_1_1_2_n_0_0_wf
def dot_S64x196x196_S64x196x384_S64x196x384_2_1_1_2_0_0 : DotDims S64x196x196 S64x196x384 S64x196x384 where
  lhsContracting := [2]
  rhsContracting := [1]
  lhsNonContracting := [1]
  rhsNonContracting := [2]
  lhsBatch := [0]
  rhsBatch := [0]
  wf := dot_S64x196x196_S64x196x384_S64x196x384_2_1_1_2_0_0_wf
def fn_part2 {F : FTy → Type} [FloatOps F] (main_arg11 : IVec S3x384 32) (main_v30 : FVec F S64 .f32) (main_v35 : IVec S_ 1) (main_cst_9 : FVec F S_ .f32) : IVec S_ 1 :=
  let main_v36 : FVec F S64 .f32 := broadcastInDim S64 ![] bcast_S_S64 main_cst_9
  let main_v37 : FVec F S64 .f32 := addf main_v30 main_v36
  let main_cst_10 : FVec F S_ .f32 := constant S_ .f32 0x00000000#32
  let main_v38 : FVec F S64 .f32 := broadcastInDim S64 ![] bcast_S_S64 main_cst_10
  let main_v39 : IVec S64 1 := cmpf .une main_v37 main_v38
  let main_c_11 : IVec S_ 1 := constantI S_ 1 1#1
  let main_v40 : IVec S_ 1 := (fun x v => Host.reduce IntOp.andi x v reducesTo_S64_S_d0 h_S_) main_v39 main_c_11
  let main_v41 : IVec S_ 1 := andi main_v35 main_v40
  let main_c_12 : IVec S_ 32 := constantI S_ 32 0#32
  let main_v42 : IVec S3x384 32 := broadcastInDim S3x384 ![] bcast_S_S3x384 main_c_12
  let main_v43 : IVec S3x384 1 := cmpi .sge main_arg11 main_v42
  let main_c_13 : IVec S_ 1 := constantI S_ 1 1#1
  let main_v44 : IVec S_ 1 := (fun x v => Host.reduce IntOp.andi x v reducesTo_S3x384_S_d0_1 h_S_) main_v43 main_c_13
  let main_v45 : IVec S_ 1 := andi main_v41 main_v44
  main_v45

def fn_part1 {F : FTy → Type} [FloatOps F] (main_arg0 : FVec F S64x196x384 .f32) (main_arg11 : IVec S3x384 32) (main_v11 : FVec F S64x196x196 .f32) (main_v12 : FVec F S64x196 .f32) (main_v17 : FVec F S64x196x196 .f32) (main_cst_4 : FVec F S_ .f32) : IVec S_ 1 :=
  let main_v18 : FVec F S64 .f32 := (fun x v => Host.reduceAdd x v reducesTo_S64x196x196_S64_d1_2 h_S_) main_v17 main_cst_4
  let main_v19 : FVec F S64x384 .f32 := (fun l r => Host.dotGeneral dot_S64x196x384_S64x196_S64x384_1_1_2_n_0_0 none l r) main_arg0 main_v12
  let main_v20 : FVec F S64x1 .f32 := broadcastInDim S64x1 ![0] bcast_S64_S64x1_0 main_v18
  let main_cst_5 : FVec F S_ .f32 := constant S_ .f32 0x3727C5AC#32
  let main_v21 : FVec F S64x1 .f32 := broadcastInDim S64x1 ![] bcast_S_S64x1 main_cst_5
  let main_v22 : FVec F S64x1 .f32 := addf main_v20 main_v21
  let main_v23 : FVec F S64x384 .f32 := broadcastInDim S64x384 ![0, 1] bcast_S64x1_S64x384_0_1 main_v22
  let main_v24 : FVec F S64x384 .f32 := Host.divf main_v19 main_v23
  let main_v25 : FVec F S64x1x384 .f32 := broadcastInDim S64x1x384 ![0, 2] bcast_S64x384_S64x1x384_0_2 main_v24
  let main_v26 : FVec F S64x196x384 .f32 := broadcastInDim S64x196x384 ![0, 1, 2] bcast_S64x1x384_S64x196x384_0_1_2 main_v25
  let main_v27 : FVec F S64x196x384 .f32 := subf main_arg0 main_v26
  let main_v28 : FVec F S64x196x384 .f32 := (fun l r => Host.dotGeneral dot_S64x196x196_S64x196x384_S64x196x384_2_1_1_2_0_0 none l r) main_v11 main_v27
  let main_v29 : FVec F S64x196x384 .f32 := mulf main_v27 main_v28
  let main_cst_6 : FVec F S_ .f32 := constant S_ .f32 0x00000000#32
  let main_v30 : FVec F S64 .f32 := (fun x v => Host.reduceAdd x v reducesTo_S64x196x384_S64_d1_2 h_S_) main_v29 main_cst_6
  let main_cst_7 : FVec F S_ .f32 := constant S_ .f32 0x3727C5AC#32
  let main_v31 : FVec F S64 .f32 := broadcastInDim S64 ![] bcast_S_S64 main_cst_7
  let main_v32 : FVec F S64 .f32 := addf main_v18 main_v31
  let main_cst_8 : FVec F S_ .f32 := constant S_ .f32 0x00000000#32
  let main_v33 : FVec F S64 .f32 := broadcastInDim S64 ![] bcast_S_S64 main_cst_8
  let main_v34 : IVec S64 1 := cmpf .une main_v32 main_v33
  let main_c : IVec S_ 1 := constantI S_ 1 1#1
  let main_v35 : IVec S_ 1 := (fun x v => Host.reduce IntOp.andi x v reducesTo_S64_S_d0 h_S_) main_v34 main_c
  let main_cst_9 : FVec F S_ .f32 := constant S_ .f32 0x3727C5AC#32
  fn_part2 (F := F) main_arg11 main_v30 main_v35 main_cst_9

def fn {F : FTy → Type} [FloatOps F] (main_arg0 : FVec F S64x196x384 .f32) (main_arg1 : FVec F S64x196x196 .f32) (main_arg2 : FVec F S3x384 .f32) (main_arg3 : FVec F S512x73920 .f32) (main_arg4 : FVec F S512 .f32) (main_arg5 : FVec F S512 .f32) (main_arg6 : FVec F S512 .f32) (main_arg7 : FVec F S512x2048 .f32) (main_arg8 : FVec F S512 .f32) (main_arg9 : FVec F S512 .f32) (main_arg10 : FVec F S512 .f32) (main_arg11 : IVec S3x384 32) : IVec S_ 1 :=
  let main_cst : FVec F S_ .f32 := constant S_ .f32 0x00000000#32
  let main_v0 : FVec F S64x196 .f32 := (fun x v => Host.reduceAdd x v reducesTo_S64x196x196_S64x196_d2 h_S_) main_arg1 main_cst
  let main_cst_0 : FVec F S_ .f32 := constant S_ .f32 0x3727C5AC#32
  let main_v1 : FVec F S64x196 .f32 := broadcastInDim S64x196 ![] bcast_S_S64x196 main_cst_0
  let main_v2 : FVec F S64x196 .f32 := maximumf main_v0 main_v1
  let main_v3 : FVec F S64x196 .f32 := Host.sqrt main_v2
  let main_cst_1 : FVec F S_ .f32 := constant S_ .f32 0x3F800000#32
  let main_v4 : FVec F S64x196 .f32 := broadcastInDim S64x196 ![] bcast_S_S64x196 main_cst_1
  let main_v5 : FVec F S64x196 .f32 := Host.divf main_v4 main_v3
  let main_v6 : FVec F S64x196x1 .f32 := broadcastInDim S64x196x1 ![0, 1] bcast_S64x196_S64x196x1_0_1 main_v5
  let main_v7 : FVec F S64x196x196 .f32 := broadcastInDim S64x196x196 ![0, 1, 2] bcast_S64x196x1_S64x196x196_0_1_2 main_v6
  let main_v8 : FVec F S64x196x196 .f32 := mulf main_arg1 main_v7
  let main_v9 : FVec F S64x1x196 .f32 := broadcastInDim S64x1x196 ![0, 2] bcast_S64x196_S64x1x196_0_2 main_v5
  let main_v10 : FVec F S64x196x196 .f32 := broadcastInDim S64x196x196 ![0, 1, 2] bcast_S64x1x196_S64x196x196_0_1_2 main_v9
  let main_v11 : FVec F S64x196x196 .f32 := mulf main_v8 main_v10
  let main_cst_2 : FVec F S_ .f32 := constant S_ .f32 0x00000000#32
  let main_v12 : FVec F S64x196 .f32 := (fun x v => Host.reduceAdd x v reducesTo_S64x196x196_S64x196_d2 h_S_) main_v11 main_cst_2
  let main_v13 : IVec S64x196x196 32 := iotaInDim S64x196x196 32 1
  let main_v14 : IVec S64x196x196 32 := iotaInDim S64x196x196 32 2
  let main_v15 : IVec S64x196x196 1 := cmpi .eq main_v13 main_v14
  let main_cst_3 : FVec F S_ .f32 := constant S_ .f32 0x00000000#32
  let main_v16 : FVec F S64x196x196 .f32 := broadcastInDim S64x196x196 ![] bcast_S_S64x196x196 main_cst_3
  let main_v17 : FVec F S64x196x196 .f32 := select main_v15 main_v11 main_v16
  let main_cst_4 : FVec F S_ .f32 := constant S_ .f32 0x00000000#32
  fn_part1 (F := F) main_arg0 main_arg11 main_v11 main_v12 main_v17 main_cst_4
-- ==== Kernel.lean ====
abbrev S64x196x384 : Shape := ⟨3, ![64, 196, 384]⟩
abbrev S64x196x196 : Shape := ⟨3, ![64, 196, 196]⟩
abbrev S3x384 : Shape := ⟨2, ![3, 384]⟩
abbrev S512x73920 : Shape := ⟨2, ![512, 73920]⟩
abbrev S512 : Shape := ⟨1, ![512]⟩
abbrev S512x2048 : Shape := ⟨2, ![512, 2048]⟩
abbrev S196x64x384 : Shape := ⟨3, ![196, 64, 384]⟩
abbrev S196x64x196 : Shape := ⟨3, ![196, 64, 196]⟩
abbrev S8x8x74304 : Shape := ⟨3, ![8, 8, 74304]⟩
abbrev S8x8x384 : Shape := ⟨3, ![8, 8, 384]⟩
abbrev S196x8x384 : Shape := ⟨3, ![196, 8, 384]⟩
abbrev S196x8x196 : Shape := ⟨3, ![196, 8, 196]⟩
abbrev S1x8x74304 : Shape := ⟨3, ![1, 8, 74304]⟩
abbrev S1x8x384 : Shape := ⟨3, ![1, 8, 384]⟩
abbrev S8x384x384 : Shape := ⟨3, ![8, 384, 384]⟩
abbrev S196x196 : Shape := ⟨2, ![196, 196]⟩
abbrev S384x384 : Shape := ⟨2, ![384, 384]⟩
abbrev S196x1x196 : Shape := ⟨3, ![196, 1, 196]⟩
abbrev S196x1x384 : Shape := ⟨3, ![196, 1, 384]⟩
abbrev S196x384 : Shape := ⟨2, ![196, 384]⟩
abbrev S196 : Shape := ⟨1, ![196]⟩
abbrev S196x1 : Shape := ⟨2, ![196, 1]⟩
abbrev S1x196x1 : Shape := ⟨3, ![1, 196, 1]⟩
abbrev S1 : Shape := ⟨1, ![1]⟩
abbrev S1x1x1 : Shape := ⟨3, ![1, 1, 1]⟩
abbrev S1x1 : Shape := ⟨2, ![1, 1]⟩
abbrev S1x384 : Shape := ⟨2, ![1, 384]⟩
abbrev S1x1x384 : Shape := ⟨3, ![1, 1, 384]⟩
abbrev S1x196x384 : Shape := ⟨3, ![1, 196, 384]⟩
abbrev S1x384x384 : Shape := ⟨3, ![1, 384, 384]⟩
abbrev S8x1x384 : Shape := ⟨3, ![8, 1, 384]⟩
abbrev S8x384 : Shape := ⟨2, ![8, 384]⟩
abbrev S8x1x383 : Shape := ⟨3, ![8, 1, 383]⟩
abbrev S8x383 : Shape := ⟨2, ![8, 383]⟩
abbrev S1x8x383 : Shape := ⟨3, ![1, 8, 383]⟩
abbrev S8x1x382 : Shape := ⟨3, ![8, 1, 382]⟩
abbrev S8x382 : Shape := ⟨2, ![8, 382]⟩
abbrev S1x8x382 : Shape := ⟨3, ![1, 8, 382]⟩
abbrev S8x1x381 : Shape := ⟨3, ![8, 1, 381]⟩
abbrev S8x381 : Shape := ⟨2, ![8, 381]⟩
abbrev S1x8x381 : Shape := ⟨3, ![1, 8, 381]⟩
abbrev S8x1x380 : Shape := ⟨3, ![8, 1, 380]⟩
abbrev S8x380 : Shape := ⟨2, ![8, 380]⟩
abbrev S1x8x380 : Shape := ⟨3, ![1, 8, 380]⟩
abbrev S8x1x379 : Shape := ⟨3, ![8, 1, 379]⟩
abbrev S8x379 : Shape := ⟨2, ![8, 379]⟩
abbrev S1x8x379 : Shape := ⟨3, ![1, 8, 379]⟩
abbrev S8x1x378 : Shape := ⟨3, ![8, 1, 378]⟩
abbrev S8x378 : Shape := ⟨2, ![8, 378]⟩
abbrev S1x8x378 : Shape := ⟨3, ![1, 8, 378]⟩
abbrev S8x1x377 : Shape := ⟨3, ![8, 1, 377]⟩
abbrev S8x377 : Shape := ⟨2, ![8, 377]⟩
abbrev S1x8x377 : Shape := ⟨3, ![1, 8, 377]⟩
abbrev S8x1x376 : Shape := ⟨3, ![8, 1, 376]⟩
abbrev S8x376 : Shape := ⟨2, ![8, 376]⟩
abbrev S1x8x376 : Shape := ⟨3, ![1, 8, 376]⟩
abbrev S8x1x375 : Shape := ⟨3, ![8, 1, 375]⟩
abbrev S8x375 : Shape := ⟨2, ![8, 375]⟩
abbrev S1x8x375 : Shape := ⟨3, ![1, 8, 375]⟩
abbrev S8x1x374 : Shape := ⟨3, ![8, 1, 374]⟩
abbrev S8x374 : Shape := ⟨2, ![8, 374]⟩
abbrev S1x8x374 : Shape := ⟨3, ![1, 8, 374]⟩
abbrev S8x1x373 : Shape := ⟨3, ![8, 1, 373]⟩
abbrev S8x373 : Shape := ⟨2, ![8, 373]⟩
abbrev S1x8x373 : Shape := ⟨3, ![1, 8, 373]⟩
abbrev S8x1x372 : Shape := ⟨3, ![8, 1, 372]⟩
abbrev S8x372 : Shape := ⟨2, ![8, 372]⟩
abbrev S1x8x372 : Shape := ⟨3, ![1, 8, 372]⟩
abbrev S8x1x371 : Shape := ⟨3, ![8, 1, 371]⟩
abbrev S8x371 : Shape := ⟨2, ![8, 371]⟩
abbrev S1x8x371 : Shape := ⟨3, ![1, 8, 371]⟩
abbrev S8x1x370 : Shape := ⟨3, ![8, 1, 370]⟩
abbrev S8x370 : Shape := ⟨2, ![8, 370]⟩
abbrev S1x8x370 : Shape := ⟨3, ![1, 8, 370]⟩
abbrev S8x1x369 : Shape := ⟨3, ![8, 1, 369]⟩
abbrev S8x369 : Shape := ⟨2, ![8, 369]⟩
abbrev S1x8x369 : Shape := ⟨3, ![1, 8, 369]⟩
abbrev S8x1x368 : Shape := ⟨3, ![8, 1, 368]⟩
abbrev S8x368 : Shape := ⟨2, ![8, 368]⟩
abbrev S1x8x368 : Shape := ⟨3, ![1, 8, 368]⟩
abbrev S8x1x367 : Shape := ⟨3, ![8, 1, 367]⟩
abbrev S8x367 : Shape := ⟨2, ![8, 367]⟩
abbrev S1x8x367 : Shape := ⟨3, ![1, 8, 367]⟩
abbrev S8x1x366 : Shape := ⟨3, ![8, 1, 366]⟩
abbrev S8x366 : Shape := ⟨2, ![8, 366]⟩
abbrev S1x8x366 : Shape := ⟨3, ![1, 8, 366]⟩
abbrev S8x1x365 : Shape := ⟨3, ![8, 1, 365]⟩
abbrev S8x365 : Shape := ⟨2, ![8, 365]⟩
abbrev S1x8x365 : Shape := ⟨3, ![1, 8, 365]⟩
abbrev S8x1x364 : Shape := ⟨3, ![8, 1, 364]⟩
abbrev S8x364 : Shape := ⟨2, ![8, 364]⟩
abbrev S1x8x364 : Shape := ⟨3, ![1, 8, 364]⟩
abbrev S8x1x363 : Shape := ⟨3, ![8, 1, 363]⟩
abbrev S8x363 : Shape := ⟨2, ![8, 363]⟩
abbrev S1x8x363 : Shape := ⟨3, ![1, 8, 363]⟩
abbrev S8x1x362 : Shape := ⟨3, ![8, 1, 362]⟩
abbrev S8x362 : Shape := ⟨2, ![8, 362]⟩
abbrev S1x8x362 : Shape := ⟨3, ![1, 8, 362]⟩
abbrev S8x1x361 : Shape := ⟨3, ![8, 1, 361]⟩
abbrev S8x361 : Shape := ⟨2, ![8, 361]⟩
abbrev S1x8x361 : Shape := ⟨3, ![1, 8, 361]⟩
abbrev S8x1x360 : Shape := ⟨3, ![8, 1, 360]⟩
abbrev S8x360 : Shape := ⟨2, ![8, 360]⟩
abbrev S1x8x360 : Shape := ⟨3, ![1, 8, 360]⟩
abbrev S8x1x359 : Shape := ⟨3, ![8, 1, 359]⟩
abbrev S8x359 : Shape := ⟨2, ![8, 359]⟩
abbrev S1x8x359 : Shape := ⟨3, ![1, 8, 359]⟩
abbrev S8x1x358 : Shape := ⟨3, ![8, 1, 358]⟩
abbrev S8x358 : Shape := ⟨2, ![8, 358]⟩
abbrev S1x8x358 : Shape := ⟨3, ![1, 8, 358]⟩
abbrev S8x1x357 : Shape := ⟨3, ![8, 1, 357]⟩
abbrev S8x357 : Shape := ⟨2, ![8, 357]⟩
abbrev S1x8x357 : Shape := ⟨3, ![1, 8, 357]⟩
abbrev S8x1x356 : Shape := ⟨3, ![8, 1, 356]⟩
abbrev S8x356 : Shape := ⟨2, ![8, 356]⟩
abbrev S1x8x356 : Shape := ⟨3, ![1, 8, 356]⟩
abbrev S8x1x355 : Shape := ⟨3, ![8, 1, 355]⟩
abbrev S8x355 : Shape := ⟨2, ![8, 355]⟩
abbrev S1x8x355 : Shape := ⟨3, ![1, 8, 355]⟩
abbrev S8x1x354 : Shape := ⟨3, ![8, 1, 354]⟩
abbrev S8x354 : Shape := ⟨2, ![8, 354]⟩
abbrev S1x8x354 : Shape := ⟨3, ![1, 8, 354]⟩
abbrev S8x1x353 : Shape := ⟨3, ![8, 1, 353]⟩
abbrev S8x353 : Shape := ⟨2, ![8, 353]⟩
abbrev S1x8x353 : Shape := ⟨3, ![1, 8, 353]⟩
abbrev S8x1x352 : Shape := ⟨3, ![8, 1, 352]⟩
abbrev S8x352 : Shape := ⟨2, ![8, 352]⟩
abbrev S1x8x352 : Shape := ⟨3, ![1, 8, 352]⟩
abbrev S8x1x351 : Shape := ⟨3, ![8, 1, 351]⟩
abbrev S8x351 : Shape := ⟨2, ![8, 351]⟩
abbrev S1x8x351 : Shape := ⟨3, ![1, 8, 351]⟩
abbrev S8x1x350 : Shape := ⟨3, ![8, 1, 350]⟩
abbrev S8x350 : Shape := ⟨2, ![8, 350]⟩
abbrev S1x8x350 : Shape := ⟨3, ![1, 8, 350]⟩
abbrev S8x1x349 : Shape := ⟨3, ![8, 1, 349]⟩
abbrev S8x349 : Shape := ⟨2, ![8, 349]⟩
abbrev S1x8x349 : Shape := ⟨3, ![1, 8, 349]⟩
abbrev S8x1x348 : Shape := ⟨3, ![8, 1, 348]⟩
abbrev S8x348 : Shape := ⟨2, ![8, 348]⟩
abbrev S1x8x348 : Shape := ⟨3, ![1, 8, 348]⟩
abbrev S8x1x347 : Shape := ⟨3, ![8, 1, 347]⟩
abbrev S8x347 : Shape := ⟨2, ![8, 347]⟩
abbrev S1x8x347 : Shape := ⟨3, ![1, 8, 347]⟩
abbrev S8x1x346 : Shape := ⟨3, ![8, 1, 346]⟩
abbrev S8x346 : Shape := ⟨2, ![8, 346]⟩
abbrev S1x8x346 : Shape := ⟨3, ![1, 8, 346]⟩
abbrev S8x1x345 : Shape := ⟨3, ![8, 1, 345]⟩
abbrev S8x345 : Shape := ⟨2, ![8, 345]⟩
abbrev S1x8x345 : Shape := ⟨3, ![1, 8, 345]⟩
abbrev S8x1x344 : Shape := ⟨3, ![8, 1, 344]⟩
abbrev S8x344 : Shape := ⟨2, ![8, 344]⟩
abbrev S1x8x344 : Shape := ⟨3, ![1, 8, 344]⟩
abbrev S8x1x343 : Shape := ⟨3, ![8, 1, 343]⟩
abbrev S8x343 : Shape := ⟨2, ![8, 343]⟩
abbrev S1x8x343 : Shape := ⟨3, ![1, 8, 343]⟩
abbrev S8x1x342 : Shape := ⟨3, ![8, 1, 342]⟩
abbrev S8x342 : Shape := ⟨2, ![8, 342]⟩
abbrev S1x8x342 : Shape := ⟨3, ![1, 8, 342]⟩
abbrev S8x1x341 : Shape := ⟨3, ![8, 1, 341]⟩
abbrev S8x341 : Shape := ⟨2, ![8, 341]⟩
abbrev S1x8x341 : Shape := ⟨3, ![1, 8, 341]⟩
abbrev S8x1x340 : Shape := ⟨3, ![8, 1, 340]⟩
abbrev S8x340 : Shape := ⟨2, ![8, 340]⟩
abbrev S1x8x340 : Shape := ⟨3, ![1, 8, 340]⟩
abbrev S8x1x339 : Shape := ⟨3, ![8, 1, 339]⟩
abbrev S8x339 : Shape := ⟨2, ![8, 339]⟩
abbrev S1x8x339 : Shape := ⟨3, ![1, 8, 339]⟩
abbrev S8x1x338 : Shape := ⟨3, ![8, 1, 338]⟩
abbrev S8x338 : Shape := ⟨2, ![8, 338]⟩
abbrev S1x8x338 : Shape := ⟨3, ![1, 8, 338]⟩
abbrev S8x1x337 : Shape := ⟨3, ![8, 1, 337]⟩
abbrev S8x337 : Shape := ⟨2, ![8, 337]⟩
abbrev S1x8x337 : Shape := ⟨3, ![1, 8, 337]⟩
abbrev S8x1x336 : Shape := ⟨3, ![8, 1, 336]⟩
abbrev S8x336 : Shape := ⟨2, ![8, 336]⟩
abbrev S1x8x336 : Shape := ⟨3, ![1, 8, 336]⟩
abbrev S8x1x335 : Shape := ⟨3, ![8, 1, 335]⟩
abbrev S8x335 : Shape := ⟨2, ![8, 335]⟩
abbrev S1x8x335 : Shape := ⟨3, ![1, 8, 335]⟩
abbrev S8x1x334 : Shape := ⟨3, ![8, 1, 334]⟩
abbrev S8x334 : Shape := ⟨2, ![8, 334]⟩
abbrev S1x8x334 : Shape := ⟨3, ![1, 8, 334]⟩
abbrev S8x1x333 : Shape := ⟨3, ![8, 1, 333]⟩
abbrev S8x333 : Shape := ⟨2, ![8, 333]⟩
abbrev S1x8x333 : Shape := ⟨3, ![1, 8, 333]⟩
abbrev S8x1x332 : Shape := ⟨3, ![8, 1, 332]⟩
abbrev S8x332 : Shape := ⟨2, ![8, 332]⟩
abbrev S1x8x332 : Shape := ⟨3, ![1, 8, 332]⟩
abbrev S8x1x331 : Shape := ⟨3, ![8, 1, 331]⟩
abbrev S8x331 : Shape := ⟨2, ![8, 331]⟩
abbrev S1x8x331 : Shape := ⟨3, ![1, 8, 331]⟩
abbrev S8x1x330 : Shape := ⟨3, ![8, 1, 330]⟩
abbrev S8x330 : Shape := ⟨2, ![8, 330]⟩
abbrev S1x8x330 : Shape := ⟨3, ![1, 8, 330]⟩
abbrev S8x1x329 : Shape := ⟨3, ![8, 1, 329]⟩
abbrev S8x329 : Shape := ⟨2, ![8, 329]⟩
abbrev S1x8x329 : Shape := ⟨3, ![1, 8, 329]⟩
abbrev S8x1x328 : Shape := ⟨3, ![8, 1, 328]⟩
abbrev S8x328 : Shape := ⟨2, ![8, 328]⟩
abbrev S1x8x328 : Shape := ⟨3, ![1, 8, 328]⟩
abbrev S8x1x327 : Shape := ⟨3, ![8, 1, 327]⟩
abbrev S8x327 : Shape := ⟨2, ![8, 327]⟩
abbrev S1x8x327 : Shape := ⟨3, ![1, 8, 327]⟩
abbrev S8x1x326 : Shape := ⟨3, ![8, 1, 326]⟩
abbrev S8x326 : Shape := ⟨2, ![8, 326]⟩
abbrev S1x8x326 : Shape := ⟨3, ![1, 8, 326]⟩
abbrev S8x1x325 : Shape := ⟨3, ![8, 1, 325]⟩
abbrev S8x325 : Shape := ⟨2, ![8, 325]⟩
abbrev S1x8x325 : Shape := ⟨3, ![1, 8, 325]⟩
abbrev S8x1x324 : Shape := ⟨3, ![8, 1, 324]⟩
abbrev S8x324 : Shape := ⟨2, ![8, 324]⟩
abbrev S1x8x324 : Shape := ⟨3, ![1, 8, 324]⟩
abbrev S8x1x323 : Shape := ⟨3, ![8, 1, 323]⟩
abbrev S8x323 : Shape := ⟨2, ![8, 323]⟩
abbrev S1x8x323 : Shape := ⟨3, ![1, 8, 323]⟩
abbrev S8x1x322 : Shape := ⟨3, ![8, 1, 322]⟩
abbrev S8x322 : Shape := ⟨2, ![8, 322]⟩
abbrev S1x8x322 : Shape := ⟨3, ![1, 8, 322]⟩
abbrev S8x1x321 : Shape := ⟨3, ![8, 1, 321]⟩
abbrev S8x321 : Shape := ⟨2, ![8, 321]⟩
abbrev S1x8x321 : Shape := ⟨3, ![1, 8, 321]⟩
abbrev S8x1x320 : Shape := ⟨3, ![8, 1, 320]⟩
abbrev S8x320 : Shape := ⟨2, ![8, 320]⟩
abbrev S1x8x320 : Shape := ⟨3, ![1, 8, 320]⟩
abbrev S8x1x319 : Shape := ⟨3, ![8, 1, 319]⟩
abbrev S8x319 : Shape := ⟨2, ![8, 319]⟩
abbrev S1x8x319 : Shape := ⟨3, ![1, 8, 319]⟩
abbrev S8x1x318 : Shape := ⟨3, ![8, 1, 318]⟩
abbrev S8x318 : Shape := ⟨2, ![8, 318]⟩
abbrev S1x8x318 : Shape := ⟨3, ![1, 8, 318]⟩
abbrev S8x1x317 : Shape := ⟨3, ![8, 1, 317]⟩
abbrev S8x317 : Shape := ⟨2, ![8, 317]⟩
abbrev S1x8x317 : Shape := ⟨3, ![1, 8, 317]⟩
abbrev S8x1x316 : Shape := ⟨3, ![8, 1, 316]⟩
abbrev S8x316 : Shape := ⟨2, ![8, 316]⟩
abbrev S1x8x316 : Shape := ⟨3, ![1, 8, 316]⟩
abbrev S8x1x315 : Shape := ⟨3, ![8, 1, 315]⟩
abbrev S8x315 : Shape := ⟨2, ![8, 315]⟩
abbrev S1x8x315 : Shape := ⟨3, ![1, 8, 315]⟩
abbrev S8x1x314 : Shape := ⟨3, ![8, 1, 314]⟩
abbrev S8x314 : Shape := ⟨2, ![8, 314]⟩
abbrev S1x8x314 : Shape := ⟨3, ![1, 8, 314]⟩
abbrev S8x1x313 : Shape := ⟨3, ![8, 1, 313]⟩
abbrev S8x313 : Shape := ⟨2, ![8, 313]⟩
abbrev S1x8x313 : Shape := ⟨3, ![1, 8, 313]⟩
abbrev S8x1x312 : Shape := ⟨3, ![8, 1, 312]⟩
abbrev S8x312 : Shape := ⟨2, ![8, 312]⟩
abbrev S1x8x312 : Shape := ⟨3, ![1, 8, 312]⟩
abbrev S8x1x311 : Shape := ⟨3, ![8, 1, 311]⟩
abbrev S8x311 : Shape := ⟨2, ![8, 311]⟩
abbrev S1x8x311 : Shape := ⟨3, ![1, 8, 311]⟩
abbrev S8x1x310 : Shape := ⟨3, ![8, 1, 310]⟩
abbrev S8x310 : Shape := ⟨2, ![8, 310]⟩
abbrev S1x8x310 : Shape := ⟨3, ![1, 8, 310]⟩
abbrev S8x1x309 : Shape := ⟨3, ![8, 1, 309]⟩
abbrev S8x309 : Shape := ⟨2, ![8, 309]⟩
abbrev S1x8x309 : Shape := ⟨3, ![1, 8, 309]⟩
abbrev S8x1x308 : Shape := ⟨3, ![8, 1, 308]⟩
abbrev S8x308 : Shape := ⟨2, ![8, 308]⟩
abbrev S1x8x308 : Shape := ⟨3, ![1, 8, 308]⟩
abbrev S8x1x307 : Shape := ⟨3, ![8, 1, 307]⟩
abbrev S8x307 : Shape := ⟨2, ![8, 307]⟩
abbrev S1x8x307 : Shape := ⟨3, ![1, 8, 307]⟩
abbrev S8x1x306 : Shape := ⟨3, ![8, 1, 306]⟩
abbrev S8x306 : Shape := ⟨2, ![8, 306]⟩
abbrev S1x8x306 : Shape := ⟨3, ![1, 8, 306]⟩
abbrev S8x1x305 : Shape := ⟨3, ![8, 1, 305]⟩
abbrev S8x305 : Shape := ⟨2, ![8, 305]⟩
abbrev S1x8x305 : Shape := ⟨3, ![1, 8, 305]⟩
abbrev S8x1x304 : Shape := ⟨3, ![8, 1, 304]⟩
abbrev S8x304 : Shape := ⟨2, ![8, 304]⟩
abbrev S1x8x304 : Shape := ⟨3, ![1, 8, 304]⟩
abbrev S8x1x303 : Shape := ⟨3, ![8, 1, 303]⟩
abbrev S8x303 : Shape := ⟨2, ![8, 303]⟩
abbrev S1x8x303 : Shape := ⟨3, ![1, 8, 303]⟩
abbrev S8x1x302 : Shape := ⟨3, ![8, 1, 302]⟩
abbrev S8x302 : Shape := ⟨2, ![8, 302]⟩
abbrev S1x8x302 : Shape := ⟨3, ![1, 8, 302]⟩
abbrev S8x1x301 : Shape := ⟨3, ![8, 1, 301]⟩
abbrev S8x301 : Shape := ⟨2, ![8, 301]⟩
abbrev S1x8x301 : Shape := ⟨3, ![1, 8, 301]⟩
abbrev S8x1x300 : Shape := ⟨3, ![8, 1, 300]⟩
abbrev S8x300 : Shape := ⟨2, ![8, 300]⟩
abbrev S1x8x300 : Shape := ⟨3, ![1, 8, 300]⟩
abbrev S8x1x299 : Shape := ⟨3, ![8, 1, 299]⟩
abbrev S8x299 : Shape := ⟨2, ![8, 299]⟩
abbrev S1x8x299 : Shape := ⟨3, ![1, 8, 299]⟩
abbrev S8x1x298 : Shape := ⟨3, ![8, 1, 298]⟩
abbrev S8x298 : Shape := ⟨2, ![8, 298]⟩
abbrev S1x8x298 : Shape := ⟨3, ![1, 8, 298]⟩
abbrev S8x1x297 : Shape := ⟨3, ![8, 1, 297]⟩
abbrev S8x297 : Shape := ⟨2, ![8, 297]⟩
abbrev S1x8x297 : Shape := ⟨3, ![1, 8, 297]⟩
abbrev S8x1x296 : Shape := ⟨3, ![8, 1, 296]⟩
abbrev S8x296 : Shape := ⟨2, ![8, 296]⟩
abbrev S1x8x296 : Shape := ⟨3, ![1, 8, 296]⟩
abbrev S8x1x295 : Shape := ⟨3, ![8, 1, 295]⟩
abbrev S8x295 : Shape := ⟨2, ![8, 295]⟩
abbrev S1x8x295 : Shape := ⟨3, ![1, 8, 295]⟩
abbrev S8x1x294 : Shape := ⟨3, ![8, 1, 294]⟩
abbrev S8x294 : Shape := ⟨2, ![8, 294]⟩
abbrev S1x8x294 : Shape := ⟨3, ![1, 8, 294]⟩
abbrev S8x1x293 : Shape := ⟨3, ![8, 1, 293]⟩
abbrev S8x293 : Shape := ⟨2, ![8, 293]⟩
abbrev S1x8x293 : Shape := ⟨3, ![1, 8, 293]⟩
abbrev S8x1x292 : Shape := ⟨3, ![8, 1, 292]⟩
abbrev S8x292 : Shape := ⟨2, ![8, 292]⟩
abbrev S1x8x292 : Shape := ⟨3, ![1, 8, 292]⟩
abbrev S8x1x291 : Shape := ⟨3, ![8, 1, 291]⟩
abbrev S8x291 : Shape := ⟨2, ![8, 291]⟩
abbrev S1x8x291 : Shape := ⟨3, ![1, 8, 291]⟩
abbrev S8x1x290 : Shape := ⟨3, ![8, 1, 290]⟩
abbrev S8x290 : Shape := ⟨2, ![8, 290]⟩
abbrev S1x8x290 : Shape := ⟨3, ![1, 8, 290]⟩
abbrev S8x1x289 : Shape := ⟨3, ![8, 1, 289]⟩
abbrev S8x289 : Shape := ⟨2, ![8, 289]⟩
abbrev S1x8x289 : Shape := ⟨3, ![1, 8, 289]⟩
abbrev S8x1x288 : Shape := ⟨3, ![8, 1, 288]⟩
abbrev S8x288 : Shape := ⟨2, ![8, 288]⟩
abbrev S1x8x288 : Shape := ⟨3, ![1, 8, 288]⟩
abbrev S8x1x287 : Shape := ⟨3, ![8, 1, 287]⟩
abbrev S8x287 : Shape := ⟨2, ![8, 287]⟩
abbrev S1x8x287 : Shape := ⟨3, ![1, 8, 287]⟩
abbrev S8x1x286 : Shape := ⟨3, ![8, 1, 286]⟩
abbrev S8x286 : Shape := ⟨2, ![8, 286]⟩
abbrev S1x8x286 : Shape := ⟨3, ![1, 8, 286]⟩
abbrev S8x1x285 : Shape := ⟨3, ![8, 1, 285]⟩
abbrev S8x285 : Shape := ⟨2, ![8, 285]⟩
abbrev S1x8x285 : Shape := ⟨3, ![1, 8, 285]⟩
abbrev S8x1x284 : Shape := ⟨3, ![8, 1, 284]⟩
abbrev S8x284 : Shape := ⟨2, ![8, 284]⟩
abbrev S1x8x284 : Shape := ⟨3, ![1, 8, 284]⟩
abbrev S8x1x283 : Shape := ⟨3, ![8, 1, 283]⟩
abbrev S8x283 : Shape := ⟨2, ![8, 283]⟩
abbrev S1x8x283 : Shape := ⟨3, ![1, 8, 283]⟩
abbrev S8x1x282 : Shape := ⟨3, ![8, 1, 282]⟩
abbrev S8x282 : Shape := ⟨2, ![8, 282]⟩
abbrev S1x8x282 : Shape := ⟨3, ![1, 8, 282]⟩
abbrev S8x1x281 : Shape := ⟨3, ![8, 1, 281]⟩
abbrev S8x281 : Shape := ⟨2, ![8, 281]⟩
abbrev S1x8x281 : Shape := ⟨3, ![1, 8, 281]⟩
abbrev S8x1x280 : Shape := ⟨3, ![8, 1, 280]⟩
abbrev S8x280 : Shape := ⟨2, ![8, 280]⟩
abbrev S1x8x280 : Shape := ⟨3, ![1, 8, 280]⟩
abbrev S8x1x279 : Shape := ⟨3, ![8, 1, 279]⟩
abbrev S8x279 : Shape := ⟨2, ![8, 279]⟩
abbrev S1x8x279 : Shape := ⟨3, ![1, 8, 279]⟩
abbrev S8x1x278 : Shape := ⟨3, ![8, 1, 278]⟩
abbrev S8x278 : Shape := ⟨2, ![8, 278]⟩
abbrev S1x8x278 : Shape := ⟨3, ![1, 8, 278]⟩
abbrev S8x1x277 : Shape := ⟨3, ![8, 1, 277]⟩
abbrev S8x277 : Shape := ⟨2, ![8, 277]⟩
abbrev S1x8x277 : Shape := ⟨3, ![1, 8, 277]⟩
abbrev S8x1x276 : Shape := ⟨3, ![8, 1, 276]⟩
abbrev S8x276 : Shape := ⟨2, ![8, 276]⟩
abbrev S1x8x276 : Shape := ⟨3, ![1, 8, 276]⟩
abbrev S8x1x275 : Shape := ⟨3, ![8, 1, 275]⟩
abbrev S8x275 : Shape := ⟨2, ![8, 275]⟩
abbrev S1x8x275 : Shape := ⟨3, ![1, 8, 275]⟩
abbrev S8x1x274 : Shape := ⟨3, ![8, 1, 274]⟩
abbrev S8x274 : Shape := ⟨2, ![8, 274]⟩
abbrev S1x8x274 : Shape := ⟨3, ![1, 8, 274]⟩
abbrev S8x1x273 : Shape := ⟨3, ![8, 1, 273]⟩
abbrev S8x273 : Shape := ⟨2, ![8, 273]⟩
abbrev S1x8x273 : Shape := ⟨3, ![1, 8, 273]⟩
abbrev S8x1x272 : Shape := ⟨3, ![8, 1, 272]⟩
abbrev S8x272 : Shape := ⟨2, ![8, 272]⟩
abbrev S1x8x272 : Shape := ⟨3, ![1, 8, 272]⟩
abbrev S8x1x271 : Shape := ⟨3, ![8, 1, 271]⟩
abbrev S8x271 : Shape := ⟨2, ![8, 271]⟩
abbrev S1x8x271 : Shape := ⟨3, ![1, 8, 271]⟩
abbrev S8x1x270 : Shape := ⟨3, ![8, 1, 270]⟩
abbrev S8x270 : Shape := ⟨2, ![8, 270]⟩
abbrev S1x8x270 : Shape := ⟨3, ![1, 8, 270]⟩
abbrev S8x1x269 : Shape := ⟨3, ![8, 1, 269]⟩
abbrev S8x269 : Shape := ⟨2, ![8, 269]⟩
abbrev S1x8x269 : Shape := ⟨3, ![1, 8, 269]⟩
abbrev S8x1x268 : Shape := ⟨3, ![8, 1, 268]⟩
abbrev S8x268 : Shape := ⟨2, ![8, 268]⟩
abbrev S1x8x268 : Shape := ⟨3, ![1, 8, 268]⟩
abbrev S8x1x267 : Shape := ⟨3, ![8, 1, 267]⟩
abbrev S8x267 : Shape := ⟨2, ![8, 267]⟩
abbrev S1x8x267 : Shape := ⟨3, ![1, 8, 267]⟩
abbrev S8x1x266 : Shape := ⟨3, ![8, 1, 266]⟩
abbrev S8x266 : Shape := ⟨2, ![8, 266]⟩
abbrev S1x8x266 : Shape := ⟨3, ![1, 8, 266]⟩
abbrev S8x1x265 : Shape := ⟨3, ![8, 1, 265]⟩
abbrev S8x265 : Shape := ⟨2, ![8, 265]⟩
abbrev S1x8x265 : Shape := ⟨3, ![1, 8, 265]⟩
abbrev S8x1x264 : Shape := ⟨3, ![8, 1, 264]⟩
abbrev S8x264 : Shape := ⟨2, ![8, 264]⟩
abbrev S1x8x264 : Shape := ⟨3, ![1, 8, 264]⟩
abbrev S8x1x263 : Shape := ⟨3, ![8, 1, 263]⟩
abbrev S8x263 : Shape := ⟨2, ![8, 263]⟩
abbrev S1x8x263 : Shape := ⟨3, ![1, 8, 263]⟩
abbrev S8x1x262 : Shape := ⟨3, ![8, 1, 262]⟩
abbrev S8x262 : Shape := ⟨2, ![8, 262]⟩
abbrev S1x8x262 : Shape := ⟨3, ![1, 8, 262]⟩
abbrev S8x1x261 : Shape := ⟨3, ![8, 1, 261]⟩
abbrev S8x261 : Shape := ⟨2, ![8, 261]⟩
abbrev S1x8x261 : Shape := ⟨3, ![1, 8, 261]⟩
abbrev S8x1x260 : Shape := ⟨3, ![8, 1, 260]⟩
abbrev S8x260 : Shape := ⟨2, ![8, 260]⟩
abbrev S1x8x260 : Shape := ⟨3, ![1, 8, 260]⟩
abbrev S8x1x259 : Shape := ⟨3, ![8, 1, 259]⟩
abbrev S8x259 : Shape := ⟨2, ![8, 259]⟩
abbrev S1x8x259 : Shape := ⟨3, ![1, 8, 259]⟩
abbrev S8x1x258 : Shape := ⟨3, ![8, 1, 258]⟩
abbrev S8x258 : Shape := ⟨2, ![8, 258]⟩
abbrev S1x8x258 : Shape := ⟨3, ![1, 8, 258]⟩
abbrev S8x1x257 : Shape := ⟨3, ![8, 1, 257]⟩
abbrev S8x257 : Shape := ⟨2, ![8, 257]⟩
abbrev S1x8x257 : Shape := ⟨3, ![1, 8, 257]⟩
abbrev S8x1x256 : Shape := ⟨3, ![8, 1, 256]⟩
abbrev S8x256 : Shape := ⟨2, ![8, 256]⟩
abbrev S1x8x256 : Shape := ⟨3, ![1, 8, 256]⟩
abbrev S8x1x255 : Shape := ⟨3, ![8, 1, 255]⟩
abbrev S8x255 : Shape := ⟨2, ![8, 255]⟩
abbrev S1x8x255 : Shape := ⟨3, ![1, 8, 255]⟩
abbrev S8x1x254 : Shape := ⟨3, ![8, 1, 254]⟩
abbrev S8x254 : Shape := ⟨2, ![8, 254]⟩
abbrev S1x8x254 : Shape := ⟨3, ![1, 8, 254]⟩
abbrev S8x1x253 : Shape := ⟨3, ![8, 1, 253]⟩
abbrev S8x253 : Shape := ⟨2, ![8, 253]⟩
abbrev S1x8x253 : Shape := ⟨3, ![1, 8, 253]⟩
abbrev S8x1x252 : Shape := ⟨3, ![8, 1, 252]⟩
abbrev S8x252 : Shape := ⟨2, ![8, 252]⟩
abbrev S1x8x252 : Shape := ⟨3, ![1, 8, 252]⟩
abbrev S8x1x251 : Shape := ⟨3, ![8, 1, 251]⟩
abbrev S8x251 : Shape := ⟨2, ![8, 251]⟩
abbrev S1x8x251 : Shape := ⟨3, ![1, 8, 251]⟩
abbrev S8x1x250 : Shape := ⟨3, ![8, 1, 250]⟩
abbrev S8x250 : Shape := ⟨2, ![8, 250]⟩
abbrev S1x8x250 : Shape := ⟨3, ![1, 8, 250]⟩
abbrev S8x1x249 : Shape := ⟨3, ![8, 1, 249]⟩
abbrev S8x249 : Shape := ⟨2, ![8, 249]⟩
abbrev S1x8x249 : Shape := ⟨3, ![1, 8, 249]⟩
abbrev S8x1x248 : Shape := ⟨3, ![8, 1, 248]⟩
abbrev S8x248 : Shape := ⟨2, ![8, 248]⟩
abbrev S1x8x248 : Shape := ⟨3, ![1, 8, 248]⟩
abbrev S8x1x247 : Shape := ⟨3, ![8, 1, 247]⟩
abbrev S8x247 : Shape := ⟨2, ![8, 247]⟩
abbrev S1x8x247 : Shape := ⟨3, ![1, 8, 247]⟩
abbrev S8x1x246 : Shape := ⟨3, ![8, 1, 246]⟩
abbrev S8x246 : Shape := ⟨2, ![8, 246]⟩
abbrev S1x8x246 : Shape := ⟨3, ![1, 8, 246]⟩
abbrev S8x1x245 : Shape := ⟨3, ![8, 1, 245]⟩
abbrev S8x245 : Shape := ⟨2, ![8, 245]⟩
abbrev S1x8x245 : Shape := ⟨3, ![1, 8, 245]⟩
abbrev S8x1x244 : Shape := ⟨3, ![8, 1, 244]⟩
abbrev S8x244 : Shape := ⟨2, ![8, 244]⟩
abbrev S1x8x244 : Shape := ⟨3, ![1, 8, 244]⟩
abbrev S8x1x243 : Shape := ⟨3, ![8, 1, 243]⟩
abbrev S8x243 : Shape := ⟨2, ![8, 243]⟩
abbrev S1x8x243 : Shape := ⟨3, ![1, 8, 243]⟩
abbrev S8x1x242 : Shape := ⟨3, ![8, 1, 242]⟩
abbrev S8x242 : Shape := ⟨2, ![8, 242]⟩
abbrev S1x8x242 : Shape := ⟨3, ![1, 8, 242]⟩
abbrev S8x1x241 : Shape := ⟨3, ![8, 1, 241]⟩
abbrev S8x241 : Shape := ⟨2, ![8, 241]⟩
abbrev S1x8x241 : Shape := ⟨3, ![1, 8, 241]⟩
abbrev S8x1x240 : Shape := ⟨3, ![8, 1, 240]⟩
abbrev S8x240 : Shape := ⟨2, ![8, 240]⟩
abbrev S1x8x240 : Shape := ⟨3, ![1, 8, 240]⟩
abbrev S8x1x239 : Shape := ⟨3, ![8, 1, 239]⟩
abbrev S8x239 : Shape := ⟨2, ![8, 239]⟩
abbrev S1x8x239 : Shape := ⟨3, ![1, 8, 239]⟩
abbrev S8x1x238 : Shape := ⟨3, ![8, 1, 238]⟩
abbrev S8x238 : Shape := ⟨2, ![8, 238]⟩
abbrev S1x8x238 : Shape := ⟨3, ![1, 8, 238]⟩
abbrev S8x1x237 : Shape := ⟨3, ![8, 1, 237]⟩
abbrev S8x237 : Shape := ⟨2, ![8, 237]⟩
abbrev S1x8x237 : Shape := ⟨3, ![1, 8, 237]⟩
abbrev S8x1x236 : Shape := ⟨3, ![8, 1, 236]⟩
abbrev S8x236 : Shape := ⟨2, ![8, 236]⟩
abbrev S1x8x236 : Shape := ⟨3, ![1, 8, 236]⟩
abbrev S8x1x235 : Shape := ⟨3, ![8, 1, 235]⟩
abbrev S8x235 : Shape := ⟨2, ![8, 235]⟩
abbrev S1x8x235 : Shape := ⟨3, ![1, 8, 235]⟩
abbrev S8x1x234 : Shape := ⟨3, ![8, 1, 234]⟩
abbrev S8x234 : Shape := ⟨2, ![8, 234]⟩
abbrev S1x8x234 : Shape := ⟨3, ![1, 8, 234]⟩
abbrev S8x1x233 : Shape := ⟨3, ![8, 1, 233]⟩
abbrev S8x233 : Shape := ⟨2, ![8, 233]⟩
abbrev S1x8x233 : Shape := ⟨3, ![1, 8, 233]⟩
abbrev S8x1x232 : Shape := ⟨3, ![8, 1, 232]⟩
abbrev S8x232 : Shape := ⟨2, ![8, 232]⟩
abbrev S1x8x232 : Shape := ⟨3, ![1, 8, 232]⟩
abbrev S8x1x231 : Shape := ⟨3, ![8, 1, 231]⟩
abbrev S8x231 : Shape := ⟨2, ![8, 231]⟩
abbrev S1x8x231 : Shape := ⟨3, ![1, 8, 231]⟩
abbrev S8x1x230 : Shape := ⟨3, ![8, 1, 230]⟩
abbrev S8x230 : Shape := ⟨2, ![8, 230]⟩
abbrev S1x8x230 : Shape := ⟨3, ![1, 8, 230]⟩
abbrev S8x1x229 : Shape := ⟨3, ![8, 1, 229]⟩
abbrev S8x229 : Shape := ⟨2, ![8, 229]⟩
abbrev S1x8x229 : Shape := ⟨3, ![1, 8, 229]⟩
abbrev S8x1x228 : Shape := ⟨3, ![8, 1, 228]⟩
abbrev S8x228 : Shape := ⟨2, ![8, 228]⟩
abbrev S1x8x228 : Shape := ⟨3, ![1, 8, 228]⟩
abbrev S8x1x227 : Shape := ⟨3, ![8, 1, 227]⟩
abbrev S8x227 : Shape := ⟨2, ![8, 227]⟩
abbrev S1x8x227 : Shape := ⟨3, ![1, 8, 227]⟩
abbrev S8x1x226 : Shape := ⟨3, ![8, 1, 226]⟩
abbrev S8x226 : Shape := ⟨2, ![8, 226]⟩
abbrev S1x8x226 : Shape := ⟨3, ![1, 8, 226]⟩
abbrev S8x1x225 : Shape := ⟨3, ![8, 1, 225]⟩
abbrev S8x225 : Shape := ⟨2, ![8, 225]⟩
abbrev S1x8x225 : Shape := ⟨3, ![1, 8, 225]⟩
abbrev S8x1x224 : Shape := ⟨3, ![8, 1, 224]⟩
abbrev S8x224 : Shape := ⟨2, ![8, 224]⟩
abbrev S1x8x224 : Shape := ⟨3, ![1, 8, 224]⟩
abbrev S8x1x223 : Shape := ⟨3, ![8, 1, 223]⟩
abbrev S8x223 : Shape := ⟨2, ![8, 223]⟩
abbrev S1x8x223 : Shape := ⟨3, ![1, 8, 223]⟩
abbrev S8x1x222 : Shape := ⟨3, ![8, 1, 222]⟩
abbrev S8x222 : Shape := ⟨2, ![8, 222]⟩
abbrev S1x8x222 : Shape := ⟨3, ![1, 8, 222]⟩
abbrev S8x1x221 : Shape := ⟨3, ![8, 1, 221]⟩
abbrev S8x221 : Shape := ⟨2, ![8, 221]⟩
abbrev S1x8x221 : Shape := ⟨3, ![1, 8, 221]⟩
abbrev S8x1x220 : Shape := ⟨3, ![8, 1, 220]⟩
abbrev S8x220 : Shape := ⟨2, ![8, 220]⟩
abbrev S1x8x220 : Shape := ⟨3, ![1, 8, 220]⟩
abbrev S8x1x219 : Shape := ⟨3, ![8, 1, 219]⟩
abbrev S8x219 : Shape := ⟨2, ![8, 219]⟩
abbrev S1x8x219 : Shape := ⟨3, ![1, 8, 219]⟩
abbrev S8x1x218 : Shape := ⟨3, ![8, 1, 218]⟩
abbrev S8x218 : Shape := ⟨2, ![8, 218]⟩
abbrev S1x8x218 : Shape := ⟨3, ![1, 8, 218]⟩
abbrev S8x1x217 : Shape := ⟨3, ![8, 1, 217]⟩
abbrev S8x217 : Shape := ⟨2, ![8, 217]⟩
abbrev S1x8x217 : Shape := ⟨3, ![1, 8, 217]⟩
abbrev S8x1x216 : Shape := ⟨3, ![8, 1, 216]⟩
abbrev S8x216 : Shape := ⟨2, ![8, 216]⟩
abbrev S1x8x216 : Shape := ⟨3, ![1, 8, 216]⟩
abbrev S8x1x215 : Shape := ⟨3, ![8, 1, 215]⟩
abbrev S8x215 : Shape := ⟨2, ![8, 215]⟩
abbrev S1x8x215 : Shape := ⟨3, ![1, 8, 215]⟩
abbrev S8x1x214 : Shape := ⟨3, ![8, 1, 214]⟩
abbrev S8x214 : Shape := ⟨2, ![8, 214]⟩
abbrev S1x8x214 : Shape := ⟨3, ![1, 8, 214]⟩
abbrev S8x1x213 : Shape := ⟨3, ![8, 1, 213]⟩
abbrev S8x213 : Shape := ⟨2, ![8, 213]⟩
abbrev S1x8x213 : Shape := ⟨3, ![1, 8, 213]⟩
abbrev S8x1x212 : Shape := ⟨3, ![8, 1, 212]⟩
abbrev S8x212 : Shape := ⟨2, ![8, 212]⟩
abbrev S1x8x212 : Shape := ⟨3, ![1, 8, 212]⟩
abbrev S8x1x211 : Shape := ⟨3, ![8, 1, 211]⟩
abbrev S8x211 : Shape := ⟨2, ![8, 211]⟩
abbrev S1x8x211 : Shape := ⟨3, ![1, 8, 211]⟩
abbrev S8x1x210 : Shape := ⟨3, ![8, 1, 210]⟩
abbrev S8x210 : Shape := ⟨2, ![8, 210]⟩
abbrev S1x8x210 : Shape := ⟨3, ![1, 8, 210]⟩
abbrev S8x1x209 : Shape := ⟨3, ![8, 1, 209]⟩
abbrev S8x209 : Shape := ⟨2, ![8, 209]⟩
abbrev S1x8x209 : Shape := ⟨3, ![1, 8, 209]⟩
abbrev S8x1x208 : Shape := ⟨3, ![8, 1, 208]⟩
abbrev S8x208 : Shape := ⟨2, ![8, 208]⟩
abbrev S1x8x208 : Shape := ⟨3, ![1, 8, 208]⟩
abbrev S8x1x207 : Shape := ⟨3, ![8, 1, 207]⟩
abbrev S8x207 : Shape := ⟨2, ![8, 207]⟩
abbrev S1x8x207 : Shape := ⟨3, ![1, 8, 207]⟩
abbrev S8x1x206 : Shape := ⟨3, ![8, 1, 206]⟩
abbrev S8x206 : Shape := ⟨2, ![8, 206]⟩
abbrev S1x8x206 : Shape := ⟨3, ![1, 8, 206]⟩
abbrev S8x1x205 : Shape := ⟨3, ![8, 1, 205]⟩
abbrev S8x205 : Shape := ⟨2, ![8, 205]⟩
abbrev S1x8x205 : Shape := ⟨3, ![1, 8, 205]⟩
abbrev S8x1x204 : Shape := ⟨3, ![8, 1, 204]⟩
abbrev S8x204 : Shape := ⟨2, ![8, 204]⟩
abbrev S1x8x204 : Shape := ⟨3, ![1, 8, 204]⟩
abbrev S8x1x203 : Shape := ⟨3, ![8, 1, 203]⟩
abbrev S8x203 : Shape := ⟨2, ![8, 203]⟩
abbrev S1x8x203 : Shape := ⟨3, ![1, 8, 203]⟩
abbrev S8x1x202 : Shape := ⟨3, ![8, 1, 202]⟩
abbrev S8x202 : Shape := ⟨2, ![8, 202]⟩
abbrev S1x8x202 : Shape := ⟨3, ![1, 8, 202]⟩
abbrev S8x1x201 : Shape := ⟨3, ![8, 1, 201]⟩
abbrev S8x201 : Shape := ⟨2, ![8, 201]⟩
abbrev S1x8x201 : Shape := ⟨3, ![1, 8, 201]⟩
abbrev S8x1x200 : Shape := ⟨3, ![8, 1, 200]⟩
abbrev S8x200 : Shape := ⟨2, ![8, 200]⟩
abbrev S1x8x200 : Shape := ⟨3, ![1, 8, 200]⟩
abbrev S8x1x199 : Shape := ⟨3, ![8, 1, 199]⟩
abbrev S8x199 : Shape := ⟨2, ![8, 199]⟩
abbrev S1x8x199 : Shape := ⟨3, ![1, 8, 199]⟩
abbrev S8x1x198 : Shape := ⟨3, ![8, 1, 198]⟩
abbrev S8x198 : Shape := ⟨2, ![8, 198]⟩
abbrev S1x8x198 : Shape := ⟨3, ![1, 8, 198]⟩
abbrev S8x1x197 : Shape := ⟨3, ![8, 1, 197]⟩
abbrev S8x197 : Shape := ⟨2, ![8, 197]⟩
abbrev S1x8x197 : Shape := ⟨3, ![1, 8, 197]⟩
abbrev S8x1x196 : Shape := ⟨3, ![8, 1, 196]⟩
abbrev S8x196 : Shape := ⟨2, ![8, 196]⟩
abbrev S1x8x196 : Shape := ⟨3, ![1, 8, 196]⟩
abbrev S8x1x195 : Shape := ⟨3, ![8, 1, 195]⟩
abbrev S8x195 : Shape := ⟨2, ![8, 195]⟩
abbrev S1x8x195 : Shape := ⟨3, ![1, 8, 195]⟩
abbrev S8x1x194 : Shape := ⟨3, ![8, 1, 194]⟩
abbrev S8x194 : Shape := ⟨2, ![8, 194]⟩
abbrev S1x8x194 : Shape := ⟨3, ![1, 8, 194]⟩
abbrev S8x1x193 : Shape := ⟨3, ![8, 1, 193]⟩
abbrev S8x193 : Shape := ⟨2, ![8, 193]⟩
abbrev S1x8x193 : Shape := ⟨3, ![1, 8, 193]⟩
abbrev S8x1x192 : Shape := ⟨3, ![8, 1, 192]⟩
abbrev S8x192 : Shape := ⟨2, ![8, 192]⟩
abbrev S1x8x192 : Shape := ⟨3, ![1, 8, 192]⟩
abbrev S8x1x191 : Shape := ⟨3, ![8, 1, 191]⟩
abbrev S8x191 : Shape := ⟨2, ![8, 191]⟩
abbrev S1x8x191 : Shape := ⟨3, ![1, 8, 191]⟩
abbrev S8x1x190 : Shape := ⟨3, ![8, 1, 190]⟩
abbrev S8x190 : Shape := ⟨2, ![8, 190]⟩
abbrev S1x8x190 : Shape := ⟨3, ![1, 8, 190]⟩
abbrev S8x1x189 : Shape := ⟨3, ![8, 1, 189]⟩
abbrev S8x189 : Shape := ⟨2, ![8, 189]⟩
abbrev S1x8x189 : Shape := ⟨3, ![1, 8, 189]⟩
abbrev S8x1x188 : Shape := ⟨3, ![8, 1, 188]⟩
abbrev S8x188 : Shape := ⟨2, ![8, 188]⟩
abbrev S1x8x188 : Shape := ⟨3, ![1, 8, 188]⟩
abbrev S8x1x187 : Shape := ⟨3, ![8, 1, 187]⟩
abbrev S8x187 : Shape := ⟨2, ![8, 187]⟩
abbrev S1x8x187 : Shape := ⟨3, ![1, 8, 187]⟩
abbrev S8x1x186 : Shape := ⟨3, ![8, 1, 186]⟩
abbrev S8x186 : Shape := ⟨2, ![8, 186]⟩
abbrev S1x8x186 : Shape := ⟨3, ![1, 8, 186]⟩
abbrev S8x1x185 : Shape := ⟨3, ![8, 1, 185]⟩
abbrev S8x185 : Shape := ⟨2, ![8, 185]⟩
abbrev S1x8x185 : Shape := ⟨3, ![1, 8, 185]⟩
abbrev S8x1x184 : Shape := ⟨3, ![8, 1, 184]⟩
abbrev S8x184 : Shape := ⟨2, ![8, 184]⟩
abbrev S1x8x184 : Shape := ⟨3, ![1, 8, 184]⟩
abbrev S8x1x183 : Shape := ⟨3, ![8, 1, 183]⟩
abbrev S8x183 : Shape := ⟨2, ![8, 183]⟩
abbrev S1x8x183 : Shape := ⟨3, ![1, 8, 183]⟩
abbrev S8x1x182 : Shape := ⟨3, ![8, 1, 182]⟩
abbrev S8x182 : Shape := ⟨2, ![8, 182]⟩
abbrev S1x8x182 : Shape := ⟨3, ![1, 8, 182]⟩
abbrev S8x1x181 : Shape := ⟨3, ![8, 1, 181]⟩
abbrev S8x181 : Shape := ⟨2, ![8, 181]⟩
abbrev S1x8x181 : Shape := ⟨3, ![1, 8, 181]⟩
abbrev S8x1x180 : Shape := ⟨3, ![8, 1, 180]⟩
abbrev S8x180 : Shape := ⟨2, ![8, 180]⟩
abbrev S1x8x180 : Shape := ⟨3, ![1, 8, 180]⟩
abbrev S8x1x179 : Shape := ⟨3, ![8, 1, 179]⟩
abbrev S8x179 : Shape := ⟨2, ![8, 179]⟩
abbrev S1x8x179 : Shape := ⟨3, ![1, 8, 179]⟩
abbrev S8x1x178 : Shape := ⟨3, ![8, 1, 178]⟩
abbrev S8x178 : Shape := ⟨2, ![8, 178]⟩
abbrev S1x8x178 : Shape := ⟨3, ![1, 8, 178]⟩
abbrev S8x1x177 : Shape := ⟨3, ![8, 1, 177]⟩
abbrev S8x177 : Shape := ⟨2, ![8, 177]⟩
abbrev S1x8x177 : Shape := ⟨3, ![1, 8, 177]⟩
abbrev S8x1x176 : Shape := ⟨3, ![8, 1, 176]⟩
abbrev S8x176 : Shape := ⟨2, ![8, 176]⟩
abbrev S1x8x176 : Shape := ⟨3, ![1, 8, 176]⟩
abbrev S8x1x175 : Shape := ⟨3, ![8, 1, 175]⟩
abbrev S8x175 : Shape := ⟨2, ![8, 175]⟩
abbrev S1x8x175 : Shape := ⟨3, ![1, 8, 175]⟩
abbrev S8x1x174 : Shape := ⟨3, ![8, 1, 174]⟩
abbrev S8x174 : Shape := ⟨2, ![8, 174]⟩
abbrev S1x8x174 : Shape := ⟨3, ![1, 8, 174]⟩
abbrev S8x1x173 : Shape := ⟨3, ![8, 1, 173]⟩
abbrev S8x173 : Shape := ⟨2, ![8, 173]⟩
abbrev S1x8x173 : Shape := ⟨3, ![1, 8, 173]⟩
abbrev S8x1x172 : Shape := ⟨3, ![8, 1, 172]⟩
abbrev S8x172 : Shape := ⟨2, ![8, 172]⟩
abbrev S1x8x172 : Shape := ⟨3, ![1, 8, 172]⟩
abbrev S8x1x171 : Shape := ⟨3, ![8, 1, 171]⟩
abbrev S8x171 : Shape := ⟨2, ![8, 171]⟩
abbrev S1x8x171 : Shape := ⟨3, ![1, 8, 171]⟩
abbrev S8x1x170 : Shape := ⟨3, ![8, 1, 170]⟩
abbrev S8x170 : Shape := ⟨2, ![8, 170]⟩
abbrev S1x8x170 : Shape := ⟨3, ![1, 8, 170]⟩
abbrev S8x1x169 : Shape := ⟨3, ![8, 1, 169]⟩
abbrev S8x169 : Shape := ⟨2, ![8, 169]⟩
abbrev S1x8x169 : Shape := ⟨3, ![1, 8, 169]⟩
abbrev S8x1x168 : Shape := ⟨3, ![8, 1, 168]⟩
abbrev S8x168 : Shape := ⟨2, ![8, 168]⟩
abbrev S1x8x168 : Shape := ⟨3, ![1, 8, 168]⟩
abbrev S8x1x167 : Shape := ⟨3, ![8, 1, 167]⟩
abbrev S8x167 : Shape := ⟨2, ![8, 167]⟩
abbrev S1x8x167 : Shape := ⟨3, ![1, 8, 167]⟩
abbrev S8x1x166 : Shape := ⟨3, ![8, 1, 166]⟩
abbrev S8x166 : Shape := ⟨2, ![8, 166]⟩
abbrev S1x8x166 : Shape := ⟨3, ![1, 8, 166]⟩
abbrev S8x1x165 : Shape := ⟨3, ![8, 1, 165]⟩
abbrev S8x165 : Shape := ⟨2, ![8, 165]⟩
abbrev S1x8x165 : Shape := ⟨3, ![1, 8, 165]⟩
abbrev S8x1x164 : Shape := ⟨3, ![8, 1, 164]⟩
abbrev S8x164 : Shape := ⟨2, ![8, 164]⟩
abbrev S1x8x164 : Shape := ⟨3, ![1, 8, 164]⟩
abbrev S8x1x163 : Shape := ⟨3, ![8, 1, 163]⟩
abbrev S8x163 : Shape := ⟨2, ![8, 163]⟩
abbrev S1x8x163 : Shape := ⟨3, ![1, 8, 163]⟩
abbrev S8x1x162 : Shape := ⟨3, ![8, 1, 162]⟩
abbrev S8x162 : Shape := ⟨2, ![8, 162]⟩
abbrev S1x8x162 : Shape := ⟨3, ![1, 8, 162]⟩
abbrev S8x1x161 : Shape := ⟨3, ![8, 1, 161]⟩
abbrev S8x161 : Shape := ⟨2, ![8, 161]⟩
abbrev S1x8x161 : Shape := ⟨3, ![1, 8, 161]⟩
abbrev S8x1x160 : Shape := ⟨3, ![8, 1, 160]⟩
abbrev S8x160 : Shape := ⟨2, ![8, 160]⟩
abbrev S1x8x160 : Shape := ⟨3, ![1, 8, 160]⟩
abbrev S8x1x159 : Shape := ⟨3, ![8, 1, 159]⟩
abbrev S8x159 : Shape := ⟨2, ![8, 159]⟩
abbrev S1x8x159 : Shape := ⟨3, ![1, 8, 159]⟩
abbrev S8x1x158 : Shape := ⟨3, ![8, 1, 158]⟩
abbrev S8x158 : Shape := ⟨2, ![8, 158]⟩
abbrev S1x8x158 : Shape := ⟨3, ![1, 8, 158]⟩
abbrev S8x1x157 : Shape := ⟨3, ![8, 1, 157]⟩
abbrev S8x157 : Shape := ⟨2, ![8, 157]⟩
abbrev S1x8x157 : Shape := ⟨3, ![1, 8, 157]⟩
abbrev S8x1x156 : Shape := ⟨3, ![8, 1, 156]⟩
abbrev S8x156 : Shape := ⟨2, ![8, 156]⟩
abbrev S1x8x156 : Shape := ⟨3, ![1, 8, 156]⟩
abbrev S8x1x155 : Shape := ⟨3, ![8, 1, 155]⟩
abbrev S8x155 : Shape := ⟨2, ![8, 155]⟩
abbrev S1x8x155 : Shape := ⟨3, ![1, 8, 155]⟩
abbrev S8x1x154 : Shape := ⟨3, ![8, 1, 154]⟩
abbrev S8x154 : Shape := ⟨2, ![8, 154]⟩
abbrev S1x8x154 : Shape := ⟨3, ![1, 8, 154]⟩
abbrev S8x1x153 : Shape := ⟨3, ![8, 1, 153]⟩
abbrev S8x153 : Shape := ⟨2, ![8, 153]⟩
abbrev S1x8x153 : Shape := ⟨3, ![1, 8, 153]⟩
abbrev S8x1x152 : Shape := ⟨3, ![8, 1, 152]⟩
abbrev S8x152 : Shape := ⟨2, ![8, 152]⟩
abbrev S1x8x152 : Shape := ⟨3, ![1, 8, 152]⟩
abbrev S8x1x151 : Shape := ⟨3, ![8, 1, 151]⟩
abbrev S8x151 : Shape := ⟨2, ![8, 151]⟩
abbrev S1x8x151 : Shape := ⟨3, ![1, 8, 151]⟩
abbrev S8x1x150 : Shape := ⟨3, ![8, 1, 150]⟩
abbrev S8x150 : Shape := ⟨2, ![8, 150]⟩
abbrev S1x8x150 : Shape := ⟨3, ![1, 8, 150]⟩
abbrev S8x1x149 : Shape := ⟨3, ![8, 1, 149]⟩
abbrev S8x149 : Shape := ⟨2, ![8, 149]⟩
abbrev S1x8x149 : Shape := ⟨3, ![1, 8, 149]⟩
abbrev S8x1x148 : Shape := ⟨3, ![8, 1, 148]⟩
abbrev S8x148 : Shape := ⟨2, ![8, 148]⟩
abbrev S1x8x148 : Shape := ⟨3, ![1, 8, 148]⟩
abbrev S8x1x147 : Shape := ⟨3, ![8, 1, 147]⟩
abbrev S8x147 : Shape := ⟨2, ![8, 147]⟩
abbrev S1x8x147 : Shape := ⟨3, ![1, 8, 147]⟩
abbrev S8x1x146 : Shape := ⟨3, ![8, 1, 146]⟩
abbrev S8x146 : Shape := ⟨2, ![8, 146]⟩
abbrev S1x8x146 : Shape := ⟨3, ![1, 8, 146]⟩
abbrev S8x1x145 : Shape := ⟨3, ![8, 1, 145]⟩
abbrev S8x145 : Shape := ⟨2, ![8, 145]⟩
abbrev S1x8x145 : Shape := ⟨3, ![1, 8, 145]⟩
abbrev S8x1x144 : Shape := ⟨3, ![8, 1, 144]⟩
abbrev S8x144 : Shape := ⟨2, ![8, 144]⟩
abbrev S1x8x144 : Shape := ⟨3, ![1, 8, 144]⟩
abbrev S8x1x143 : Shape := ⟨3, ![8, 1, 143]⟩
abbrev S8x143 : Shape := ⟨2, ![8, 143]⟩
abbrev S1x8x143 : Shape := ⟨3, ![1, 8, 143]⟩
abbrev S8x1x142 : Shape := ⟨3, ![8, 1, 142]⟩
abbrev S8x142 : Shape := ⟨2, ![8, 142]⟩
abbrev S1x8x142 : Shape := ⟨3, ![1, 8, 142]⟩
abbrev S8x1x141 : Shape := ⟨3, ![8, 1, 141]⟩
abbrev S8x141 : Shape := ⟨2, ![8, 141]⟩
abbrev S1x8x141 : Shape := ⟨3, ![1, 8, 141]⟩
abbrev S8x1x140 : Shape := ⟨3, ![8, 1, 140]⟩
abbrev S8x140 : Shape := ⟨2, ![8, 140]⟩
abbrev S1x8x140 : Shape := ⟨3, ![1, 8, 140]⟩
abbrev S8x1x139 : Shape := ⟨3, ![8, 1, 139]⟩
abbrev S8x139 : Shape := ⟨2, ![8, 139]⟩
abbrev S1x8x139 : Shape := ⟨3, ![1, 8, 139]⟩
abbrev S8x1x138 : Shape := ⟨3, ![8, 1, 138]⟩
abbrev S8x138 : Shape := ⟨2, ![8, 138]⟩
abbrev S1x8x138 : Shape := ⟨3, ![1, 8, 138]⟩
abbrev S8x1x137 : Shape := ⟨3, ![8, 1, 137]⟩
abbrev S8x137 : Shape := ⟨2, ![8, 137]⟩
abbrev S1x8x137 : Shape := ⟨3, ![1, 8, 137]⟩
abbrev S8x1x136 : Shape := ⟨3, ![8, 1, 136]⟩
abbrev S8x136 : Shape := ⟨2, ![8, 136]⟩
abbrev S1x8x136 : Shape := ⟨3, ![1, 8, 136]⟩
abbrev S8x1x135 : Shape := ⟨3, ![8, 1, 135]⟩
abbrev S8x135 : Shape := ⟨2, ![8, 135]⟩
abbrev S1x8x135 : Shape := ⟨3, ![1, 8, 135]⟩
abbrev S8x1x134 : Shape := ⟨3, ![8, 1, 134]⟩
abbrev S8x134 : Shape := ⟨2, ![8, 134]⟩
abbrev S1x8x134 : Shape := ⟨3, ![1, 8, 134]⟩
abbrev S8x1x133 : Shape := ⟨3, ![8, 1, 133]⟩
abbrev S8x133 : Shape := ⟨2, ![8, 133]⟩
abbrev S1x8x133 : Shape := ⟨3, ![1, 8, 133]⟩
abbrev S8x1x132 : Shape := ⟨3, ![8, 1, 132]⟩
abbrev S8x132 : Shape := ⟨2, ![8, 132]⟩
abbrev S1x8x132 : Shape := ⟨3, ![1, 8, 132]⟩
abbrev S8x1x131 : Shape := ⟨3, ![8, 1, 131]⟩
abbrev S8x131 : Shape := ⟨2, ![8, 131]⟩
abbrev S1x8x131 : Shape := ⟨3, ![1, 8, 131]⟩
abbrev S8x1x130 : Shape := ⟨3, ![8, 1, 130]⟩
abbrev S8x130 : Shape := ⟨2, ![8, 130]⟩
abbrev S1x8x130 : Shape := ⟨3, ![1, 8, 130]⟩
abbrev S8x1x129 : Shape := ⟨3, ![8, 1, 129]⟩
abbrev S8x129 : Shape := ⟨2, ![8, 129]⟩
abbrev S1x8x129 : Shape := ⟨3, ![1, 8, 129]⟩
abbrev S8x1x128 : Shape := ⟨3, ![8, 1, 128]⟩
abbrev S8x128 : Shape := ⟨2, ![8, 128]⟩
abbrev S1x8x128 : Shape := ⟨3, ![1, 8, 128]⟩
abbrev S8x1x127 : Shape := ⟨3, ![8, 1, 127]⟩
abbrev S8x127 : Shape := ⟨2, ![8, 127]⟩
abbrev S1x8x127 : Shape := ⟨3, ![1, 8, 127]⟩
abbrev S8x1x126 : Shape := ⟨3, ![8, 1, 126]⟩
abbrev S8x126 : Shape := ⟨2, ![8, 126]⟩
abbrev S1x8x126 : Shape := ⟨3, ![1, 8, 126]⟩
abbrev S8x1x125 : Shape := ⟨3, ![8, 1, 125]⟩
abbrev S8x125 : Shape := ⟨2, ![8, 125]⟩
abbrev S1x8x125 : Shape := ⟨3, ![1, 8, 125]⟩
abbrev S8x1x124 : Shape := ⟨3, ![8, 1, 124]⟩
abbrev S8x124 : Shape := ⟨2, ![8, 124]⟩
abbrev S1x8x124 : Shape := ⟨3, ![1, 8, 124]⟩
abbrev S8x1x123 : Shape := ⟨3, ![8, 1, 123]⟩
abbrev S8x123 : Shape := ⟨2, ![8, 123]⟩
abbrev S1x8x123 : Shape := ⟨3, ![1, 8, 123]⟩
abbrev S8x1x122 : Shape := ⟨3, ![8, 1, 122]⟩
abbrev S8x122 : Shape := ⟨2, ![8, 122]⟩
abbrev S1x8x122 : Shape := ⟨3, ![1, 8, 122]⟩
abbrev S8x1x121 : Shape := ⟨3, ![8, 1, 121]⟩
abbrev S8x121 : Shape := ⟨2, ![8, 121]⟩
abbrev S1x8x121 : Shape := ⟨3, ![1, 8, 121]⟩
abbrev S8x1x120 : Shape := ⟨3, ![8, 1, 120]⟩
abbrev S8x120 : Shape := ⟨2, ![8, 120]⟩
abbrev S1x8x120 : Shape := ⟨3, ![1, 8, 120]⟩
abbrev S8x1x119 : Shape := ⟨3, ![8, 1, 119]⟩
abbrev S8x119 : Shape := ⟨2, ![8, 119]⟩
abbrev S1x8x119 : Shape := ⟨3, ![1, 8, 119]⟩
abbrev S8x1x118 : Shape := ⟨3, ![8, 1, 118]⟩
abbrev S8x118 : Shape := ⟨2, ![8, 118]⟩
abbrev S1x8x118 : Shape := ⟨3, ![1, 8, 118]⟩
abbrev S8x1x117 : Shape := ⟨3, ![8, 1, 117]⟩
abbrev S8x117 : Shape := ⟨2, ![8, 117]⟩
abbrev S1x8x117 : Shape := ⟨3, ![1, 8, 117]⟩
abbrev S8x1x116 : Shape := ⟨3, ![8, 1, 116]⟩
abbrev S8x116 : Shape := ⟨2, ![8, 116]⟩
abbrev S1x8x116 : Shape := ⟨3, ![1, 8, 116]⟩
abbrev S8x1x115 : Shape := ⟨3, ![8, 1, 115]⟩
abbrev S8x115 : Shape := ⟨2, ![8, 115]⟩
abbrev S1x8x115 : Shape := ⟨3, ![1, 8, 115]⟩
abbrev S8x1x114 : Shape := ⟨3, ![8, 1, 114]⟩
abbrev S8x114 : Shape := ⟨2, ![8, 114]⟩
abbrev S1x8x114 : Shape := ⟨3, ![1, 8, 114]⟩
abbrev S8x1x113 : Shape := ⟨3, ![8, 1, 113]⟩
abbrev S8x113 : Shape := ⟨2, ![8, 113]⟩
abbrev S1x8x113 : Shape := ⟨3, ![1, 8, 113]⟩
abbrev S8x1x112 : Shape := ⟨3, ![8, 1, 112]⟩
abbrev S8x112 : Shape := ⟨2, ![8, 112]⟩
abbrev S1x8x112 : Shape := ⟨3, ![1, 8, 112]⟩
abbrev S8x1x111 : Shape := ⟨3, ![8, 1, 111]⟩
abbrev S8x111 : Shape := ⟨2, ![8, 111]⟩
abbrev S1x8x111 : Shape := ⟨3, ![1, 8, 111]⟩
abbrev S8x1x110 : Shape := ⟨3, ![8, 1, 110]⟩
abbrev S8x110 : Shape := ⟨2, ![8, 110]⟩
abbrev S1x8x110 : Shape := ⟨3, ![1, 8, 110]⟩
abbrev S8x1x109 : Shape := ⟨3, ![8, 1, 109]⟩
abbrev S8x109 : Shape := ⟨2, ![8, 109]⟩
abbrev S1x8x109 : Shape := ⟨3, ![1, 8, 109]⟩
abbrev S8x1x108 : Shape := ⟨3, ![8, 1, 108]⟩
abbrev S8x108 : Shape := ⟨2, ![8, 108]⟩
abbrev S1x8x108 : Shape := ⟨3, ![1, 8, 108]⟩
abbrev S8x1x107 : Shape := ⟨3, ![8, 1, 107]⟩
abbrev S8x107 : Shape := ⟨2, ![8, 107]⟩
abbrev S1x8x107 : Shape := ⟨3, ![1, 8, 107]⟩
abbrev S8x1x106 : Shape := ⟨3, ![8, 1, 106]⟩
abbrev S8x106 : Shape := ⟨2, ![8, 106]⟩
abbrev S1x8x106 : Shape := ⟨3, ![1, 8, 106]⟩
abbrev S8x1x105 : Shape := ⟨3, ![8, 1, 105]⟩
abbrev S8x105 : Shape := ⟨2, ![8, 105]⟩
abbrev S1x8x105 : Shape := ⟨3, ![1, 8, 105]⟩
abbrev S8x1x104 : Shape := ⟨3, ![8, 1, 104]⟩
abbrev S8x104 : Shape := ⟨2, ![8, 104]⟩
abbrev S1x8x104 : Shape := ⟨3, ![1, 8, 104]⟩
abbrev S8x1x103 : Shape := ⟨3, ![8, 1, 103]⟩
abbrev S8x103 : Shape := ⟨2, ![8, 103]⟩
abbrev S1x8x103 : Shape := ⟨3, ![1, 8, 103]⟩
abbrev S8x1x102 : Shape := ⟨3, ![8, 1, 102]⟩
abbrev S8x102 : Shape := ⟨2, ![8, 102]⟩
abbrev S1x8x102 : Shape := ⟨3, ![1, 8, 102]⟩
abbrev S8x1x101 : Shape := ⟨3, ![8, 1, 101]⟩
abbrev S8x101 : Shape := ⟨2, ![8, 101]⟩
abbrev S1x8x101 : Shape := ⟨3, ![1, 8, 101]⟩
abbrev S8x1x100 : Shape := ⟨3, ![8, 1, 100]⟩
abbrev S8x100 : Shape := ⟨2, ![8, 100]⟩
abbrev S1x8x100 : Shape := ⟨3, ![1, 8, 100]⟩
abbrev S8x1x99 : Shape := ⟨3, ![8, 1, 99]⟩
abbrev S8x99 : Shape := ⟨2, ![8, 99]⟩
abbrev S1x8x99 : Shape := ⟨3, ![1, 8, 99]⟩
abbrev S8x1x98 : Shape := ⟨3, ![8, 1, 98]⟩
abbrev S8x98 : Shape := ⟨2, ![8, 98]⟩
abbrev S1x8x98 : Shape := ⟨3, ![1, 8, 98]⟩
abbrev S8x1x97 : Shape := ⟨3, ![8, 1, 97]⟩
abbrev S8x97 : Shape := ⟨2, ![8, 97]⟩
abbrev S1x8x97 : Shape := ⟨3, ![1, 8, 97]⟩
abbrev S8x1x96 : Shape := ⟨3, ![8, 1, 96]⟩
abbrev S8x96 : Shape := ⟨2, ![8, 96]⟩
abbrev S1x8x96 : Shape := ⟨3, ![1, 8, 96]⟩
abbrev S8x1x95 : Shape := ⟨3, ![8, 1, 95]⟩
abbrev S8x95 : Shape := ⟨2, ![8, 95]⟩
abbrev S1x8x95 : Shape := ⟨3, ![1, 8, 95]⟩
abbrev S8x1x94 : Shape := ⟨3, ![8, 1, 94]⟩
abbrev S8x94 : Shape := ⟨2, ![8, 94]⟩
abbrev S1x8x94 : Shape := ⟨3, ![1, 8, 94]⟩
abbrev S8x1x93 : Shape := ⟨3, ![8, 1, 93]⟩
abbrev S8x93 : Shape := ⟨2, ![8, 93]⟩
abbrev S1x8x93 : Shape := ⟨3, ![1, 8, 93]⟩
abbrev S8x1x92 : Shape := ⟨3, ![8, 1, 92]⟩
abbrev S8x92 : Shape := ⟨2, ![8, 92]⟩
abbrev S1x8x92 : Shape := ⟨3, ![1, 8, 92]⟩
abbrev S8x1x91 : Shape := ⟨3, ![8, 1, 91]⟩
abbrev S8x91 : Shape := ⟨2, ![8, 91]⟩
abbrev S1x8x91 : Shape := ⟨3, ![1, 8, 91]⟩
abbrev S8x1x90 : Shape := ⟨3, ![8, 1, 90]⟩
abbrev S8x90 : Shape := ⟨2, ![8, 90]⟩
abbrev S1x8x90 : Shape := ⟨3, ![1, 8, 90]⟩
abbrev S8x1x89 : Shape := ⟨3, ![8, 1, 89]⟩
abbrev S8x89 : Shape := ⟨2, ![8, 89]⟩
abbrev S1x8x89 : Shape := ⟨3, ![1, 8, 89]⟩
abbrev S8x1x88 : Shape := ⟨3, ![8, 1, 88]⟩
abbrev S8x88 : Shape := ⟨2, ![8, 88]⟩
abbrev S1x8x88 : Shape := ⟨3, ![1, 8, 88]⟩
abbrev S8x1x87 : Shape := ⟨3, ![8, 1, 87]⟩
abbrev S8x87 : Shape := ⟨2, ![8, 87]⟩
abbrev S1x8x87 : Shape := ⟨3, ![1, 8, 87]⟩
abbrev S8x1x86 : Shape := ⟨3, ![8, 1, 86]⟩
abbrev S8x86 : Shape := ⟨2, ![8, 86]⟩
abbrev S1x8x86 : Shape := ⟨3, ![1, 8, 86]⟩
abbrev S8x1x85 : Shape := ⟨3, ![8, 1, 85]⟩
abbrev S8x85 : Shape := ⟨2, ![8, 85]⟩
abbrev S1x8x85 : Shape := ⟨3, ![1, 8, 85]⟩
abbrev S8x1x84 : Shape := ⟨3, ![8, 1, 84]⟩
abbrev S8x84 : Shape := ⟨2, ![8, 84]⟩
abbrev S1x8x84 : Shape := ⟨3, ![1, 8, 84]⟩
abbrev S8x1x83 : Shape := ⟨3, ![8, 1, 83]⟩
abbrev S8x83 : Shape := ⟨2, ![8, 83]⟩
abbrev S1x8x83 : Shape := ⟨3, ![1, 8, 83]⟩
abbrev S8x1x82 : Shape := ⟨3, ![8, 1, 82]⟩
abbrev S8x82 : Shape := ⟨2, ![8, 82]⟩
abbrev S1x8x82 : Shape := ⟨3, ![1, 8, 82]⟩
abbrev S8x1x81 : Shape := ⟨3, ![8, 1, 81]⟩
abbrev S8x81 : Shape := ⟨2, ![8, 81]⟩
abbrev S1x8x81 : Shape := ⟨3, ![1, 8, 81]⟩
abbrev S8x1x80 : Shape := ⟨3, ![8, 1, 80]⟩
abbrev S8x80 : Shape := ⟨2, ![8, 80]⟩
abbrev S1x8x80 : Shape := ⟨3, ![1, 8, 80]⟩
abbrev S8x1x79 : Shape := ⟨3, ![8, 1, 79]⟩
abbrev S8x79 : Shape := ⟨2, ![8, 79]⟩
abbrev S1x8x79 : Shape := ⟨3, ![1, 8, 79]⟩
abbrev S8x1x78 : Shape := ⟨3, ![8, 1, 78]⟩
abbrev S8x78 : Shape := ⟨2, ![8, 78]⟩
abbrev S1x8x78 : Shape := ⟨3, ![1, 8, 78]⟩
abbrev S8x1x77 : Shape := ⟨3, ![8, 1, 77]⟩
abbrev S8x77 : Shape := ⟨2, ![8, 77]⟩
abbrev S1x8x77 : Shape := ⟨3, ![1, 8, 77]⟩
abbrev S8x1x76 : Shape := ⟨3, ![8, 1, 76]⟩
abbrev S8x76 : Shape := ⟨2, ![8, 76]⟩
abbrev S1x8x76 : Shape := ⟨3, ![1, 8, 76]⟩
abbrev S8x1x75 : Shape := ⟨3, ![8, 1, 75]⟩
abbrev S8x75 : Shape := ⟨2, ![8, 75]⟩
abbrev S1x8x75 : Shape := ⟨3, ![1, 8, 75]⟩
abbrev S8x1x74 : Shape := ⟨3, ![8, 1, 74]⟩
abbrev S8x74 : Shape := ⟨2, ![8, 74]⟩
abbrev S1x8x74 : Shape := ⟨3, ![1, 8, 74]⟩
abbrev S8x1x73 : Shape := ⟨3, ![8, 1, 73]⟩
abbrev S8x73 : Shape := ⟨2, ![8, 73]⟩
abbrev S1x8x73 : Shape := ⟨3, ![1, 8, 73]⟩
abbrev S8x1x72 : Shape := ⟨3, ![8, 1, 72]⟩
abbrev S8x72 : Shape := ⟨2, ![8, 72]⟩
abbrev S1x8x72 : Shape := ⟨3, ![1, 8, 72]⟩
abbrev S8x1x71 : Shape := ⟨3, ![8, 1, 71]⟩
abbrev S8x71 : Shape := ⟨2, ![8, 71]⟩
abbrev S1x8x71 : Shape := ⟨3, ![1, 8, 71]⟩
abbrev S8x1x70 : Shape := ⟨3, ![8, 1, 70]⟩
abbrev S8x70 : Shape := ⟨2, ![8, 70]⟩
abbrev S1x8x70 : Shape := ⟨3, ![1, 8, 70]⟩
abbrev S8x1x69 : Shape := ⟨3, ![8, 1, 69]⟩
abbrev S8x69 : Shape := ⟨2, ![8, 69]⟩
abbrev S1x8x69 : Shape := ⟨3, ![1, 8, 69]⟩
abbrev S8x1x68 : Shape := ⟨3, ![8, 1, 68]⟩
abbrev S8x68 : Shape := ⟨2, ![8, 68]⟩
abbrev S1x8x68 : Shape := ⟨3, ![1, 8, 68]⟩
abbrev S8x1x67 : Shape := ⟨3, ![8, 1, 67]⟩
abbrev S8x67 : Shape := ⟨2, ![8, 67]⟩
abbrev S1x8x67 : Shape := ⟨3, ![1, 8, 67]⟩
abbrev S8x1x66 : Shape := ⟨3, ![8, 1, 66]⟩
abbrev S8x66 : Shape := ⟨2, ![8, 66]⟩
abbrev S1x8x66 : Shape := ⟨3, ![1, 8, 66]⟩
abbrev S8x1x65 : Shape := ⟨3, ![8, 1, 65]⟩
abbrev S8x65 : Shape := ⟨2, ![8, 65]⟩
abbrev S1x8x65 : Shape := ⟨3, ![1, 8, 65]⟩
abbrev S8x1x64 : Shape := ⟨3, ![8, 1, 64]⟩
abbrev S8x64 : Shape := ⟨2, ![8, 64]⟩
abbrev S1x8x64 : Shape := ⟨3, ![1, 8, 64]⟩
abbrev S8x1x63 : Shape := ⟨3, ![8, 1, 63]⟩
abbrev S8x63 : Shape := ⟨2, ![8, 63]⟩
abbrev S1x8x63 : Shape := ⟨3, ![1, 8, 63]⟩
abbrev S8x1x62 : Shape := ⟨3, ![8, 1, 62]⟩
abbrev S8x62 : Shape := ⟨2, ![8, 62]⟩
abbrev S1x8x62 : Shape := ⟨3, ![1, 8, 62]⟩
abbrev S8x1x61 : Shape := ⟨3, ![8, 1, 61]⟩
abbrev S8x61 : Shape := ⟨2, ![8, 61]⟩
abbrev S1x8x61 : Shape := ⟨3, ![1, 8, 61]⟩
abbrev S8x1x60 : Shape := ⟨3, ![8, 1, 60]⟩
abbrev S8x60 : Shape := ⟨2, ![8, 60]⟩
abbrev S1x8x60 : Shape := ⟨3, ![1, 8, 60]⟩
abbrev S8x1x59 : Shape := ⟨3, ![8, 1, 59]⟩
abbrev S8x59 : Shape := ⟨2, ![8, 59]⟩
abbrev S1x8x59 : Shape := ⟨3, ![1, 8, 59]⟩
abbrev S8x1x58 : Shape := ⟨3, ![8, 1, 58]⟩
abbrev S8x58 : Shape := ⟨2, ![8, 58]⟩
abbrev S1x8x58 : Shape := ⟨3, ![1, 8, 58]⟩
abbrev S8x1x57 : Shape := ⟨3, ![8, 1, 57]⟩
abbrev S8x57 : Shape := ⟨2, ![8, 57]⟩
abbrev S1x8x57 : Shape := ⟨3, ![1, 8, 57]⟩
abbrev S8x1x56 : Shape := ⟨3, ![8, 1, 56]⟩
abbrev S8x56 : Shape := ⟨2, ![8, 56]⟩
abbrev S1x8x56 : Shape := ⟨3, ![1, 8, 56]⟩
abbrev S8x1x55 : Shape := ⟨3, ![8, 1, 55]⟩
abbrev S8x55 : Shape := ⟨2, ![8, 55]⟩
abbrev S1x8x55 : Shape := ⟨3, ![1, 8, 55]⟩
abbrev S8x1x54 : Shape := ⟨3, ![8, 1, 54]⟩
abbrev S8x54 : Shape := ⟨2, ![8, 54]⟩
abbrev S1x8x54 : Shape := ⟨3, ![1, 8, 54]⟩
abbrev S8x1x53 : Shape := ⟨3, ![8, 1, 53]⟩
abbrev S8x53 : Shape := ⟨2, ![8, 53]⟩
abbrev S1x8x53 : Shape := ⟨3, ![1, 8, 53]⟩
abbrev S8x1x52 : Shape := ⟨3, ![8, 1, 52]⟩
abbrev S8x52 : Shape := ⟨2, ![8, 52]⟩
abbrev S1x8x52 : Shape := ⟨3, ![1, 8, 52]⟩
abbrev S8x1x51 : Shape := ⟨3, ![8, 1, 51]⟩
abbrev S8x51 : Shape := ⟨2, ![8, 51]⟩
abbrev S1x8x51 : Shape := ⟨3, ![1, 8, 51]⟩
abbrev S8x1x50 : Shape := ⟨3, ![8, 1, 50]⟩
abbrev S8x50 : Shape := ⟨2, ![8, 50]⟩
abbrev S1x8x50 : Shape := ⟨3, ![1, 8, 50]⟩
abbrev S8x1x49 : Shape := ⟨3, ![8, 1, 49]⟩
abbrev S8x49 : Shape := ⟨2, ![8, 49]⟩
abbrev S1x8x49 : Shape := ⟨3, ![1, 8, 49]⟩
abbrev S8x1x48 : Shape := ⟨3, ![8, 1, 48]⟩
abbrev S8x48 : Shape := ⟨2, ![8, 48]⟩
abbrev S1x8x48 : Shape := ⟨3, ![1, 8, 48]⟩
abbrev S8x1x47 : Shape := ⟨3, ![8, 1, 47]⟩
abbrev S8x47 : Shape := ⟨2, ![8, 47]⟩
abbrev S1x8x47 : Shape := ⟨3, ![1, 8, 47]⟩
abbrev S8x1x46 : Shape := ⟨3, ![8, 1, 46]⟩
abbrev S8x46 : Shape := ⟨2, ![8, 46]⟩
abbrev S1x8x46 : Shape := ⟨3, ![1, 8, 46]⟩
abbrev S8x1x45 : Shape := ⟨3, ![8, 1, 45]⟩
abbrev S8x45 : Shape := ⟨2, ![8, 45]⟩
abbrev S1x8x45 : Shape := ⟨3, ![1, 8, 45]⟩
abbrev S8x1x44 : Shape := ⟨3, ![8, 1, 44]⟩
abbrev S8x44 : Shape := ⟨2, ![8, 44]⟩
abbrev S1x8x44 : Shape := ⟨3, ![1, 8, 44]⟩
abbrev S8x1x43 : Shape := ⟨3, ![8, 1, 43]⟩
abbrev S8x43 : Shape := ⟨2, ![8, 43]⟩
abbrev S1x8x43 : Shape := ⟨3, ![1, 8, 43]⟩
abbrev S8x1x42 : Shape := ⟨3, ![8, 1, 42]⟩
abbrev S8x42 : Shape := ⟨2, ![8, 42]⟩
abbrev S1x8x42 : Shape := ⟨3, ![1, 8, 42]⟩
abbrev S8x1x41 : Shape := ⟨3, ![8, 1, 41]⟩
abbrev S8x41 : Shape := ⟨2, ![8, 41]⟩
abbrev S1x8x41 : Shape := ⟨3, ![1, 8, 41]⟩
abbrev S8x1x40 : Shape := ⟨3, ![8, 1, 40]⟩
abbrev S8x40 : Shape := ⟨2, ![8, 40]⟩
abbrev S1x8x40 : Shape := ⟨3, ![1, 8, 40]⟩
abbrev S8x1x39 : Shape := ⟨3, ![8, 1, 39]⟩
abbrev S8x39 : Shape := ⟨2, ![8, 39]⟩
abbrev S1x8x39 : Shape := ⟨3, ![1, 8, 39]⟩
abbrev S8x1x38 : Shape := ⟨3, ![8, 1, 38]⟩
abbrev S8x38 : Shape := ⟨2, ![8, 38]⟩
abbrev S1x8x38 : Shape := ⟨3, ![1, 8, 38]⟩
abbrev S8x1x37 : Shape := ⟨3, ![8, 1, 37]⟩
abbrev S8x37 : Shape := ⟨2, ![8, 37]⟩
abbrev S1x8x37 : Shape := ⟨3, ![1, 8, 37]⟩
abbrev S8x1x36 : Shape := ⟨3, ![8, 1, 36]⟩
abbrev S8x36 : Shape := ⟨2, ![8, 36]⟩
abbrev S1x8x36 : Shape := ⟨3, ![1, 8, 36]⟩
abbrev S8x1x35 : Shape := ⟨3, ![8, 1, 35]⟩
abbrev S8x35 : Shape := ⟨2, ![8, 35]⟩
abbrev S1x8x35 : Shape := ⟨3, ![1, 8, 35]⟩
abbrev S8x1x34 : Shape := ⟨3, ![8, 1, 34]⟩
abbrev S8x34 : Shape := ⟨2, ![8, 34]⟩
abbrev S1x8x34 : Shape := ⟨3, ![1, 8, 34]⟩
abbrev S8x1x33 : Shape := ⟨3, ![8, 1, 33]⟩
abbrev S8x33 : Shape := ⟨2, ![8, 33]⟩
abbrev S1x8x33 : Shape := ⟨3, ![1, 8, 33]⟩
abbrev S8x1x32 : Shape := ⟨3, ![8, 1, 32]⟩
abbrev S8x32 : Shape := ⟨2, ![8, 32]⟩
abbrev S1x8x32 : Shape := ⟨3, ![1, 8, 32]⟩
abbrev S8x1x31 : Shape := ⟨3, ![8, 1, 31]⟩
abbrev S8x31 : Shape := ⟨2, ![8, 31]⟩
abbrev S1x8x31 : Shape := ⟨3, ![1, 8, 31]⟩
abbrev S8x1x30 : Shape := ⟨3, ![8, 1, 30]⟩
abbrev S8x30 : Shape := ⟨2, ![8, 30]⟩
abbrev S1x8x30 : Shape := ⟨3, ![1, 8, 30]⟩
abbrev S8x1x29 : Shape := ⟨3, ![8, 1, 29]⟩
abbrev S8x29 : Shape := ⟨2, ![8, 29]⟩
abbrev S1x8x29 : Shape := ⟨3, ![1, 8, 29]⟩
abbrev S8x1x28 : Shape := ⟨3, ![8, 1, 28]⟩
abbrev S8x28 : Shape := ⟨2, ![8, 28]⟩
abbrev S1x8x28 : Shape := ⟨3, ![1, 8, 28]⟩
abbrev S8x1x27 : Shape := ⟨3, ![8, 1, 27]⟩
abbrev S8x27 : Shape := ⟨2, ![8, 27]⟩
abbrev S1x8x27 : Shape := ⟨3, ![1, 8, 27]⟩
abbrev S8x1x26 : Shape := ⟨3, ![8, 1, 26]⟩
abbrev S8x26 : Shape := ⟨2, ![8, 26]⟩
abbrev S1x8x26 : Shape := ⟨3, ![1, 8, 26]⟩
abbrev S8x1x25 : Shape := ⟨3, ![8, 1, 25]⟩
abbrev S8x25 : Shape := ⟨2, ![8, 25]⟩
abbrev S1x8x25 : Shape := ⟨3, ![1, 8, 25]⟩
abbrev S8x1x24 : Shape := ⟨3, ![8, 1, 24]⟩
abbrev S8x24 : Shape := ⟨2, ![8, 24]⟩
abbrev S1x8x24 : Shape := ⟨3, ![1, 8, 24]⟩
abbrev S8x1x23 : Shape := ⟨3, ![8, 1, 23]⟩
abbrev S8x23 : Shape := ⟨2, ![8, 23]⟩
abbrev S1x8x23 : Shape := ⟨3, ![1, 8, 23]⟩
abbrev S8x1x22 : Shape := ⟨3, ![8, 1, 22]⟩
abbrev S8x22 : Shape := ⟨2, ![8, 22]⟩
abbrev S1x8x22 : Shape := ⟨3, ![1, 8, 22]⟩
abbrev S8x1x21 : Shape := ⟨3, ![8, 1, 21]⟩
abbrev S8x21 : Shape := ⟨2, ![8, 21]⟩
abbrev S1x8x21 : Shape := ⟨3, ![1, 8, 21]⟩
abbrev S8x1x20 : Shape := ⟨3, ![8, 1, 20]⟩
abbrev S8x20 : Shape := ⟨2, ![8, 20]⟩
abbrev S1x8x20 : Shape := ⟨3, ![1, 8, 20]⟩
abbrev S8x1x19 : Shape := ⟨3, ![8, 1, 19]⟩
abbrev S8x19 : Shape := ⟨2, ![8, 19]⟩
abbrev S1x8x19 : Shape := ⟨3, ![1, 8, 19]⟩
abbrev S8x1x18 : Shape := ⟨3, ![8, 1, 18]⟩
abbrev S8x18 : Shape := ⟨2, ![8, 18]⟩
abbrev S1x8x18 : Shape := ⟨3, ![1, 8, 18]⟩
abbrev S8x1x17 : Shape := ⟨3, ![8, 1, 17]⟩
abbrev S8x17 : Shape := ⟨2, ![8, 17]⟩
abbrev S1x8x17 : Shape := ⟨3, ![1, 8, 17]⟩
abbrev S8x1x16 : Shape := ⟨3, ![8, 1, 16]⟩
abbrev S8x16 : Shape := ⟨2, ![8, 16]⟩
abbrev S1x8x16 : Shape := ⟨3, ![1, 8, 16]⟩
abbrev S8x1x15 : Shape := ⟨3, ![8, 1, 15]⟩
abbrev S8x15 : Shape := ⟨2, ![8, 15]⟩
abbrev S1x8x15 : Shape := ⟨3, ![1, 8, 15]⟩
abbrev S8x1x14 : Shape := ⟨3, ![8, 1, 14]⟩
abbrev S8x14 : Shape := ⟨2, ![8, 14]⟩
abbrev S1x8x14 : Shape := ⟨3, ![1, 8, 14]⟩
abbrev S8x1x13 : Shape := ⟨3, ![8, 1, 13]⟩
abbrev S8x13 : Shape := ⟨2, ![8, 13]⟩
abbrev S1x8x13 : Shape := ⟨3, ![1, 8, 13]⟩
abbrev S8x1x12 : Shape := ⟨3, ![8, 1, 12]⟩
abbrev S8x12 : Shape := ⟨2, ![8, 12]⟩
abbrev S1x8x12 : Shape := ⟨3, ![1, 8, 12]⟩
abbrev S8x1x11 : Shape := ⟨3, ![8, 1, 11]⟩
abbrev S8x11 : Shape := ⟨2, ![8, 11]⟩
abbrev S1x8x11 : Shape := ⟨3, ![1, 8, 11]⟩
abbrev S8x1x10 : Shape := ⟨3, ![8, 1, 10]⟩
abbrev S8x10 : Shape := ⟨2, ![8, 10]⟩
abbrev S1x8x10 : Shape := ⟨3, ![1, 8, 10]⟩
abbrev S8x1x9 : Shape := ⟨3, ![8, 1, 9]⟩
abbrev S8x9 : Shape := ⟨2, ![8, 9]⟩
abbrev S1x8x9 : Shape := ⟨3, ![1, 8, 9]⟩
abbrev S8x1x8 : Shape := ⟨3, ![8, 1, 8]⟩
abbrev S8x8 : Shape := ⟨2, ![8, 8]⟩
abbrev S1x8x8 : Shape := ⟨3, ![1, 8, 8]⟩
abbrev S8x1x7 : Shape := ⟨3, ![8, 1, 7]⟩
abbrev S8x7 : Shape := ⟨2, ![8, 7]⟩
abbrev S1x8x7 : Shape := ⟨3, ![1, 8, 7]⟩
abbrev S8x1x6 : Shape := ⟨3, ![8, 1, 6]⟩
abbrev S8x6 : Shape := ⟨2, ![8, 6]⟩
abbrev S1x8x6 : Shape := ⟨3, ![1, 8, 6]⟩
abbrev S8x1x5 : Shape := ⟨3, ![8, 1, 5]⟩
abbrev S8x5 : Shape := ⟨2, ![8, 5]⟩
abbrev S1x8x5 : Shape := ⟨3, ![1, 8, 5]⟩
abbrev S8x1x4 : Shape := ⟨3, ![8, 1, 4]⟩
abbrev S8x4 : Shape := ⟨2, ![8, 4]⟩
abbrev S1x8x4 : Shape := ⟨3, ![1, 8, 4]⟩
abbrev S8x1x3 : Shape := ⟨3, ![8, 1, 3]⟩
abbrev S8x3 : Shape := ⟨2, ![8, 3]⟩
abbrev S1x8x3 : Shape := ⟨3, ![1, 8, 3]⟩
abbrev S8x1x2 : Shape := ⟨3, ![8, 1, 2]⟩
abbrev S8x2 : Shape := ⟨2, ![8, 2]⟩
abbrev S1x8x2 : Shape := ⟨3, ![1, 8, 2]⟩
abbrev S8x1x1 : Shape := ⟨3, ![8, 1, 1]⟩
abbrev S8x1 : Shape := ⟨2, ![8, 1]⟩
abbrev S1x8x1 : Shape := ⟨3, ![1, 8, 1]⟩
abbrev S64x384 : Shape := ⟨2, ![64, 384]⟩
abbrev S1x512 : Shape := ⟨2, ![1, 512]⟩
abbrev S64x512 : Shape := ⟨2, ![64, 512]⟩
abbrev S512x768 : Shape := ⟨2, ![512, 768]⟩
abbrev S768x384 : Shape := ⟨2, ![768, 384]⟩
abbrev S64x768 : Shape := ⟨2, ![64, 768]⟩
abbrev S64x74304 : Shape := ⟨2, ![64, 74304]⟩
abbrev S73920x512 : Shape := ⟨2, ![73920, 512]⟩
abbrev S64x7424 : Shape := ⟨2, ![64, 7424]⟩
abbrev S7424x256 : Shape := ⟨2, ![7424, 256]⟩
abbrev S1x256 : Shape := ⟨2, ![1, 256]⟩
abbrev S64x256 : Shape := ⟨2, ![64, 256]⟩
abbrev S1x7424 : Shape := ⟨2, ![1, 7424]⟩
abbrev S64x1024 : Shape := ⟨2, ![64, 1024]⟩

abbrev nBuf : Space → Nat
  | .hbm => 28
  | .vmem => 29
  | .smem => 0
  | _ => 0

abbrev bufTy : (tb : Table) → Fin (tcTables nBuf tb) → BufTy
  | .hbm, ⟨0, _⟩ => ⟨S64x196x384, .f32⟩
  | .hbm, ⟨1, _⟩ => ⟨S64x196x196, .f32⟩
  | .hbm, ⟨2, _⟩ => ⟨S3x384, .f32⟩
  | .hbm, ⟨3, _⟩ => ⟨S512x73920, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x2048, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S3x384, .i32⟩
  | .hbm, ⟨12, _⟩ => ⟨S196x64x384, .f32⟩
  | .hbm, ⟨13, _⟩ => ⟨S196x64x196, .f32⟩
  | .hbm, ⟨14, _⟩ => ⟨S8x8x74304, .f32⟩
  | .hbm, ⟨15, _⟩ => ⟨S8x8x384, .f32⟩
  | .hbm, ⟨16, _⟩ => ⟨S64x384, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S64x512, .f32⟩
  | .hbm, ⟨21, _⟩ => ⟨S64x74304, .f32⟩
  | .hbm, ⟨22, _⟩ => ⟨S73920x512, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S64x512, .f32⟩
  | .hbm, ⟨27, _⟩ => ⟨S64x1024, .f32⟩
  | .local _ .vmem, ⟨0, _⟩ => ⟨S196x8x384, .f32⟩
  | .local _ .vmem, ⟨1, _⟩ => ⟨S196x8x384, .f32⟩
  | .local _ .vmem, ⟨2, _⟩ => ⟨S196x8x196, .f32⟩
  | .local _ .vmem, ⟨3, _⟩ => ⟨S196x8x196, .f32⟩
  | .local _ .vmem, ⟨4, _⟩ => ⟨S1x8x74304, .f32⟩
  | .local _ .vmem, ⟨5, _⟩ => ⟨S1x8x74304, .f32⟩
  | .local _ .vmem, ⟨6, _⟩ => ⟨S1x8x384, .f32⟩
  | .local _ .vmem, ⟨7, _⟩ => ⟨S1x8x384, .f32⟩
  | .local _ .vmem, ⟨8, _⟩ => ⟨S8x384x384, .f32⟩
  | .local _ .vmem, ⟨9, _⟩ => ⟨S64x384, .f32⟩
  | .local _ .vmem, ⟨10, _⟩ => ⟨S3x384, .f32⟩
  | .local _ .vmem, ⟨11, _⟩ => ⟨S3x384, .i32⟩
  | .local _ .vmem, ⟨12, _⟩ => ⟨S512x768, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S64x512, .f32⟩
  | .local _ .vmem, ⟨17, _⟩ => ⟨S64x7424, .f32⟩
  | .local _ .vmem, ⟨18, _⟩ => ⟨S64x7424, .f32⟩
  | .local _ .vmem, ⟨19, _⟩ => ⟨S7424x256, .f32⟩
  | .local _ .vmem, ⟨20, _⟩ => ⟨S7424x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S64x256, .f32⟩
  | .local _ .vmem, ⟨28, _⟩ => ⟨S64x256, .f32⟩
  | _, _ => ⟨S64x196x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc2_stg5_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S196x8x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S196x8x196 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x74304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S64x384 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S3x384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S3x384 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨2, ![2, 10], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S64x7424 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S7424x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S64x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]
-- ==== ReferenceIdeal.lean ====
abbrev S64x196x384 : Shape := ⟨3, ![64, 196, 384]⟩
abbrev S64x196x196 : Shape := ⟨3, ![64, 196, 196]⟩
abbrev S3x384 : Shape := ⟨2, ![3, 384]⟩
abbrev S512x73920 : Shape := ⟨2, ![512, 73920]⟩
abbrev S512 : Shape := ⟨1, ![512]⟩
abbrev S512x2048 : Shape := ⟨2, ![512, 2048]⟩
abbrev S_ : Shape := ⟨0, ![]⟩
abbrev S64x196 : Shape := ⟨2, ![64, 196]⟩
abbrev S64x196x1 : Shape := ⟨3, ![64, 196, 1]⟩
abbrev S64x1x196 : Shape := ⟨3, ![64, 1, 196]⟩
abbrev S196x196 : Shape := ⟨2, ![196, 196]⟩
abbrev S64 : Shape := ⟨1, ![64]⟩
abbrev S64x384 : Shape := ⟨2, ![64, 384]⟩
abbrev S64x1 : Shape := ⟨2, ![64, 1]⟩
abbrev S64x1x384 : Shape := ⟨3, ![64, 1, 384]⟩
abbrev S64x384x384 : Shape := ⟨3, ![64, 384, 384]⟩
abbrev S384x384 : Shape := ⟨2, ![384, 384]⟩
abbrev S64x1x1 : Shape := ⟨3, ![64, 1, 1]⟩
abbrev S1x384x384 : Shape := ⟨3, ![1, 384, 384]⟩
abbrev S73920 : Shape := ⟨1, ![73920]⟩
abbrev S384 : Shape := ⟨1, ![384]⟩
abbrev S1x384 : Shape := ⟨2, ![1, 384]⟩
abbrev S73920x1 : Shape := ⟨2, ![73920, 1]⟩
abbrev S73920x384 : Shape := ⟨2, ![73920, 384]⟩
abbrev S73920x2 : Shape := ⟨2, ![73920, 2]⟩
abbrev S64x73920 : Shape := ⟨2, ![64, 73920]⟩
abbrev S73920x512 : Shape := ⟨2, ![73920, 512]⟩
abbrev S64x512 : Shape := ⟨2, ![64, 512]⟩
abbrev S1x512 : Shape := ⟨2, ![1, 512]⟩
abbrev S64x768 : Shape := ⟨2, ![64, 768]⟩
abbrev S384x1 : Shape := ⟨2, ![384, 1]⟩
abbrev S64x2048 : Shape := ⟨2, ![64, 2048]⟩
abbrev S2048x512 : Shape := ⟨2, ![2048, 512]⟩
abbrev S64x1024 : Shape := ⟨2, ![64, 1024]⟩

abbrev nBuf : Space → Nat
  | .hbm => 288
  | .vmem => 0
  | .smem => 0
  | _ => 0

abbrev hbmTy0_0 (i : Nat) : BufTy := match i % 128 with
  | 0 => ⟨S64x196x384, .f32⟩
  | 1 => ⟨S64x196x196, .f32⟩
  | 2 => ⟨S3x384, .f32⟩
  | 3 => ⟨S512x73920, .f32⟩
  | 4 => ⟨S512, .f32⟩
  | 5 => ⟨S512, .f32⟩
  | 6 => ⟨S512, .f32⟩
  | 7 => ⟨S512x2048, .f32⟩
  | 8 => ⟨S512, .f32⟩
  | 9 => ⟨S512, .f32⟩
  | 10 => ⟨S512, .f32⟩
  | 11 => ⟨S3x384, .i32⟩
  | 12 => ⟨S_, .f32⟩
  | 13 => ⟨S64x196, .f32⟩
  | 14 => ⟨S_, .f32⟩
  | 15 => ⟨S64x196, .f32⟩
  | 16 => ⟨S64x196, .f32⟩
  | 17 => ⟨S64x196, .f32⟩
  | 18 => ⟨S_, .f32⟩
  | 19 => ⟨S64x196, .f32⟩
  | 20 => ⟨S64x196, .f32⟩
  | 21 => ⟨S64x196x1, .f32⟩
  | 22 => ⟨S64x196x196, .f32⟩
  | 23 => ⟨S64x196x196, .f32⟩
  | 24 => ⟨S64x1x196, .f32⟩
  | 25 => ⟨S64x196x196, .f32⟩
  | 26 => ⟨S64x196x196, .f32⟩
  | 27 => ⟨S_, .f32⟩
  | 28 => ⟨S64x196, .f32⟩
  | 29 => ⟨S196x196, .i32⟩
  | 30 => ⟨S196x196, .i32⟩
  | 31 => ⟨S_, .i32⟩
  | 32 => ⟨S196x196, .i32⟩
  | 33 => ⟨S196x196, .i32⟩
  | 34 => ⟨S196x196, .i1⟩
  | 35 => ⟨S_, .f32⟩
  | 36 => ⟨S64x196x196, .f32⟩
  | 37 => ⟨S64x196x196, .i1⟩
  | 38 => ⟨S64x196x196, .f32⟩
  | 39 => ⟨S_, .f32⟩
  | 40 => ⟨S64, .f32⟩
  | 41 => ⟨S64x384, .f32⟩
  | 42 => ⟨S64x1, .f32⟩
  | 43 => ⟨S_, .f32⟩
  | 44 => ⟨S64x1, .f32⟩
  | 45 => ⟨S64x1, .f32⟩
  | 46 => ⟨S64x384, .f32⟩
  | 47 => ⟨S64x384, .f32⟩
  | 48 => ⟨S64x1x384, .f32⟩
  | 49 => ⟨S64x196x384, .f32⟩
  | 50 => ⟨S64x196x384, .f32⟩
  | 51 => ⟨S64x196x384, .f32⟩
  | 52 => ⟨S64x384x384, .f32⟩
  | 53 => ⟨S384x384, .i32⟩
  | 54 => ⟨S384x384, .i32⟩
  | 55 => ⟨S_, .i32⟩
  | 56 => ⟨S384x384, .i32⟩
  | 57 => ⟨S384x384, .i32⟩
  | 58 => ⟨S384x384, .i1⟩
  | 59 => ⟨S_, .f32⟩
  | 60 => ⟨S64x384x384, .f32⟩
  | 61 => ⟨S64x384x384, .i1⟩
  | 62 => ⟨S64x384x384, .f32⟩
  | 63 => ⟨S_, .f32⟩
  | 64 => ⟨S64, .f32⟩
  | 65 => ⟨S64x1x1, .f32⟩
  | 66 => ⟨S_, .f32⟩
  | 67 => ⟨S64x1x1, .f32⟩
  | 68 => ⟨S64x1x1, .f32⟩
  | 69 => ⟨S64x384x384, .f32⟩
  | 70 => ⟨S64x384x384, .f32⟩
  | 71 => ⟨S384x384, .i32⟩
  | 72 => ⟨S384x384, .i32⟩
  | 73 => ⟨S_, .i32⟩
  | 74 => ⟨S384x384, .i32⟩
  | 75 => ⟨S384x384, .i32⟩
  | 76 => ⟨S384x384, .i1⟩
  | 77 => ⟨S384x384, .f32⟩
  | 78 => ⟨S64x384x384, .f32⟩
  | 79 => ⟨S_, .f32⟩
  | 80 => ⟨S384x384, .f32⟩
  | 81 => ⟨S384x384, .f32⟩
  | 82 => ⟨S64x384x384, .f32⟩
  | 83 => ⟨S1x384x384, .f32⟩
  | 84 => ⟨S64x384x384, .f32⟩
  | 85 => ⟨S64x384x384, .f32⟩
  | 86 => ⟨S64x384x384, .f32⟩
  | 87 => ⟨S_, .f32⟩
  | 88 => ⟨S64x384x384, .f32⟩
  | 89 => ⟨S64x384x384, .f32⟩
  | 90 => ⟨S_, .f32⟩
  | 91 => ⟨S384x384, .f32⟩
  | 92 => ⟨S384x384, .f32⟩
  | 93 => ⟨S64x384x384, .f32⟩
  | 94 => ⟨S1x384x384, .f32⟩
  | 95 => ⟨S64x384x384, .f32⟩
  | 96 => ⟨S64x384x384, .f32⟩
  | 97 => ⟨S64x384x384, .f32⟩
  | 98 => ⟨S_, .f32⟩
  | 99 => ⟨S64x384x384, .f32⟩
  | 100 => ⟨S64x384x384, .f32⟩
  | 101 => ⟨S_, .f32⟩
  | 102 => ⟨S384x384, .f32⟩
  | 103 => ⟨S384x384, .f32⟩
  | 104 => ⟨S64x384x384, .f32⟩
  | 105 => ⟨S1x384x384, .f32⟩
  | 106 => ⟨S64x384x384, .f32⟩
  | 107 => ⟨S64x384x384, .f32⟩
  | 108 => ⟨S64x384x384, .f32⟩
  | 109 => ⟨S_, .f32⟩
  | 110 => ⟨S64x384x384, .f32⟩
  | 111 => ⟨S64x384x384, .f32⟩
  | 112 => ⟨S_, .f32⟩
  | 113 => ⟨S64x1x1, .f32⟩
  | 114 => ⟨S64x1x1, .f32⟩
  | 115 => ⟨S64x1x1, .f32⟩
  | 116 => ⟨S64x384x384, .f32⟩
  | 117 => ⟨S64x384x384, .f32⟩
  | 118 => ⟨S73920, .i32⟩
  | 119 => ⟨S384, .i32⟩
  | 120 => ⟨S_, .i32⟩
  | 121 => ⟨S384, .i32⟩
  | 122 => ⟨S384, .i32⟩
  | 123 => ⟨S384, .i32⟩
  | 124 => ⟨S1x384, .i32⟩
  | 125 => ⟨S73920x1, .i32⟩
  | 126 => ⟨S_, .i32⟩
  | 127 => ⟨S73920x1, .i32⟩
  | _ => ⟨S64x196x384, .f32⟩

abbrev hbmTy0_1 (i : Nat) : BufTy := match i % 128 with
  | 0 => ⟨S73920x1, .i32⟩
  | 1 => ⟨S73920x384, .i32⟩
  | 2 => ⟨S73920x384, .i32⟩
  | 3 => ⟨S73920x384, .i1⟩
  | 4 => ⟨S73920x384, .i32⟩
  | 5 => ⟨S_, .i32⟩
  | 6 => ⟨S73920, .i32⟩
  | 7 => ⟨S_, .i32⟩
  | 8 => ⟨S73920, .i32⟩
  | 9 => ⟨S73920, .i32⟩
  | 10 => ⟨S_, .i32⟩
  | 11 => ⟨S73920, .i32⟩
  | 12 => ⟨S73920, .i32⟩
  | 13 => ⟨S73920, .i32⟩
  | 14 => ⟨S_, .i32⟩
  | 15 => ⟨S73920, .i32⟩
  | 16 => ⟨S73920, .i32⟩
  | 17 => ⟨S73920, .i32⟩
  | 18 => ⟨S_, .i32⟩
  | 19 => ⟨S73920, .i32⟩
  | 20 => ⟨S73920, .i32⟩
  | 21 => ⟨S73920, .i32⟩
  | 22 => ⟨S_, .i32⟩
  | 23 => ⟨S73920, .i32⟩
  | 24 => ⟨S73920, .i1⟩
  | 25 => ⟨S_, .i32⟩
  | 26 => ⟨S73920, .i32⟩
  | 27 => ⟨S73920, .i32⟩
  | 28 => ⟨S73920, .i32⟩
  | 29 => ⟨S_, .i32⟩
  | 30 => ⟨S73920, .i32⟩
  | 31 => ⟨S73920, .i1⟩
  | 32 => ⟨S_, .i32⟩
  | 33 => ⟨S73920, .i32⟩
  | 34 => ⟨S73920, .i32⟩
  | 35 => ⟨S73920, .i32⟩
  | 36 => ⟨S73920x1, .i32⟩
  | 37 => ⟨S73920x1, .i32⟩
  | 38 => ⟨S73920x2, .i32⟩
  | 39 => ⟨S64x73920, .f32⟩
  | 40 => ⟨S73920x512, .f32⟩
  | 41 => ⟨S64x512, .f32⟩
  | 42 => ⟨S1x512, .f32⟩
  | 43 => ⟨S64x512, .f32⟩
  | 44 => ⟨S64x512, .f32⟩
  | 45 => ⟨S_, .f32⟩
  | 46 => ⟨S64x512, .f32⟩
  | 47 => ⟨S64x512, .f32⟩
  | 48 => ⟨S1x512, .f32⟩
  | 49 => ⟨S64x512, .f32⟩
  | 50 => ⟨S64x512, .f32⟩
  | 51 => ⟨S1x512, .f32⟩
  | 52 => ⟨S64x512, .f32⟩
  | 53 => ⟨S64x512, .f32⟩
  | 54 => ⟨S_, .f32⟩
  | 55 => ⟨S64x512, .f32⟩
  | 56 => ⟨S64x512, .f32⟩
  | 57 => ⟨S64x512, .f32⟩
  | 58 => ⟨S_, .f32⟩
  | 59 => ⟨S64x512, .f32⟩
  | 60 => ⟨S64x512, .f32⟩
  | 61 => ⟨S64x512, .f32⟩
  | 62 => ⟨S64x512, .f32⟩
  | 63 => ⟨S64x196x1, .f32⟩
  | 64 => ⟨S64x196x384, .f32⟩
  | 65 => ⟨S64x196x384, .f32⟩
  | 66 => ⟨S_, .f32⟩
  | 67 => ⟨S64x384, .f32⟩
  | 68 => ⟨S64x1, .f32⟩
  | 69 => ⟨S_, .f32⟩
  | 70 => ⟨S64x1, .f32⟩
  | 71 => ⟨S64x1, .f32⟩
  | 72 => ⟨S64x384, .f32⟩
  | 73 => ⟨S64x384, .f32⟩
  | 74 => ⟨S_, .f32⟩
  | 75 => ⟨S64x768, .f32⟩
  | 76 => ⟨S_, .f32⟩
  | 77 => ⟨S64x768, .f32⟩
  | 78 => ⟨S1x384, .i32⟩
  | 79 => ⟨S384, .i32⟩
  | 80 => ⟨S1x384, .f32⟩
  | 81 => ⟨S384, .f32⟩
  | 82 => ⟨S1x384, .f32⟩
  | 83 => ⟨S64x384, .f32⟩
  | 84 => ⟨S64x384, .f32⟩
  | 85 => ⟨S_, .i32⟩
  | 86 => ⟨S384, .i32⟩
  | 87 => ⟨S384, .i1⟩
  | 88 => ⟨S_, .i32⟩
  | 89 => ⟨S384, .i32⟩
  | 90 => ⟨S384, .i32⟩
  | 91 => ⟨S384, .i32⟩
  | 92 => ⟨S384x1, .i32⟩
  | 93 => ⟨S64x768, .f32⟩
  | 94 => ⟨S64x768, .f32⟩
  | 95 => ⟨S_, .f32⟩
  | 96 => ⟨S64x768, .f32⟩
  | 97 => ⟨S1x384, .i32⟩
  | 98 => ⟨S384, .i32⟩
  | 99 => ⟨S1x384, .f32⟩
  | 100 => ⟨S384, .f32⟩
  | 101 => ⟨S1x384, .f32⟩
  | 102 => ⟨S64x384, .f32⟩
  | 103 => ⟨S64x384, .f32⟩
  | 104 => ⟨S_, .i32⟩
  | 105 => ⟨S384, .i32⟩
  | 106 => ⟨S384, .i1⟩
  | 107 => ⟨S_, .i32⟩
  | 108 => ⟨S384, .i32⟩
  | 109 => ⟨S384, .i32⟩
  | 110 => ⟨S384, .i32⟩
  | 111 => ⟨S384x1, .i32⟩
  | 112 => ⟨S64x768, .f32⟩
  | 113 => ⟨S64x768, .f32⟩
  | 114 => ⟨S_, .f32⟩
  | 115 => ⟨S64x768, .f32⟩
  | 116 => ⟨S1x384, .i32⟩
  | 117 => ⟨S384, .i32⟩
  | 118 => ⟨S1x384, .f32⟩
  | 119 => ⟨S384, .f32⟩
  | 120 => ⟨S1x384, .f32⟩
  | 121 => ⟨S64x384, .f32⟩
  | 122 => ⟨S64x384, .f32⟩
  | 123 => ⟨S_, .i32⟩
  | 124 => ⟨S384, .i32⟩
  | 125 => ⟨S384, .i1⟩
  | 126 => ⟨S_, .i32⟩
  | 127 => ⟨S384, .i32⟩
  | _ => ⟨S64x196x384, .f32⟩

abbrev hbmTy0_2 (i : Nat) : BufTy := match i % 128 with
  | 0 => ⟨S384, .i32⟩
  | 1 => ⟨S384, .i32⟩
  | 2 => ⟨S384x1, .i32⟩
  | 3 => ⟨S64x768, .f32⟩
  | 4 => ⟨S64x768, .f32⟩
  | 5 => ⟨S_, .i32⟩
  | 6 => ⟨S_, .f32⟩
  | 7 => ⟨S64x2048, .f32⟩
  | 8 => ⟨S2048x512, .f32⟩
  | 9 => ⟨S64x512, .f32⟩
  | 10 => ⟨S1x512, .f32⟩
  | 11 => ⟨S64x512, .f32⟩
  | 12 => ⟨S64x512, .f32⟩
  | 13 => ⟨S_, .f32⟩
  | 14 => ⟨S64x512, .f32⟩
  | 15 => ⟨S64x512, .f32⟩
  | 16 => ⟨S1x512, .f32⟩
  | 17 => ⟨S64x512, .f32⟩
  | 18 => ⟨S64x512, .f32⟩
  | 19 => ⟨S1x512, .f32⟩
  | 20 => ⟨S64x512, .f32⟩
  | 21 => ⟨S64x512, .f32⟩
  | 22 => ⟨S_, .f32⟩
  | 23 => ⟨S64x512, .f32⟩
  | 24 => ⟨S64x512, .f32⟩
  | 25 => ⟨S64x512, .f32⟩
  | 26 => ⟨S_, .f32⟩
  | 27 => ⟨S64x512, .f32⟩
  | 28 => ⟨S64x512, .f32⟩
  | 29 => ⟨S64x512, .f32⟩
  | 30 => ⟨S64x512, .f32⟩
  | 31 => ⟨S64x1024, .f32⟩
  | _ => ⟨S64x196x384, .f32⟩

abbrev hbmTy (i : Nat) : BufTy := match i / 128 with
  | 0 => hbmTy0_0 i
  | 1 => hbmTy0_1 i
  | 2 => hbmTy0_2 i
  | _ => ⟨S64x196x384, .f32⟩

abbrev bufTy : (tb : Table) → Fin (tcTables nBuf tb) → BufTy
  | .hbm, ⟨i, _⟩ => hbmTy i
  | _, _ => ⟨S64x196x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_call0_v0 : Ref sig .tc := ⟨.hbm, 29, rfl⟩
abbrev main_call0_v1 : Ref sig .tc := ⟨.hbm, 30, rfl⟩
abbrev main_call0_c : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_cst : Ref sig .tc := ⟨.hbm, 35, rfl⟩
abbrev main_call0_v5 : Ref sig .tc := ⟨.hbm, 36, rfl⟩
abbrev main_call0_call0_v0 : Ref sig .tc := ⟨.hbm, 37, rfl⟩
abbrev main_call0_v6 : Ref sig .tc := ⟨.hbm, 38, rfl⟩
abbrev main_call0_cst_0 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_3 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_call1_v0 : Ref sig .tc := ⟨.hbm, 53, rfl⟩
abbrev main_call1_v1 : Ref sig .tc := ⟨.hbm, 54, rfl⟩
abbrev main_call1_c : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_cst : Ref sig .tc := ⟨.hbm, 59, rfl⟩
abbrev main_call1_v5 : Ref sig .tc := ⟨.hbm, 60, rfl⟩
abbrev main_call1_call0_v0 : Ref sig .tc := ⟨.hbm, 61, rfl⟩
abbrev main_call1_v6 : Ref sig .tc := ⟨.hbm, 62, rfl⟩
abbrev main_call1_cst_0 : Ref sig .tc := ⟨.hbm, 63, rfl⟩
abbrev main_v25 : Ref sig .tc := ⟨.hbm, 64, rfl⟩
abbrev main_v26 : Ref sig .tc := ⟨.hbm, 65, rfl⟩
abbrev main_cst_4 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_c : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_cst_5 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_cst_6 : Ref sig .tc := ⟨.hbm, 87, rfl⟩
abbrev main_v45 : Ref sig .tc := ⟨.hbm, 88, rfl⟩
abbrev main_v46 : Ref sig .tc := ⟨.hbm, 89, rfl⟩
abbrev main_cst_7 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_cst_8 : Ref sig .tc := ⟨.hbm, 98, rfl⟩
abbrev main_v54 : Ref sig .tc := ⟨.hbm, 99, rfl⟩
abbrev main_v55 : Ref sig .tc := ⟨.hbm, 100, rfl⟩
abbrev main_cst_9 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_cst_10 : Ref sig .tc := ⟨.hbm, 109, rfl⟩
abbrev main_v63 : Ref sig .tc := ⟨.hbm, 110, rfl⟩
abbrev main_v64 : Ref sig .tc := ⟨.hbm, 111, rfl⟩
abbrev main_cst_11 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_c_12 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_c_13 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_c_14 : Ref sig .tc := ⟨.hbm, 133, rfl⟩
abbrev main_v83 : Ref sig .tc := ⟨.hbm, 134, rfl⟩
abbrev main_c_15 : Ref sig .tc := ⟨.hbm, 135, rfl⟩
abbrev main_v84 : Ref sig .tc := ⟨.hbm, 136, rfl⟩
abbrev main_v85 : Ref sig .tc := ⟨.hbm, 137, rfl⟩
abbrev main_c_16 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_c_17 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_c_18 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_c_19 : Ref sig .tc := ⟨.hbm, 150, rfl⟩
abbrev main_v95 : Ref sig .tc := ⟨.hbm, 151, rfl⟩
abbrev main_v96 : Ref sig .tc := ⟨.hbm, 152, rfl⟩
abbrev main_c_20 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_c_21 : Ref sig .tc := ⟨.hbm, 157, rfl⟩
abbrev main_v100 : Ref sig .tc := ⟨.hbm, 158, rfl⟩
abbrev main_v101 : Ref sig .tc := ⟨.hbm, 159, rfl⟩
abbrev main_c_22 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_cst_23 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_cst_24 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_cst_25 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_cst_26 : Ref sig .tc := ⟨.hbm, 194, rfl⟩
abbrev main_v132 : Ref sig .tc := ⟨.hbm, 195, rfl⟩
abbrev main_v133 : Ref sig .tc := ⟨.hbm, 196, rfl⟩
abbrev main_cst_27 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_cst_28 : Ref sig .tc := ⟨.hbm, 202, rfl⟩
abbrev main_v138 : Ref sig .tc := ⟨.hbm, 203, rfl⟩
abbrev main_cst_29 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_c_30 : Ref sig .tc := ⟨.hbm, 213, rfl⟩
abbrev main_v147 : Ref sig .tc := ⟨.hbm, 214, rfl⟩
abbrev main_v148 : Ref sig .tc := ⟨.hbm, 215, rfl⟩
abbrev main_c_31 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_cst_32 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_c_33 : Ref sig .tc := ⟨.hbm, 232, rfl⟩
abbrev main_v163 : Ref sig .tc := ⟨.hbm, 233, rfl⟩
abbrev main_v164 : Ref sig .tc := ⟨.hbm, 234, rfl⟩
abbrev main_c_34 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_cst_35 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_c_36 : Ref sig .tc := ⟨.hbm, 251, rfl⟩
abbrev main_v179 : Ref sig .tc := ⟨.hbm, 252, rfl⟩
abbrev main_v180 : Ref sig .tc := ⟨.hbm, 253, rfl⟩
abbrev main_c_37 : Ref sig .tc := ⟨.hbm, 254, rfl⟩
abbrev main_v181 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_c_38 : Ref sig .tc := ⟨.hbm, 261, rfl⟩
abbrev main_call2_v0 : Ref sig .tc := ⟨.hbm, 262, rfl⟩
abbrev main_v187 : Ref sig .tc := ⟨.hbm, 263, rfl⟩
abbrev main_v188 : Ref sig .tc := ⟨.hbm, 264, rfl⟩
abbrev main_v189 : Ref sig .tc := ⟨.hbm, 265, rfl⟩
abbrev main_v190 : Ref sig .tc := ⟨.hbm, 266, rfl⟩
abbrev main_v191 : Ref sig .tc := ⟨.hbm, 267, rfl⟩
abbrev main_v192 : Ref sig .tc := ⟨.hbm, 268, rfl⟩
abbrev main_cst_39 : Ref sig .tc := ⟨.hbm, 269, rfl⟩
abbrev main_v193 : Ref sig .tc := ⟨.hbm, 270, rfl⟩
abbrev main_v194 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_v198 : Ref sig .tc := ⟨.hbm, 275, rfl⟩
abbrev main_v199 : Ref sig .tc := ⟨.hbm, 276, rfl⟩
abbrev main_v200 : Ref sig .tc := ⟨.hbm, 277, rfl⟩
abbrev main_cst_40 : Ref sig .tc := ⟨.hbm, 278, rfl⟩
abbrev main_v201 : Ref sig .tc := ⟨.hbm, 279, rfl⟩
abbrev main_v202 : Ref sig .tc := ⟨.hbm, 280, rfl⟩
abbrev main_v203 : Ref sig .tc := ⟨.hbm, 281, rfl⟩
abbrev main_cst_41 : Ref sig .tc := ⟨.hbm, 282, rfl⟩
abbrev main_v204 : Ref sig .tc := ⟨.hbm, 283, rfl⟩
abbrev main_v205 : Ref sig .tc := ⟨.hbm, 284, rfl⟩
abbrev main_v206 : Ref sig .tc := ⟨.hbm, 285, rfl⟩
abbrev main_v207 : Ref sig .tc := ⟨.hbm, 286, rfl⟩
abbrev main_v208 : Ref sig .tc := ⟨.hbm, 287, rfl⟩

abbrev nD : Nat := 1
abbrev τ : Topo := Topo.v7x

variable {F : FTy → Type} [FloatOps F]
-- ==== Proof.Loop.lean ====
/- Stage 1's body as two counted loops: eight rows of moments, then the triangle's rows copied one after another. -/
module

public import proofs.«01_k».proof.Proof.Gen.KernelIdeal.Skeleton
public import Idealize.ShloMosaic.Lib.ShapeFacts

@[expose] public section

set_option maxRecDepth 16384

noncomputable section

namespace Cert.KernelIdeal.Gen

open Idealize.ShloMosaic Idealize.SL.Sem

variable {F : FTy → Type} [FloatOps F]

/-- The row of first moments of one sample, from its graph and its tokens. -/
def wcPay (gm : Vec F S196x1x196 .f32) (t : Vec F S196x1x384 .f32) : FVec F S1x1x384 .f32 :=
  k0_pay9 (k0_pay6 gm) (k0_pay8 gm t)

/-- The square root of the second moments of one sample. -/
def yPay (gm : Vec F S196x1x196 .f32) (t : Vec F S196x1x384 .f32) : FVec F S1x384x384 .f32 :=
  k0_pay14 (k0_pay12 (k0_pay3 gm) (k0_pay4 gm) (k0_pay7 gm t))
    (k0_pay13 k0_pay2 (k0_pay3 gm) (k0_pay4 gm) (k0_pay7 gm t)) (Scalar.ofBits .f32 0x3727C5AC#32)

/-- Where the triangle's row with `n + 1` entries begins. -/
abbrev rowOff (n : Nat) : Nat := 73920 - (n + 1) * (n + 2) / 2

theorem rowOff_le {n : Nat} (h : n < 384) : rowOff n + (n + 1) ≤ 73920 := by
  have h1 : (n + 1) * 2 ≤ (n + 1) * (n + 2) := by
    rcases n with _ | n
    · decide
    · exact Nat.mul_le_mul_left _ (by omega)
  have h2 : (n + 1) * (n + 2) ≤ 384 * 385 := Nat.mul_le_mul (by omega) (by omega)
  show 73920 - (n + 1) * (n + 2) / 2 + (n + 1) ≤ 73920
  omega

/-- The shape read of the scratch for the row with `n + 1` entries. -/
abbrev SRow (n : Nat) : Shape := ⟨3, ![8, 1, n + 1]⟩
/-- The same row as eight rows of entries. -/
abbrev SMid (n : Nat) : Shape := ⟨2, ![8, n + 1]⟩
/-- The same row as written to the block. -/
abbrev SOut (n : Nat) : Shape := ⟨3, ![1, 8, n + 1]⟩

theorem inbRow {n : Nat} (h : n < 384) :
    ∀ a, (![0, 383 - n, 383 - n] : Fin 3 → Nat) a + (SRow n).size a ≤ S8x384x384.size a :=
  Fin.forall_fin_succ.mpr ⟨Nat.le_refl _, Fin.forall_fin_succ.mpr ⟨by show 383 - n + 1 ≤ 384; omega,
    Fin.forall_fin_one.mpr (by show 383 - n + (n + 1) ≤ 384; omega)⟩⟩

theorem inbOut {n : Nat} (h : n < 384) :
    ∀ a, (![0, 0, rowOff n] : Fin 3 → Nat) a + (SOut n).size a ≤ S1x8x74304.size a :=
  Fin.forall_fin_succ.mpr ⟨Nat.le_refl _, Fin.forall_fin_succ.mpr ⟨Nat.le_refl _,
    Fin.forall_fin_one.mpr (by
      show rowOff n + (n + 1) ≤ 74304
      exact (rowOff_le h).trans (by decide))⟩⟩

theorem posRow (n : Nat) : 0 < (SRow n).numel := by
  show 0 < ∏ a, (SRow n).size a
  simp [Fin.prod_univ_succ]

theorem posOut (n : Nat) : 0 < (SOut n).numel := by
  show 0 < ∏ a, (SOut n).size a
  simp [Fin.prod_univ_succ]

theorem castIn (n : Nat) : (SRow n).ShapeCasts (SMid n) := by
  simp [Shape.ShapeCasts, Shape.numel_rank3, Shape.numel_rank2]

theorem castOut (n : Nat) : (SMid n).ShapeCasts (SOut n) := by
  simp [Shape.ShapeCasts, Shape.numel_rank3, Shape.numel_rank2]

/-- A row of the scratch, laid out as the block wants it. -/
def rowPay (n : Nat) (v : Vec F (SRow n) .f32) : FVec F (SOut n) .f32 :=
  shapeCast (SOut n) (shapeCast (SMid n) v (castIn n)) (castOut n)

variable (arg1 : Memref sig .tc .vmem S196x8x384 .f32) (arg2 : Memref sig .tc .vmem S196x8x196 .f32)
  (arg3 : Memref sig .tc .vmem S1x8x74304 .f32) (arg4 : Memref sig .tc .vmem S1x8x384 .f32)
  (arg5 : Memref sig .tc .vmem S8x384x384 .f32)

/-- The copy of one row of the triangle. -/
def copyRow (n : Nat) (h : n < 384) : Prog (TpuEff nD τ sig (Elt F) Λ₀ .tc) PUnit := do
  let v : Vec F (SRow n) .f32 ← Prog.lift (.load arg5 (Rect.unit (s := S8x384x384) ![0, 383 - n, 383 - n] (SRow n).size (inbRow h)).toLoadRect (View.loadsAt_vmem (posRow n)))
  let w : Vec F (SOut n) .f32 ← Prog.lift (.load arg3 (Rect.unit (s := S1x8x74304) ![0, 0, rowOff n] (SOut n).size (inbOut h)).toLoadRect (View.loadsAt_vmem (posOut n)))
  Prog.lift (.store arg3 (Rect.unit (s := S1x8x74304) ![0, 0, rowOff n] (SOut n).size (inbOut h)) (rowPay n v) Finset.univ (View.stores_vmem_bits_univ (posOut n) rfl) (.inl rfl))

/-- The last `m` rows of the triangle, the longest first. -/
def copyRows : (m : Nat) → m ≤ 384 → Prog (TpuEff nD τ sig (Elt F) Λ₀ .tc) PUnit :=
  Nat.rec (fun _ => pure ⟨⟩) fun n ih h => do
    copyRow arg3 arg5 n h
    ih (Nat.le_of_succ_le h)

theorem inbG {g : Nat} (h : g < 8) : ∀ a, (![0, g, 0] : Fin 3 → Nat) a + S196x1x196.size a ≤ S196x8x196.size a :=
  Fin.forall_fin_succ.mpr ⟨Nat.le_refl _, Fin.forall_fin_succ.mpr ⟨by show g + 1 ≤ 8; omega, Fin.forall_fin_one.mpr (Nat.le_refl _)⟩⟩
theorem inbT {g : Nat} (h : g < 8) : ∀ a, (![0, g, 0] : Fin 3 → Nat) a + S196x1x384.size a ≤ S196x8x384.size a :=
  Fin.forall_fin_succ.mpr ⟨Nat.le_refl _, Fin.forall_fin_succ.mpr ⟨by show g + 1 ≤ 8; omega, Fin.forall_fin_one.mpr (Nat.le_refl _)⟩⟩
theorem inbW {g : Nat} (h : g < 8) : ∀ a, (![0, g, 0] : Fin 3 → Nat) a + S1x1x384.size a ≤ S1x8x384.size a :=
  Fin.forall_fin_succ.mpr ⟨Nat.le_refl _, Fin.forall_fin_succ.mpr ⟨by show g + 1 ≤ 8; omega, Fin.forall_fin_one.mpr (Nat.le_refl _)⟩⟩
theorem inbY {g : Nat} (h : g < 8) : ∀ a, (![g, 0, 0] : Fin 3 → Nat) a + S1x384x384.size a ≤ S8x384x384.size a :=
  Fin.forall_fin_succ.mpr ⟨by show g + 1 ≤ 8; omega, Fin.forall_fin_succ.mpr ⟨Nat.le_refl _, Fin.forall_fin_one.mpr (Nat.le_refl _)⟩⟩

/-- One sample's moments. -/
def momentRow (g : Nat) (h : g < 8) : Prog (TpuEff nD τ sig (Elt F) Λ₀ .tc) PUnit := do
  let gm : Vec F S196x1x196 .f32 ← Prog.lift (.load arg2 (Rect.unit (s := S196x8x196) ![0, g, 0] S196x1x196.size (inbG h)).toLoadRect (View.loadsAt_vmem h_S196x1x196))
  let t : Vec F S196x1x384 .f32 ← Prog.lift (.load arg1 (Rect.unit (s := S196x8x384) ![0, g, 0] S196x1x384.size (inbT h)).toLoadRect (View.loadsAt_vmem h_S196x1x384))
  let w : Vec F S1x1x384 .f32 ← Prog.lift (.load arg4 (Rect.unit (s := S1x8x384) ![0, g, 0] S1x1x384.size (inbW h)).toLoadRect (View.loadsAt_vmem h_S1x1x384))
  Prog.lift (.store arg4 (Rect.unit (s := S1x8x384) ![0, g, 0] S1x1x384.size (inbW h)) (wcPay gm t) Finset.univ (View.stores_vmem_bits_univ h_S1x1x384 rfl) (.inl rfl))
  let y : Vec F S1x384x384 .f32 ← Prog.lift (.load arg5 (Rect.unit (s := S8x384x384) ![g, 0, 0] S1x384x384.size (inbY h)).toLoadRect (View.loadsAt_vmem h_S1x384x384))
  Prog.lift (.store arg5 (Rect.unit (s := S8x384x384) ![g, 0, 0] S1x384x384.size (inbY h)) (yPay gm t) Finset.univ (View.stores_vmem_bits_univ h_S1x384x384 rfl) (.inl rfl))

/-- The last `m` samples' moments. -/
def momentRows : (m : Nat) → m ≤ 8 → Prog (TpuEff nD τ sig (Elt F) Λ₀ .tc) PUnit :=
  Nat.rec (fun _ => pure ⟨⟩) fun n ih h => do
    momentRow arg1 arg2 arg4 arg5 (7 - n) (by omega)
    ih (Nat.le_of_succ_le h)

set_option maxRecDepth 1000000 in
set_option maxHeartbeats 0 in
/-- Stage 1's body is the two loops, one after the other. -/
theorem stage1_eq (i : grid0.Coords) (harg1 : arg1.IsWhole) (harg2 : arg2.IsWhole) (harg3 : arg3.IsWhole) (harg4 : arg4.IsWhole) (harg5 : arg5.IsWhole) :
    cc0_moment_stage1 (F := F) i arg1 harg1 arg2 harg2 arg3 harg3 arg4 harg4 arg5 harg5 =
      (do momentRows arg1 arg2 arg4 arg5 8 (Nat.le_refl _); copyRows arg3 arg5 384 (Nat.le_refl _)) := rfl

end Cert.KernelIdeal.Gen
-- ==== Proof.Base.lean ====
/-
  The resource algebra of the whole run, and ONE record for a kernel region entered from every unscoped buffer at a
  valuation: whatever the region's arrays may hold at its end is named by an unknown `o`, which meets a pure fact.
  Every region of the program is an instance.
-/
module

public import proofs.«01_k».proof.Proof.Gen.KernelIdeal.Regions
public import Idealize.ShloMosaic.Lib.Pipeline.RegionsForgetLinks
public import Idealize.ShloMosaic.Lib.Pipeline.RegionArrays
public import Idealize.ShloMosaic.Lib.Pipeline.ArrRel
public import Idealize.ShloMosaic.Lib.Pipeline.DatRel

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

/-- One copy of the pipelines' algebra for each of the three calls, beside an algebra of counters that is not used. -/
abbrev UU : Type := IProdConst (Fin 3) (UR sig nD τ) × Counters

local notation "𝕄" => MT nD τ sig Unit (Elt F) ℕ UU ℕ

/-- No wait is levelled: nobody owes anything. -/
abbrev Lv : GSem nD τ sig → Finset Unit := fun _ => ∅
abbrev lv : GSem nD τ sig → Unit → ℕ := fun _ _ => 0

/-- What a call's scoped buffers are between its points, in this certificate: all that no window stages, at any contents. -/
abbrev Rest {gr W : Nat} (spec : Fin W → Pipeline.WinSpec sig gr) (c : Dev nD) : sProp 𝕄 :=
  Pipeline.scopedRest (Ix := Unit) (Name := ℕ) (U := UU) (Lvl := ℕ) (Val := Elt F) spec c

/-- Data for a call that is not the one being entered. -/
def idleDat {cfg : Pipeline.Cfg sig Λ₀} (c : Dev nD) : Dat τ (Elt F) Unit ℕ UU ℕ cfg c where
  A _ := fun _ => Classical.arbitrary _
  after _ _ := fun _ => Classical.arbitrary _
  Φ _ := BI.emp
  q _ := fullShare
  owed _ := 0

/-- The thread's state between two items of the program: every unscoped buffer at `V`, and nothing owed. -/
abbrev St (V : Valuation τ sig (Elt F)) (c : Dev nD) : sProp 𝕄 :=
  iprop(StableHlo.held (c : Thread nD τ) (Pipeline.ucRefs τ sig) V ∗ ∃ W, owes (c : Thread nD τ) (0 : CellTallies nD τ sig Unit) W)

set_option maxHeartbeats 1000000 in
set_option backward.isDefEq.respectTransparency.types false in
/-- A call entered with every unscoped buffer at `V c`. Its data (`rds p`) read the arrays off `V c`, keep the scoped
    buffers at any contents, and owe nothing. At its end the arrays hold contents allowed by the data; `hV'` says that
    then some unknown `o` meets `sel o c` and the buffers are `V' o c`. -/
def callRec {O : Type} (p : Fin 3) (rds : (q : Fin 3) → (c : Dev nD) → RDat τ (Elt F) Unit ℕ UU ℕ (Pipeline.pin (pcfgs (F := F)) adm q) c)
    (kit : Pipeline.PLaunchFacts (nD := nD) (τ := τ) (pcfgs (F := F)) p)
    (hbody : ∀ c, (rds p c).BodyObligation (defs₀ (F := F)) Variants.none () Set.univ)
    (howed : ∀ c t, (rds p c).owed t = 0) (hrec : ∀ c, (rds p c).recorded 0 = Set.univ)
    (hshare : ∀ c w, (rds p c).share w = fullShare)
    (hΦ : ∀ c t, (rds p c).Φ t = Rest (pcfgs (F := F) p).spec c)
    (V : Dev nD → Valuation τ sig (Elt F)) (V' : O → Dev nD → Valuation τ sig (Elt F)) (sel : O → Dev nD → Prop)
    (hA : ∀ c w, (rds p c).A w = V c (Pipeline.arrRef (Pipeline.pin (pcfgs (F := F)) adm p).spec w))
    (hV' : ∀ c (A : (w : Fin (Pipeline.pin (pcfgs (F := F)) adm p).W) → Buf (Elt F) (((Pipeline.pin (pcfgs (F := F)) adm p).spec w).arr.view.loc (c.tc : Thread nD τ))),
      (∀ w, (rds p c).ArrAt w (Pipeline.pin (pcfgs (F := F)) adm p).N (A w)) →
      ∃ o, sel o c ∧ (∀ w, A w = V' o c (Pipeline.arrRef (Pipeline.pin (pcfgs (F := F)) adm p).spec w))
        ∧ ∀ b : Ref sig .tc, b ∉ Finset.univ.image (Pipeline.arrRef (Pipeline.pin (pcfgs (F := F)) adm p).spec) → V' o c b = V c b) :
    RDat.RegionSeg (pcfgs (F := F)) adm rds () defs₀ Variants.none Lv lv p where
  win := kit.to₀.win
  block_pos := kit.to₀.block_pos
  stage_whole := kit.to₀.stage_whole
  K := PEmpty
  osem k := k.elim
  ho := Pipeline.OwnSemFacts.none _
  hbody := hbody
  hwaits := Pipeline.RDat.hwaits_of_owed_zero _ _ _ _ Lv lv p howed
  pre c := St (V c) c
  post c := iprop(∃ o, ⌜sel o c⌝ ∗ St (V' o c) c)
  X _ := BI.emp
  Y _ := BI.emp
  Z c := Pipeline.unscopedRest (Ix := Unit) (Name := ℕ) (U := UU) (Lvl := ℕ) (Pipeline.pin (pcfgs (F := F)) adm p).spec c (fun b => V c b)
  hentry c := by
    rw [Pipeline.ownSems0_none]
    have hsplit := Pipeline.RDat.arrays_of_unscopedBufs (p := p) (pcfgs (F := F)) adm rds kit.win kit.arr_whole c (hshare c) (fun b => V c b) (hA c)
    unfold St
    rw [← Pipeline.unscopedBufs_held (Ix := Unit) (Name := ℕ) (U := UU) (Lvl := ℕ) c (V c)]
    iintro ⟨⟨Hub, HO⟩, -, -⟩
    ihave H := hsplit $$ Hub
    icases H with ⟨Ha, Hrest⟩
    imodintro
    isplitl [Ha]; · iexact Ha
    isplitr; · rw [Pipeline.prefHeld_of_none _ (by fin_cases p <;> rfl)]; iempintro
    isplitl [HO]
    · unfold RDat.owesAt Pipeline.owesWithin RDat.bound
      rw [howed c 0, hrec c]
      icases HO with ⟨%W, HO⟩; iexists W; isplitr; · ipureintro; exact fun _ _ => Or.inl trivial
      iexact HO
    isplitr; · iempintro
    iexact Hrest
  hin c := by
    rw [hΦ]
    iintro ⟨-, -, Hr⟩; iexact Hr
  hout c := by
    rw [Pipeline.ownSems0_none, hΦ]
    iintro Hr
    isplitr; · iempintro
    isplitr; · iempintro
    iexact Hr
  hexit c := by
    rw [Pipeline.RDat.arraysAt_eq (pcfgs (F := F)) adm rds p c kit.arr_whole (hshare c)]
    iintro ⟨Ha, HO, -, Hrest⟩
    ihave Ha := (BI.bigSep_exists_pi Finset.univ _) $$ Ha
    icases Ha with ⟨%A, Ha⟩
    ihave Ha := (BI.bigSep_pure_sep Finset.univ (fun w => (rds p c).ArrAt w (Pipeline.pin (pcfgs (F := F)) adm p).N (A w)) _) $$ Ha
    icases Ha with ⟨%hF, Ha⟩
    obtain ⟨o, ho, hA', hne⟩ := hV' c A fun w => hF w (Finset.mem_univ w)
    imodintro
    iexists o
    isplitr; · ipureintro; exact ho
    have hjoin : iprop((bigSep Finset.univ fun w => (((c.tc : Thread nD τ).loc (Pipeline.arrRef (Pipeline.pin (pcfgs (F := F)) adm p).spec w)) ↦{fullShare} A w : sProp 𝕄))
        ∗ Pipeline.unscopedRest (Pipeline.pin (pcfgs (F := F)) adm p).spec c (fun b => V c b)) ⊢ (unscopedBufs c (fun b => V' o c b) : sProp 𝕄) := by
      rw [Pipeline.unscopedBufs_split (Pipeline.pin (pcfgs (F := F)) adm) p kit.win.arr_unscoped kit.win.arr_inj c _]
      refine sep_mono (Entails.of_eq (bigSep_congr fun w _ => by rw [hA'])) (Entails.of_eq ?_)
      unfold Pipeline.unscopedRest
      exact bigSep_congr fun b hb => by
        dsimp only
        rw [hne b (fun h => (Finset.mem_sdiff.mp hb).2 h)]
    unfold St
    rw [← Pipeline.unscopedBufs_held (Ix := Unit) (Name := ℕ) (U := UU) (Lvl := ℕ) c (V' o c)]
    isplitl [Ha Hrest]
    · iapply hjoin; isplitl [Ha] <;> iassumption
    unfold RDat.owesAt Pipeline.owesWithin
    rw [howed c (Fin.last _)]
    icases HO with ⟨%W, -, HO⟩; iexists W; iexact HO

end Cert.KernelIdeal.Gen

end
-- ==== Proof.Stage1.lean ====
/- Stage 1's body, run: what its two loops leave in its buffers. -/
module

public import proofs.«01_k».proof.Proof.Loop
public import proofs.«01_k».proof.Proof.Base
public import Idealize.ShloMosaic.Lib.ValueIdxCore
public import Idealize.ShloMosaic.Lib.WritesUnit
public import Idealize.ShloMosaic.Lib.Pipeline.ValueKit.Basic
public import Idealize.ShloMosaic.Lib.ValueLayout
public import Idealize.ShloMosaic.Lib.Pipeline.FrameBody
public import Idealize.ShloMosaic.Lib.Ring
public import Idealize.ShloMosaic.Lib.Tactic
public import Idealize.ShloMosaic.Lib.WordCmp
public import proofs.«01_k».proof.Proof.Gen.KernelIdeal.Launch

@[expose] public section

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (c : Dev nD)
  (arg1 : Memref sig .tc .vmem S196x8x384 .f32) (arg2 : Memref sig .tc .vmem S196x8x196 .f32)
  (arg3 : Memref sig .tc .vmem S1x8x74304 .f32) (arg4 : Memref sig .tc .vmem S1x8x384 .f32)
  (arg5 : Memref sig .tc .vmem S8x384x384 .f32)

/-- One sample's graph, out of a block of eight. -/
def gmOf (x : Vec F S196x8x196 .f32) (g : Fin 8) : Vec F S196x1x196 .f32 := fun j => x (ix3 (j 0) g (j 2))
/-- One sample's tokens, out of a block of eight. -/
def tkOf (x : Vec F S196x8x384 .f32) (g : Fin 8) : Vec F S196x1x384 .f32 := fun j => x (ix3 (j 0) g (j 2))

/-- The eight rows of first moments. -/
def wcBlk (x0 : Vec F S196x8x384 .f32) (x1 : Vec F S196x8x196 .f32) : Vec F S1x8x384 .f32 :=
  fun j => wcPay (gmOf x1 (j 1)) (tkOf x0 (j 1)) (ix3 0 0 (j 2))

/-- The eight square roots. -/
def yBlk (x0 : Vec F S196x8x384 .f32) (x1 : Vec F S196x8x196 .f32) : Vec F S8x384x384 .f32 :=
  fun j => yPay (gmOf x1 (j 0)) (tkOf x0 (j 0)) (ix3 0 (j 1) (j 2))

theorem gm_ld (x : Vec F S196x8x196 .f32) {g : ℕ} (h : g < 8) :
    View.ld x (Rect.unit (s := S196x8x196) ![0, g, 0] S196x1x196.size (inbG h)) = gmOf x ⟨g, h⟩ := by
  rw [View.ld_unit]
  funext j
  refine congrArg x (funext fun a => Fin.ext ?_)
  fin_cases a
  · exact Nat.zero_add _
  · show g + (j 1).val = g
    have : (j 1).val < 1 := (j 1).isLt
    omega
  · exact Nat.zero_add _

theorem tk_ld (x : Vec F S196x8x384 .f32) {g : ℕ} (h : g < 8) :
    View.ld x (Rect.unit (s := S196x8x384) ![0, g, 0] S196x1x384.size (inbT h)) = tkOf x ⟨g, h⟩ := by
  rw [View.ld_unit]
  funext j
  refine congrArg x (funext fun a => Fin.ext ?_)
  fin_cases a
  · exact Nat.zero_add _
  · show g + (j 1).val = g
    have : (j 1).val < 1 := (j 1).isLt
    omega
  · exact Nat.zero_add _

/-- One more row of first moments. -/
theorem wc_step (x0 : Vec F S196x8x384 .f32) (x1 : Vec F S196x8x196 .f32) {g : ℕ} (hg : g < 8)
    (f : arg4.view.ty.Contents (Elt F)) (h : ∀ j, (j 1).val < g → arg4.view.read (Elt F) f j = wcBlk x0 x1 j)
    (j : S1x8x384.Idx) (hj : (j 1).val < g + 1) :
    arg4.view.read (Elt F) (arg4.view.writes (Elt F) f
      [⟨Rect.unit (s := S1x8x384) ![0, g, 0] S1x1x384.size (inbW hg), wcPay (gmOf x1 ⟨g, hg⟩) (tkOf x0 ⟨g, hg⟩)⟩]) j
      = wcBlk x0 x1 j := by
  by_cases e : (j 1).val = g
  · have h1 : j 1 = (⟨g, hg⟩ : Fin 8) := Fin.ext e
    refine (View.read_writes_cons_unit_of_mem _ _ _ _ _ _ (ix3 (0 : Fin 1) (0 : Fin 1) (j 2)) rfl (Fin.forall_fin_succ.mpr ⟨?_, Fin.forall_fin_succ.mpr ⟨?_, Fin.forall_fin_one.mpr ?_⟩⟩)).trans ?_
    · show (j 0).val = 0 + 0
      have : (j 0).val < 1 := (j 0).isLt
      omega
    · show (j 1).val = g + 0
      omega
    · exact (Nat.zero_add _).symm
    · unfold wcBlk
      rw [h1]
      rfl
  · refine (View.read_writes_cons_unit_of_not_mem _ _ _ _ _ _ rfl 1 (Or.inl ?_)).trans (h j (by omega))
    show (j 1).val < g
    omega

/-- One more square root. -/
theorem y_step (x0 : Vec F S196x8x384 .f32) (x1 : Vec F S196x8x196 .f32) {g : ℕ} (hg : g < 8)
    (f : arg5.view.ty.Contents (Elt F)) (h : ∀ j, (j 0).val < g → arg5.view.read (Elt F) f j = yBlk x0 x1 j)
    (j : S8x384x384.Idx) (hj : (j 0).val < g + 1) :
    arg5.view.read (Elt F) (arg5.view.writes (Elt F) f
      [⟨Rect.unit (s := S8x384x384) ![g, 0, 0] S1x384x384.size (inbY hg), yPay (gmOf x1 ⟨g, hg⟩) (tkOf x0 ⟨g, hg⟩)⟩]) j
      = yBlk x0 x1 j := by
  by_cases e : (j 0).val = g
  · have h1 : j 0 = (⟨g, hg⟩ : Fin 8) := Fin.ext e
    refine (View.read_writes_cons_unit_of_mem _ _ _ _ _ _ (ix3 (0 : Fin 1) (j 1) (j 2)) rfl (Fin.forall_fin_succ.mpr ⟨?_, Fin.forall_fin_succ.mpr ⟨?_, Fin.forall_fin_one.mpr ?_⟩⟩)).trans ?_
    · show (j 0).val = g + 0
      omega
    · exact (Nat.zero_add _).symm
    · exact (Nat.zero_add _).symm
    · unfold yBlk
      rw [h1]
      rfl
  · refine (View.read_writes_cons_unit_of_not_mem _ _ _ _ _ _ rfl 0 (Or.inl ?_)).trans (h j (by omega))
    show (j 0).val < g
    omega

/-- The triangle's rows with at least `m + 1` entries lie in the block one after another. -/
def TriFrom (m : ℕ) (Y : Vec F S8x384x384 .f32) (X : Vec F S1x8x74304 .f32) : Prop :=
  ∀ (n : ℕ) (hn : n < 384) (k : ℕ) (hk : k < n + 1) (g : Fin 8), m ≤ n →
    X (ix3 (0 : Fin 1) g (⟨rowOff n + k, by have := rowOff_le hn; omega⟩ : Fin 74304))
      = Y (ix3 g (⟨383 - n, by omega⟩ : Fin 384) (⟨383 - n + k, by omega⟩ : Fin 384))

/-- A longer row lies wholly before a shorter one. -/
theorem rowOff_lt {n n' : ℕ} (h : n < n') (h' : n' < 384) : rowOff n' + (n' + 1) ≤ rowOff n := by
  have h1 : (n + 1) * (n + 2) ≤ n' * (n' + 1) := Nat.mul_le_mul (by omega) (by omega)
  have h2 : (n' + 1) * (n' + 2) = n' * (n' + 1) + (n' + 1) * 2 := by rw [Nat.mul_comm n' (n' + 1), ← Nat.mul_add]
  have h3 : (n' + 1) * (n' + 2) ≤ 384 * 385 := Nat.mul_le_mul (by omega) (by omega)
  show 73920 - (n' + 1) * (n' + 2) / 2 + (n' + 1) ≤ 73920 - (n + 1) * (n + 2) / 2
  omega

theorem tri_step (Y : Vec F S8x384x384 .f32) {n : ℕ} (hn : n < 384) (f : arg3.view.ty.Contents (Elt F))
    (h : TriFrom (n + 1) Y (arg3.view.read (Elt F) f)) :
    TriFrom n Y (arg3.view.read (Elt F) (arg3.view.writes (Elt F) f
      [⟨Rect.unit (s := S1x8x74304) ![0, 0, rowOff n] (SOut n).size (inbOut hn),
        rowPay n (View.ld Y (Rect.unit (s := S8x384x384) ![0, 383 - n, 383 - n] (SRow n).size (inbRow hn)))⟩])) := by
  intro n' hn' k hk g hm
  by_cases e : n' = n
  · subst e
    refine (View.read_writes_cons_unit_of_mem _ _ _ _ _ _ (ix3 (0 : Fin 1) g (⟨k, hk⟩ : Fin (n' + 1))) rfl (Fin.forall_fin_succ.mpr ⟨?_, Fin.forall_fin_succ.mpr ⟨?_, Fin.forall_fin_one.mpr ?_⟩⟩)).trans ?_
    · rfl
    · exact (Nat.zero_add _).symm
    · rfl
    · rw [View.ld_unit]
      unfold rowPay
      rw [shapeCast_ab_1ab_apply, shapeCast_apply _ (castIn n') (ix2 g (⟨k, hk⟩ : Fin (n' + 1))) (ix3 g (0 : Fin 1) (⟨k, hk⟩ : Fin (n' + 1)))
        (by rw [Shape.rowMajor_val_three, Shape.rowMajor_val_two]; show (g.val * 1 + 0) * (n' + 1) + k = g.val * (n' + 1) + k; rw [Nat.mul_one, Nat.add_zero])]
      refine congrArg Y (funext fun a => Fin.ext ?_)
      fin_cases a
      · exact Nat.zero_add _
      · rfl
      · rfl
  · refine (View.read_writes_cons_unit_of_not_mem _ _ _ _ _ _ rfl 2 (Or.inl ?_)).trans (h n' hn' k hk g (by omega))
    show rowOff n' + k < rowOff n
    have := rowOff_lt (n := n) (n' := n') (by omega) hn'
    omega

theorem wp_momentRows (x0 : Vec F S196x8x384 .f32) (x1 : Vec F S196x8x196 .f32)
    (E : Set ℕ) (K : PUnit → sProp 𝕄) :
    ∀ (m : ℕ) (hm : m ≤ 8) (X4 : Vec F S1x8x384 .f32) (X5 : Vec F S8x384x384 .f32),
      (∀ j, (j 1).val < 8 - m → X4 j = wcBlk x0 x1 j) →
      (∀ j, (j 0).val < 8 - m → X5 j = yBlk x0 x1 j) →
      iprop(owns (c : Thread nD τ) arg1 fullShare x0 ∗ owns (c : Thread nD τ) arg2 fullShare x1 ∗ owns (c : Thread nD τ) arg4 fullShare X4 ∗ owns (c : Thread nD τ) arg5 fullShare X5
          ∗ (iprop(owns (c : Thread nD τ) arg1 fullShare x0 ∗ owns (c : Thread nD τ) arg2 fullShare x1
              ∗ owns (c : Thread nD τ) arg4 fullShare (wcBlk x0 x1) ∗ owns (c : Thread nD τ) arg5 fullShare (yBlk x0 x1)) -∗ K ⟨⟩))
        ⊢ wp frame (wpE (defs₀ (F := F)) Variants.none c none) E (momentRows arg1 arg2 arg4 arg5 m hm) K := by
  intro m
  induction m with
  | zero =>
    intro hm X4 X5 h4 h5
    obtain rfl : X4 = wcBlk x0 x1 := funext fun j => h4 j (j 1).isLt
    obtain rfl : X5 = yBlk x0 x1 := funext fun j => h5 j (j 0).isLt
    show _ ⊢ wp frame _ E (pure ⟨⟩) K
    iintro ⟨H1, H2, H4, H5, Hk⟩
    sl_step
    iapply Hk
    isplitl [H1]; · iexact H1
    isplitl [H2]; · iexact H2
    isplitl [H4]; · iexact H4
    iexact H5
  | succ n ih =>
    intro hm X4 X5 h4 h5
    show _ ⊢ wp frame _ E (momentRow arg1 arg2 arg4 arg5 (7 - n) (by omega) >>= fun _ => momentRows arg1 arg2 arg4 arg5 n (Nat.le_of_succ_le hm)) K
    have ihn : ∃ P, P = momentRows (F := F) arg1 arg2 arg4 arg5 n (Nat.le_of_succ_le hm) := ⟨_, rfl⟩
    obtain ⟨P, hP⟩ := ihn
    rw [← hP]
    have ih' : True ∧ _ := ⟨trivial, ih⟩
    clear ih
    unfold momentRow
    rw [show owns (c : Thread nD τ) arg4 fullShare X4 = iprop(∃ f, ⌜arg4.view.read (Elt F) f = X4⌝ ∗ (arg4.view.loc (c : Thread nD τ) ↦[arg4.view.set]{fullShare} f)) from rfl,
      show owns (c : Thread nD τ) arg5 fullShare X5 = iprop(∃ f, ⌜arg5.view.read (Elt F) f = X5⌝ ∗ (arg5.view.loc (c : Thread nD τ) ↦[arg5.view.set]{fullShare} f)) from rfl,
      show owns (c : Thread nD τ) arg1 fullShare x0 = iprop(∃ f, ⌜arg1.view.read (Elt F) f = x0⌝ ∗ (arg1.view.loc (c : Thread nD τ) ↦[arg1.view.set]{fullShare} f)) from rfl,
      show owns (c : Thread nD τ) arg2 fullShare x1 = iprop(∃ f, ⌜arg2.view.read (Elt F) f = x1⌝ ∗ (arg2.view.loc (c : Thread nD τ) ↦[arg2.view.set]{fullShare} f)) from rfl]
    iintro ⟨⟨%f0, %hf0, H1⟩, ⟨%f1, %hf1, H2⟩, ⟨%f4, %hf4, H4⟩, ⟨%f5, %hf5, H5⟩, Hk⟩
    sl_exec
    subst hP
    have hg : 7 - n < 8 := by omega
    have e1 : wp_momentRows.sl.gm arg2 n hm f1 = gmOf x1 ⟨7 - n, hg⟩ := by
      subst hf1; exact gm_ld (arg2.view.read (Elt F) f1) hg
    have e2 : wp_momentRows.sl.t arg1 n hm f0 = tkOf x0 ⟨7 - n, hg⟩ := by
      subst hf0; exact tk_ld (arg1.view.read (Elt F) f0) hg
    rw [e1, e2]
    iapply (ih'.2 (Nat.le_of_succ_le hm) _ _
      (fun j hj => wc_step arg4 x0 x1 hg f4 (fun j hj => by rw [hf4]; exact h4 j (by omega)) j (by omega))
      (fun j hj => y_step arg5 x0 x1 hg f5 (fun j hj => by rw [hf5]; exact h5 j (by omega)) j (by omega)))
    unfold owns
    isplitl [H1]
    · iexists _; isplitr; · ipureintro; exact hf0
      iexact H1
    isplitl [H2]
    · iexists _; isplitr; · ipureintro; exact hf1
      iexact H2
    isplitl [H4]
    · iexists _; isplitr; swap; · iexact H4
      ipureintro; rfl
    isplitl [H5]
    · iexists _; isplitr; swap; · iexact H5
      ipureintro; rfl
    iexact Hk

theorem wp_copyRows (Y : Vec F S8x384x384 .f32) (E : Set ℕ) (K : PUnit → sProp 𝕄) :
    ∀ (m : ℕ) (hm : m ≤ 384) (X3 : Vec F S1x8x74304 .f32), TriFrom m Y X3 →
      iprop(owns (c : Thread nD τ) arg3 fullShare X3 ∗ owns (c : Thread nD τ) arg5 fullShare Y
          ∗ (iprop((∃ X, ⌜TriFrom 0 Y X⌝ ∗ owns (c : Thread nD τ) arg3 fullShare X) ∗ owns (c : Thread nD τ) arg5 fullShare Y) -∗ K ⟨⟩))
        ⊢ wp frame (wpE (defs₀ (F := F)) Variants.none c none) E (copyRows arg3 arg5 m hm) K := by
  intro m
  induction m with
  | zero =>
    intro hm X3 h3
    show _ ⊢ wp frame _ E (pure ⟨⟩) K
    iintro ⟨H3, H5, Hk⟩
    sl_step
    iapply Hk
    isplitl [H3]
    · iexists _; isplitr; · ipureintro; exact h3
      iexact H3
    iexact H5
  | succ n ih =>
    intro hm X3 h3
    show _ ⊢ wp frame _ E (copyRow arg3 arg5 n hm >>= fun _ => copyRows arg3 arg5 n (Nat.le_of_succ_le hm)) K
    have ihn : ∃ P, P = copyRows (F := F) arg3 arg5 n (Nat.le_of_succ_le hm) := ⟨_, rfl⟩
    obtain ⟨P, hP⟩ := ihn
    rw [← hP]
    have ih' : True ∧ _ := ⟨trivial, ih⟩
    clear ih
    unfold copyRow
    rw [show owns (c : Thread nD τ) arg3 fullShare X3 = iprop(∃ f, ⌜arg3.view.read (Elt F) f = X3⌝ ∗ (arg3.view.loc (c : Thread nD τ) ↦[arg3.view.set]{fullShare} f)) from rfl,
      show owns (c : Thread nD τ) arg5 fullShare Y = iprop(∃ f, ⌜arg5.view.read (Elt F) f = Y⌝ ∗ (arg5.view.loc (c : Thread nD τ) ↦[arg5.view.set]{fullShare} f)) from rfl]
    iintro ⟨⟨%f3, %hf3, H3⟩, ⟨%f5, %hf5, H5⟩, Hk⟩
    sl_exec
    subst hP
    rw [show View.readAt (Elt F) arg5.view (Rect.unit (s := S8x384x384) ![0, 383 - n, 383 - n] (SRow n).size (inbRow hm)).toLoadRect f5
      = View.ld Y (Rect.unit (s := S8x384x384) ![0, 383 - n, 383 - n] (SRow n).size (inbRow hm)) from by subst hf5; rfl]
    iapply (ih'.2 (Nat.le_of_succ_le hm) _ (tri_step arg3 Y hm f3 (by rw [hf3]; exact h3)))
    unfold owns
    isplitl [H3]
    · iexists _; isplitr; swap; · iexact H3
      ipureintro; rfl
    isplitl [H5]
    · iexists _; isplitr; · ipureintro; exact hf5
      iexact H5
    iexact Hk

/-- The two loops: the first moments, and the triangle of the square roots. -/
theorem wp_loops (x0 : Vec F S196x8x384 .f32) (x1 : Vec F S196x8x196 .f32) (E : Set ℕ) (K : PUnit → sProp 𝕄)
    (m₁ m₂ : ℕ) (h₁ : m₁ ≤ 8) (h₂ : m₂ ≤ 384) (h₁' : 8 ≤ m₁) (h₂' : 384 ≤ m₂) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ (∃ X, ⌜TriFrom 0 (yBlk x0 x1) X⌝ ∗ owns (c : Thread nD τ) arg3 fullShare X)
            ∗ owns (c : Thread nD τ) arg4 fullShare (wcBlk x0 x1) ∗ (∃ d, owns (c : Thread nD τ) arg5 fullShare d)) -∗ K ⟨⟩))
      ⊢ wp frame (wpE (defs₀ (F := F)) Variants.none c none) E (momentRows arg1 arg2 arg4 arg5 m₁ h₁ >>= fun _ => copyRows arg3 arg5 m₂ h₂) K := by
  iintro ⟨H1, H2, ⟨%d3, H3⟩, ⟨%d4, H4⟩, ⟨%d5, H5⟩, Hk⟩
  rw [wp_bind]
  iapply (wp_momentRows c arg1 arg2 arg4 arg5 x0 x1 E _ m₁ h₁ d4 d5
    (fun j hj => absurd hj (by omega)) (fun j hj => absurd hj (by omega)))
  isplitl [H1]; · iexact H1
  isplitl [H2]; · iexact H2
  isplitl [H4]; · iexact H4
  isplitl [H5]; · iexact H5
  iintro ⟨H1, H2, H4, H5⟩
  iapply (wp_copyRows c arg3 arg5 (yBlk x0 x1) E K m₂ h₂ d3 (fun n hn k hk g hm => absurd hn (by omega)))
  isplitl [H3]; · iexact H3
  isplitl [H5]; · iexact H5
  iintro ⟨H3, H5⟩
  iapply Hk
  isplitl [H1]; · iexact H1
  isplitl [H2]; · iexact H2
  isplitl [H3]; · iexact H3
  isplitl [H4]; · iexact H4
  iexists _
  iexact H5

/-- Stage 1's body: the first moments, and the triangle of the square roots. -/
theorem wp_stage1 (i : grid0.Coords) (harg1 : arg1.IsWhole) (harg2 : arg2.IsWhole) (harg3 : arg3.IsWhole) (harg4 : arg4.IsWhole) (harg5 : arg5.IsWhole)
    (x0 : Vec F S196x8x384 .f32) (x1 : Vec F S196x8x196 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ (∃ X, ⌜TriFrom 0 (yBlk x0 x1) X⌝ ∗ owns (c : Thread nD τ) arg3 fullShare X)
            ∗ owns (c : Thread nD τ) arg4 fullShare (wcBlk x0 x1) ∗ (∃ d, owns (c : Thread nD τ) arg5 fullShare d)) -∗ K ⟨⟩))
      ⊢ wp frame (wpE (defs₀ (F := F)) Variants.none c none) E (cc0_moment_stage1 i arg1 harg1 arg2 harg2 arg3 harg3 arg4 harg4 arg5 harg5) K :=
  (wp_loops c arg1 arg2 arg3 arg4 arg5 x0 x1 E K 8 384 (Nat.le_refl _) (Nat.le_refl _) (Nat.le_refl _) (Nat.le_refl _)).trans
    (BIBase.Entails.of_eq (congrArg (fun p => wp frame (wpE (defs₀ (F := F)) Variants.none c none) E p K)
      (stage1_eq arg1 arg2 arg3 arg4 arg5 i harg1 harg2 harg3 harg4 harg5).symm))

end Cert.KernelIdeal.Gen
-- ==== Proof.Region0.lean ====
/-
  The first call as a segment of the program. What its body leaves in the packed triangles is not a function of the
  input — the columns past the triangle keep what the buffer held — so the packed triangles at each point are an unknown
  that meets `TriFrom`; the first moments are exact.
-/
module

public import proofs.«01_k».proof.Proof.Stage1
public import proofs.«01_k».proof.Proof.Gen.KernelIdeal.Points
public import Idealize.ShloMosaic.Lib.Pipeline.FrameBody

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MT nD τ sig Unit (Elt F) ℕ UU ℕ

variable (V : Valuation τ sig (Elt F)) (X : Fin 8 → Vec F S1x8x74304 .f32) (c : Dev nD)

/-- A window's block at a point, read off its array as the call finds it. -/
def blk0 (w : Fin cfg0.W) (t : Fin cfg0.N) : ((cfg0.win w).xblock (cfg0.grid.coords t)).Idx → Elt F (cfg0.win w).elt :=
  ((cfg0.win w).blk t).view.read (Elt F) (V (Pipeline.arrRef spec0 w))

/-- The call's data when the packed triangles its points leave are `X`. -/
def dat0 : Dat τ (Elt F) Unit ℕ UU ℕ cfg0 c where
  A w := V (Pipeline.arrRef spec0 w)
  after w t := match w with
    | ⟨0, _⟩ => blk0 V 0 t
    | ⟨1, _⟩ => blk0 V 1 t
    | ⟨2, _⟩ => X (t.cast N_0)
    | ⟨3, _⟩ => wcBlk (blk0 V 0 t) (blk0 V 1 t)
  Φ _ := Rest spec0 c
  q _ := fullShare
  owed _ := 0

theorem dat0_before0 (t : Fin cfg0.N) (d) : (dat0 V X c).before 0 t d = blk0 V 0 t :=
  ((dat0 V X c).before_in_eq_fetched 0 rfl (fun _ => rfl) (fun _ _ _ => rfl) (fun t => by rfl) t d).trans (by rfl)
theorem dat0_before1 (t : Fin cfg0.N) (d) : (dat0 V X c).before 1 t d = blk0 V 1 t :=
  ((dat0 V X c).before_in_eq_fetched 1 rfl (fun _ => rfl) (fun _ _ _ => rfl) (fun t => by rfl) t d).trans (by rfl)

/-- The window that holds the packed triangles. -/
def mark0 : Fin 4 → Bool := fun w => w == 2

/-- What a point may leave in a marked window. -/
def tri0 (w : Fin cfg0.W) (t : Fin cfg0.N) : ((cfg0.win w).block.Idx → Elt F (cfg0.win w).elt) → Prop := match w with
  | ⟨2, _⟩ => fun Y => TriFrom 0 (yBlk (blk0 V 0 t) (blk0 V 1 t)) Y
  | ⟨0, _⟩ => fun _ => True
  | ⟨1, _⟩ => fun _ => True
  | ⟨3, _⟩ => fun _ => True

abbrev pre0 (t : Fin cfg0.N) : sProp 𝕄 :=
  iprop(Rest spec0 c ∗ (dat0 V X c).owesAt () t.castSucc
    ∗ (∃ d, owns c (st0_0 t) fullShare ((dat0 V X c).before 0 t d)) ∗ (∃ d, owns c (st0_1 t) fullShare ((dat0 V X c).before 1 t d))
    ∗ (∃ Y, ⌜((dat0 V X c).toRRel mark0 (tri0 V)).Finds 2 t Y⌝ ∗ owns c (st0_2 t) fullShare Y) ∗ (∃ d, owns c (st0_3 t) fullShare ((dat0 V X c).before 3 t d)))

abbrev post0 (t : Fin cfg0.N) : sProp 𝕄 :=
  iprop(Rest spec0 c ∗ (dat0 V X c).owesAt () t.succ
    ∗ owns c (st0_0 t) fullShare (blk0 V 0 t) ∗ owns c (st0_1 t) fullShare (blk0 V 1 t)
    ∗ (∃ Y, ⌜TriFrom 0 (yBlk (blk0 V 0 t) (blk0 V 1 t)) Y⌝ ∗ owns c (st0_2 t) fullShare Y) ∗ owns c (st0_3 t) fullShare (wcBlk (blk0 V 0 t) (blk0 V 1 t)))

/-- The square roots' buffer stands apart from the other scoped buffers. -/
theorem rest0_open : ∃ R : sProp 𝕄, (Rest spec0 c ⊢ iprop((∃ d, owns (c : Thread nD τ) (Memref.whole cc0_scratch0) fullShare d) ∗ R))
    ∧ (iprop((∃ d, owns (c : Thread nD τ) (Memref.whole cc0_scratch0) fullShare d) ∗ R) ⊢ Rest spec0 c) := by
  have h₁ : iprop(∃ f : Buf (Elt F) ((c : Thread nD τ).loc cc0_scratch0), ((c : Thread nD τ).loc cc0_scratch0) ↦{fullShare} f)
      ⊢ (iprop(∃ d, owns (c : Thread nD τ) (Memref.whole cc0_scratch0) fullShare d) : sProp 𝕄) := by
    iintro ⟨%f, H⟩
    iexists f
    rw [owns_whole_eq]
    iexists f
    isplitr; · ipureintro; rfl
    iexact H
  have h₂ : (iprop(∃ d, owns (c : Thread nD τ) (Memref.whole cc0_scratch0) fullShare d) : sProp 𝕄)
      ⊢ iprop(∃ f : Buf (Elt F) ((c : Thread nD τ).loc cc0_scratch0), ((c : Thread nD τ).loc cc0_scratch0) ↦{fullShare} f) := by
    simp only [owns_whole_eq]
    iintro ⟨%f, %g, -, H⟩
    iexists g
    iexact H
  have h := scopedRest0_eq (Ix := Unit) (Name := ℕ) (U := UU) (Lvl := ℕ) (Val := Elt F) c
  exact ⟨_, (Entails.of_eq h).trans (sep_mono h₁ .rfl), (sep_mono h₂ .rfl).trans (Entails.of_eq h.symm)⟩

theorem body0 (t : Fin cfg0.N) : pre0 V X c t ⊢ wp frame (wpE (defs₀ (F := F)) Variants.none c none) Set.univ (bodyAt0 t) (fun _ => post0 V X c t) := by
  obtain ⟨R, hR₁, hR₂⟩ := rest0_open (F := F) c
  unfold pre0 post0 bodyAt0
  simp only [dat0_before0, dat0_before1]
  iintro ⟨HR, HO, ⟨%d0, H0⟩, ⟨%d1, H1⟩, ⟨%d2, -, H2⟩, ⟨%d3, H3⟩⟩
  ihave HR := hR₁ $$ HR
  icases HR with ⟨Hs, HR⟩
  iapply (wp_stage1 c (win0_0.stage (cfg0.slots t 0)) (win0_1.stage (cfg0.slots t 1)) (win0_2.stage (cfg0.slots t 2)) (win0_3.stage (cfg0.slots t 3)) (Memref.whole cc0_scratch0) (grid0.coords t) _ _ _ _ _ (blk0 V 0 t) (blk0 V 1 t) Set.univ _)
  isplitl [H0]; · iexact H0
  isplitl [H1]; · iexact H1
  isplitl [H2]; · iexists _; iexact H2
  isplitl [H3]; · iexists _; iexact H3
  isplitl [Hs]; · iexact Hs
  iintro ⟨H0, H1, H2, H3, Hs⟩
  isplitl [Hs HR]
  · iapply hR₂
    isplitl [Hs]; · iexact Hs
    iexact HR
  isplitl [HO]; · iexact HO
  isplitl [H0]; · iexact H0
  isplitl [H1]; · iexact H1
  isplitl [H2]; · iexact H2
  iexact H3

set_option maxHeartbeats 1000000 in
set_option backward.isDefEq.respectTransparency.types false in
theorem obl0 : Pipeline.BodyObligationRel (dat0 V X c) (defs₀ (F := F)) Variants.none () Set.univ mark0 (tri0 V) := fun t => by
  rw [bigSep_W0, bigSep_W0, show defs₀ (F := F) .tc cfg0.body (cfg0.bodyArgs t (cfg0.slots t)) = bodyAt0 t from by unfold defs₀; rw [Defs.onTc_tc]]
  exact triple_restated (body0 V X c t) rfl .rfl fun _ => .rfl

/-- The relational data of the call. -/
abbrev rel0 : RDat τ (Elt F) Unit ℕ UU ℕ cfg0 c := (dat0 V (fun _ _ => (Scalar.ofBits .f32 0#32 : F .f32)) c).toRRel mark0 (tri0 V)

/-- The relational data of the call; the other calls' are never read. -/
def rds0 (V : Dev nD → Valuation τ sig (Elt F)) (q : Fin 3) (c : Dev nD) : RDat τ (Elt F) Unit ℕ UU ℕ (Pipeline.pin (pcfgs (F := F)) adm q) c := match q with
  | 0 => rel0 (V c) c
  | 1 => (idleDat c).toR
  | 2 => (idleDat c).toR

/-- The packed triangles `X` that the points may leave. -/
def Sel : Prop := ∀ t : Fin cfg0.N, TriFrom 0 (yBlk (blk0 V 0 t) (blk0 V 1 t)) (X (t.cast N_0))

/-- The buffers after the call when its points left the packed triangles `X`. -/
def out0 : Valuation τ sig (Elt F) :=
  Function.update (Function.update V main_v2_0 ((dat0 V X c).arrAt 2 cfg0.N)) main_v2_1 ((dat0 V X c).arrAt 3 cfg0.N)

/-- The call changes its two results only. -/
theorem out0_ne {b : Ref sig .tc} (h₀ : b ≠ main_v2_0) (h₁ : b ≠ main_v2_1) : out0 V X c b = V b := by
  unfold out0
  rw [Function.update_of_ne (StableHlo.devRef_ne_of_ne h₁), Function.update_of_ne (StableHlo.devRef_ne_of_ne h₀)]
theorem out0_v2_1 : out0 V X c main_v2_1 = (dat0 V X c).arrAt 3 cfg0.N := by
  unfold out0; rw [Function.update_self]
theorem out0_v2_0 : out0 V X c main_v2_0 = (dat0 V X c).arrAt 2 cfg0.N := by
  unfold out0
  rw [Function.update_of_ne (StableHlo.devRef_ne_of_ne (by decide)), Function.update_self]

/-- The first moments do not depend on what is left in the packed triangles. -/
theorem arrAt_indep (X X' : Fin 8 → Vec F S1x8x74304 .f32) : ∀ n, (dat0 V X c).arrAt 3 n = (dat0 V X' c).arrAt 3 n
  | 0 => rfl
  | n + 1 => by
    unfold Dat.arrAt
    rw [arrAt_indep X X' n]
    rfl

set_option backward.isDefEq.respectTransparency.types false in
/-- At the call's end. -/
theorem exit0 (A : (w : Fin cfg0.W) → Buf (Elt F) ((spec0 w).arr.view.loc (c.tc : Thread nD τ))) (hA : ∀ w, (rel0 V c).ArrAt w cfg0.N (A w)) :
    ∃ X, Sel V X ∧ (∀ w, A w = out0 V X c (Pipeline.arrRef spec0 w))
      ∧ ∀ b : Ref sig .tc, b ∉ Finset.univ.image (Pipeline.arrRef spec0) → out0 V X c b = V b := by
  obtain ⟨X, hX, hG⟩ := (hA 2).exists_exact
  have h2 := hG (dat0 V (fun t => X (t.cast N_0.symm)) c).after fun _ _ _ => rfl
  rw [show (rel0 V c).withAfter (dat0 V (fun t => X (t.cast N_0.symm)) c).after = dat0 V (fun t => X (t.cast N_0.symm)) c from rfl] at h2
  have h3 := (dat0 V (fun _ _ => (Scalar.ofBits .f32 0#32 : F .f32)) c).toR_arrAt 3 _ _ ((RDat.override_arrAt (rd := (dat0 V (fun _ _ => (Scalar.ofBits .f32 0#32 : F .f32)) c).toR) (w := 3) rfl _ _).mp (hA 3))
  have hi : ∀ w, (cfg0.win w).isOut = false → A w = V (Pipeline.arrRef spec0 w) := fun w hw => by
    have h := hA w
    rw [RDat.ArrAt_in _ w hw] at h
    exact h
  refine ⟨fun t => X (t.cast N_0.symm), fun t => Dat.toRRel_leaves _ (w := 2) rfl (hX t t.isLt (flush0_2 t)), ?_, ?_⟩
  · intro w
    match w with
    | ⟨0, _⟩ => exact (hi 0 rfl).trans (out0_ne V _ c (by decide) (by decide)).symm
    | ⟨1, _⟩ => exact (hi 1 rfl).trans (out0_ne V _ c (by decide) (by decide)).symm
    | ⟨2, _⟩ => exact h2.trans (out0_v2_0 V _ c).symm
    | ⟨3, _⟩ =>
      have h4 : (dat0 V (fun _ _ => (Scalar.ofBits .f32 0#32 : F .f32)) c).arrAt 3 cfg0.N = (dat0 V (fun t => X (t.cast N_0.symm)) c).arrAt 3 cfg0.N := arrAt_indep V c _ _ cfg0.N
      exact (h3.trans h4).trans (out0_v2_1 V _ c).symm
  · intro b hb
    exact out0_ne V _ c (fun h => hb (Finset.mem_image.mpr ⟨2, Finset.mem_univ _, h.symm⟩)) (fun h => hb (Finset.mem_image.mpr ⟨3, Finset.mem_univ _, h.symm⟩))

set_option maxHeartbeats 1000000 in
set_option backward.isDefEq.respectTransparency.types false in
/-- The first call. -/
def rec0 (V : Dev nD → Valuation τ sig (Elt F)) : RDat.RegionSeg (pcfgs (F := F)) adm (rds0 V) () defs₀ Variants.none Lv lv 0 :=
  callRec 0 (rds0 V) launch0.toP (fun c => (obl0 (V c) _ c).toRRel) (fun c t => show (rel0 (V c) c).owed t = 0 from rfl)
    (fun c => show (rel0 (V c) c).recorded 0 = Set.univ from rfl) (fun c w => show (rel0 (V c) c).share w = fullShare from ite_self _)
    (fun c t => show (rel0 (V c) c).Φ t = Rest spec0 c from rfl)
    V (fun X c => out0 (V c) X c) (fun X c => Sel (V c) X) (fun c w => show (rel0 (V c) c).A w = V c (Pipeline.arrRef spec0 w) from rfl)
    (fun c A hA => exit0 (V c) c A hA)

end Cert.KernelIdeal.Gen

end
-- ==== Proof.Stage23.lean ====
/-
  The bodies of the second and third calls as triples: what each leaves in its output buffer.
-/
module

public import proofs.«01_k».proof.Proof.Base
public import proofs.«01_k».proof.Proof.Gen.KernelIdeal.Skeleton
public import Idealize.ShloMosaic.Lib.Pipeline.ValueKit.Basic
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A buffer read back after a store over all of it. -/
theorem read_store_whole {S : Shape} {e : EltTy} (v : View sig .tc .vmem S e) (f : v.ty.Contents (Elt F)) {off : Fin S.rank → Nat}
    (inb : ∀ a, off a + S.size a ≤ S.size a) (h : ∀ a, off a = 0) (x : S.Idx → Elt F e) (L : List (View.Piece (Elt F) S e)) :
    v.read (Elt F) (v.writes (Elt F) f (⟨Rect.unit off S.size inb, x⟩ :: L)) = x := by
  obtain rfl : off = fun _ => 0 := funext h
  funext y
  have h' := View.read_writes_cons_emb v f (Rect.whole S) x L y
  rwa [Rect.emb_whole_apply] at h'

/-- A load of all of a buffer. -/
theorem whole_ld {S : Shape} {e : EltTy} (x : S.Idx → Elt F e) {off : Fin S.rank → Nat} (inb : ∀ a, off a + S.size a ≤ S.size a) (h : ∀ a, off a = 0) :
    View.ld x (Rect.unit off S.size inb) = x :=
  View.ld_unit_zero (funext h) inb x

/-- A sketch's row of three, as the body loads it. -/
abbrev row3 {e : EltTy} (x : Vec F S3x384 e) (off : Fin 2 → Nat) (h : ∀ a, off a + S1x384.size a ≤ S3x384.size a) : Vec F S1x384 e :=
  View.ld x (Rect.unit (s := S3x384) off S1x384.size h)

/-- What stage 3 leaves: the layer over the product of the three sketches. -/
def s3Out (x0 : Vec F S64x384 .f32) (x1 : Vec F S3x384 .f32) (x2 : Vec F S3x384 .i32) (x3 : Vec F S512x768 .f32) (x4 x5 x6 : Vec F S1x512 .f32) : Vec F S64x512 .f32 :=
  k1_pay1 (k1_pay3 x0 (row3 x2 ![0, 0] inb_S3x384_S1x384_0_0) (row3 x1 ![0, 0] inb_S3x384_S1x384_0_0) (row3 x2 ![1, 0] inb_S3x384_S1x384_1_0) (row3 x1 ![1, 0] inb_S3x384_S1x384_1_0))
    (k1_pay4 (row3 x2 ![2, 0] inb_S3x384_S1x384_2_0)) (k1_pay5 x0 (row3 x1 ![2, 0] inb_S3x384_S1x384_2_0)) (constant S64x768 .f32 0x00000000#32) x3 x4 x5 x6

set_option maxHeartbeats 1000000 in
theorem wp_stage3 (c : Dev nD) (i : grid1.Coords) (arg1 : Memref sig .tc .vmem S64x384 .f32) (harg1 : arg1.IsWhole) (arg2 : Memref sig .tc .vmem S3x384 .f32) (harg2 : arg2.IsWhole) (arg3 : Memref sig .tc .vmem S3x384 .i32) (harg3 : arg3.IsWhole) (arg4 : Memref sig .tc .vmem S512x768 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S64x512 .f32) (harg8 : arg8.IsWhole)
    (x0 : Vec F S64x384 .f32) (x1 : Vec F S3x384 .f32) (x2 : Vec F S3x384 .i32) (x3 : Vec F S512x768 .f32) (x4 x5 x6 : Vec F S1x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (s3Out x0 x1 x2 x3 x4 x5 x6)) -∗ K ⟨⟩))
      ⊢ wp frame (wpE (defs₀ (F := F)) Variants.none c none) E (cc1_moment_stage3 i arg1 harg1 arg2 harg2 arg3 harg3 arg4 harg4 arg5 harg5 arg6 harg6 arg7 harg7 arg8 harg8) K := by
  simp only [cc1_moment_stage3_eq_skeleton]; unfold cc1_moment_stage3_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr; swap; · iexact H7
  ipureintro
  subst hf0 hf1 hf2 hf3 hf4 hf5 hf6
  refine (read_store_whole _ _ _ (by decide) _ _).trans ?_
  unfold s3Out
  rw [← whole_ld (arg1.view.read (Elt F) f0) inb_S64x384_S64x384_0_0 (by decide), ← whole_ld (arg4.view.read (Elt F) f3) inb_S512x768_S512x768_0_0 (by decide),
    ← whole_ld (arg5.view.read (Elt F) f4) inb_S1x512_S1x512_0_0 (by decide), ← whole_ld (arg6.view.read (Elt F) f5) inb_S1x512_S1x512_0_0 (by decide),
    ← whole_ld (arg7.view.read (Elt F) f6) inb_S1x512_S1x512_0_0 (by decide)]
  rfl

/-- What stage 2 leaves at a grid point over what it found: the running sum, at the last block the layer over it. -/
def s2Out (i : grid2.Coords) (x0 : Vec F S64x7424 .f32) (x1 : Vec F S7424x256 .f32) (x2 x3 x4 : Vec F S1x256 .f32) (y : Vec F S64x256 .f32) : Vec F S64x256 .f32 :=
  if (i 1).val = 9 then k2_pay3 (k2_pay2 i x0 x1 (if (i 1).val = 0 then k2_pay1 else y)) x2 x3 x4 else k2_pay2 i x0 x1 (if (i 1).val = 0 then k2_pay1 else y)

/-- The test of the block's number against a word. -/
theorem blockTest (k : Fin 10) (n : Fin 10) :
    (Scalar.cmpi .ne (Scalar.extui (Scalar.cmpi .eq (BitVec.ofNat 32 k.val) (BitVec.ofNat 32 n.val)) : BitVec 32) 0#32 = 1#1) ↔ k.val = n.val := by
  revert k n; decide

/-- Stage 2's buffers handed back at its end. -/
theorem stage2_end (c : Dev nD) (arg2 : Memref sig .tc .vmem S64x7424 .f32) (arg3 : Memref sig .tc .vmem S7424x256 .f32) (arg4 arg5 arg6 : Memref sig .tc .vmem S1x256 .f32) (arg7 : Memref sig .tc .vmem S64x256 .f32)
    (f0 : BufTy.Contents (Elt F) arg2.view.ty) (f1 : BufTy.Contents (Elt F) arg3.view.ty) (f2 : BufTy.Contents (Elt F) arg4.view.ty) (f3 : BufTy.Contents (Elt F) arg5.view.ty) (f4 : BufTy.Contents (Elt F) arg6.view.ty)
    (f5 : BufTy.Contents (Elt F) arg7.view.ty) (z : Vec F S64x256 .f32) (E : Set ℕ) (K : PUnit → sProp 𝕄) :
    iprop((arg2.view.loc (c : Thread nD τ) ↦[arg2.view.set]{fullShare} f0) ∗ (arg3.view.loc (c : Thread nD τ) ↦[arg3.view.set]{fullShare} f1) ∗ (arg4.view.loc (c : Thread nD τ) ↦[arg4.view.set]{fullShare} f2)
        ∗ (arg5.view.loc (c : Thread nD τ) ↦[arg5.view.set]{fullShare} f3) ∗ (arg6.view.loc (c : Thread nD τ) ↦[arg6.view.set]{fullShare} f4) ∗ (arg7.view.loc (c : Thread nD τ) ↦[arg7.view.set]{fullShare} f5)
        ∗ (iprop(owns (c : Thread nD τ) arg2 fullShare (arg2.view.read (Elt F) f0) ∗ owns (c : Thread nD τ) arg3 fullShare (arg3.view.read (Elt F) f1) ∗ owns (c : Thread nD τ) arg4 fullShare (arg4.view.read (Elt F) f2)
          ∗ owns (c : Thread nD τ) arg5 fullShare (arg5.view.read (Elt F) f3) ∗ owns (c : Thread nD τ) arg6 fullShare (arg6.view.read (Elt F) f4) ∗ owns (c : Thread nD τ) arg7 fullShare z) -∗ K ⟨⟩) ∗ ⌜arg7.view.read (Elt F) f5 = z⌝)
      ⊢ wp frame (wpE (defs₀ (F := F)) Variants.none c none) E (Prog.ret ⟨⟩) K := by
  unfold owns
  iintro ⟨H0, H1, H2, H3, H4, H5, Hk, %hz⟩
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  iexists _; isplitr; swap; · iexact H5
  ipureintro; exact hz

set_option maxHeartbeats 2000000 in
theorem wp_stage2 (c : Dev nD) (i : grid2.Coords) (arg2 : Memref sig .tc .vmem S64x7424 .f32) (harg2 : arg2.IsWhole) (arg3 : Memref sig .tc .vmem S7424x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S64x256 .f32) (harg7 : arg7.IsWhole)
    (x0 : Vec F S64x7424 .f32) (x1 : Vec F S7424x256 .f32) (x2 x3 x4 : Vec F S1x256 .f32) (y : Vec F S64x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (s2Out i x0 x1 x2 x3 x4 y)) -∗ K ⟨⟩))
      ⊢ wp frame (wpE (defs₀ (F := F)) Variants.none c none) E (cc2_moment_stage2 i arg2 harg2 arg3 harg3 arg4 harg4 arg5 harg5 arg6 harg6 arg7 harg7) K := by
  simp only [cc2_moment_stage2_eq_skeleton]; unfold cc2_moment_stage2_skel
  have t0 : Scalar.cmpi .ne (Scalar.extui (Scalar.cmpi .eq (BitVec.ofNat 32 (i 1).val) 0#32) : BitVec 32) 0#32 = 1#1 ↔ (i 1).val = 0 := blockTest (i 1) 0
  have t9 : Scalar.cmpi .ne (Scalar.extui (Scalar.cmpi .eq (BitVec.ofNat 32 (i 1).val) 9#32) : BitVec 32) 0#32 = 1#1 ↔ (i 1).val = 9 := blockTest (i 1) 9
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0 hf1 hf2 hf3 hf4 hf5
  by_cases h0 : (i 1).val = 0 <;> by_cases h9 : (i 1).val = 9
  · exact absurd (h0.symm.trans h9) (by decide)
  · simp only [dif_pos (t0.mpr h0), dif_neg (fun h => h9 (t9.mp h))]
    sl_exec
    iapply (stage2_end c arg2 arg3 arg4 arg5 arg6 arg7 f0 f1 f2 f3 f4 _ _ E K)
    isplitl [H0]; · iexact H0
    isplitl [H1]; · iexact H1
    isplitl [H2]; · iexact H2
    isplitl [H3]; · iexact H3
    isplitl [H4]; · iexact H4
    isplitl [H5]; · iexact H5
    isplitl [Hk]; · iexact Hk
    ipureintro
    refine (read_store_whole _ _ _ (by decide) _ _).trans ?_
    unfold s2Out wp_stage2.sl.v26 wp_stage2.sl.H5_1
    rw [if_neg h9, if_pos h0]
    exact congr (congr (congrArg (k2_pay2 i) (whole_ld (arg2.view.read (Elt F) f0) inb_S64x7424_S64x7424_0_0 (by decide))) (whole_ld (arg3.view.read (Elt F) f1) inb_S7424x256_S7424x256_0_0 (by decide)))
      (View.readCov_cons_toLoadRect _ _ _ _)
  · simp only [dif_neg (fun h => h0 (t0.mp h)), dif_pos (t9.mpr h9)]
    sl_exec
    iapply (stage2_end c arg2 arg3 arg4 arg5 arg6 arg7 f0 f1 f2 f3 f4 _ _ E K)
    isplitl [H0]; · iexact H0
    isplitl [H1]; · iexact H1
    isplitl [H2]; · iexact H2
    isplitl [H3]; · iexact H3
    isplitl [H4]; · iexact H4
    isplitl [H5]; · iexact H5
    isplitl [Hk]; · iexact Hk
    ipureintro
    refine (read_store_whole _ _ _ (by decide) _ _).trans ?_
    unfold s2Out wp_stage2.sl.v33 wp_stage2.sl.H5_1_1
    rw [if_pos h9, if_neg h0]
    exact congr (congr (congr (congrArg k2_pay3 ((View.readCov_cons_toLoadRect _ _ _ _).trans
        (congr (congr (congrArg (k2_pay2 i) (whole_ld (arg2.view.read (Elt F) f0) inb_S64x7424_S64x7424_0_0 (by decide))) (whole_ld (arg3.view.read (Elt F) f1) inb_S7424x256_S7424x256_0_0 (by decide)))
          (whole_ld (arg7.view.read (Elt F) f5) inb_S64x256_S64x256_0_0 (by decide)))))
      (whole_ld (arg4.view.read (Elt F) f2) inb_S1x256_S1x256_0_0 (by decide))) (whole_ld (arg5.view.read (Elt F) f3) inb_S1x256_S1x256_0_0 (by decide)))
      (whole_ld (arg6.view.read (Elt F) f4) inb_S1x256_S1x256_0_0 (by decide))
  · simp only [dif_neg (fun h => h0 (t0.mp h)), dif_neg (fun h => h9 (t9.mp h))]
    sl_exec
    iapply (stage2_end c arg2 arg3 arg4 arg5 arg6 arg7 f0 f1 f2 f3 f4 _ _ E K)
    isplitl [H0]; · iexact H0
    isplitl [H1]; · iexact H1
    isplitl [H2]; · iexact H2
    isplitl [H3]; · iexact H3
    isplitl [H4]; · iexact H4
    isplitl [H5]; · iexact H5
    isplitl [Hk]; · iexact Hk
    ipureintro
    refine (read_store_whole _ _ _ (by decide) _ _).trans ?_
    unfold s2Out
    rw [if_neg h9, if_neg h0]
    exact congr (congr (congrArg (k2_pay2 i) (whole_ld (arg2.view.read (Elt F) f0) inb_S64x7424_S64x7424_0_0 (by decide))) (whole_ld (arg3.view.read (Elt F) f1) inb_S7424x256_S7424x256_0_0 (by decide)))
      (whole_ld (arg7.view.read (Elt F) f5) inb_S64x256_S64x256_0_0 (by decide))

end Cert.KernelIdeal.Gen

end
-- ==== Proof.Region1.lean ====
/-
  The second call as a segment of the program: one point, every block exact.
-/
module

public import proofs.«01_k».proof.Proof.Stage23
public import proofs.«01_k».proof.Proof.Gen.KernelIdeal.Points
public import Idealize.ShloMosaic.Lib.Pipeline.FrameBody

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MT nD τ sig Unit (Elt F) ℕ UU ℕ

variable (V : Valuation τ sig (Elt F)) (c : Dev nD)

/-- A window's block at a point, read off its array as the call finds it. -/
def blk1 (w : Fin cfg1.W) (t : Fin cfg1.N) : ((cfg1.win w).xblock (cfg1.grid.coords t)).Idx → Elt F (cfg1.win w).elt :=
  ((cfg1.win w).blk t).view.read (Elt F) (V (Pipeline.arrRef spec1 w))

/-- The weights' block, filled over any contents: the fetch covers the buffer. -/
def wts1 (t : Fin cfg1.N) (d : Vec F S512x768 .f32) : Vec F S512x768 .f32 := (cfg1.win 3).fill (cfg1.grid.coords t) d (blk1 V 3 t)

theorem wts1_eq (t : Fin cfg1.N) (d d' : Vec F S512x768 .f32) : wts1 V t d = wts1 V t d' := by
  have hx : ∀ t : Fin cfg1.N, ∀ a, (cfg1.win 3).xsize (cfg1.grid.coords t) a = (cfg1.win 3).size a := by decide +kernel
  have hm : ∀ j, (cfg1.win 3).moved (cfg1.grid.coords t) j = true := fun j => ((cfg1.win 3).moved_iff _ j).mpr fun a => by rw [hx t a]; exact (j a).isLt
  unfold wts1 Pipeline.Window.fill
  funext j
  rw [dif_pos (hm j), dif_pos (hm j)]

abbrev zero1 : Vec F S512x768 .f32 := fun _ => (Scalar.ofBits .f32 0#32 : F .f32)

/-- What the call leaves in its output buffer. -/
def res1 (t : Fin cfg1.N) : Vec F S64x512 .f32 := s3Out (blk1 V 0 t) (blk1 V 1 t) (blk1 V 2 t) (wts1 V t zero1) (blk1 V 4 t) (blk1 V 5 t) (blk1 V 6 t)

/-- The call's data. -/
def dat1 : Dat τ (Elt F) Unit ℕ UU ℕ cfg1 c where
  A w := V (Pipeline.arrRef spec1 w)
  after w t := match w with
    | ⟨0, _⟩ => blk1 V 0 t
    | ⟨1, _⟩ => blk1 V 1 t
    | ⟨2, _⟩ => blk1 V 2 t
    | ⟨3, _⟩ => wts1 V t zero1
    | ⟨4, _⟩ => blk1 V 4 t
    | ⟨5, _⟩ => blk1 V 5 t
    | ⟨6, _⟩ => blk1 V 6 t
    | ⟨7, _⟩ => res1 V t
  Φ _ := Rest spec1 c
  q _ := fullShare
  owed _ := 0

/-- An input fetched at every point holds its block there. -/
theorem dat1_before (w : Fin cfg1.W) (t : Fin cfg1.N) (hf : (cfg1.win w).fetch t = true) (d) :
    (dat1 V c).before w t d = (cfg1.win w).fill (cfg1.grid.coords t) d (blk1 V w t) := by
  unfold Dat.before; rw [if_pos hf]; rfl

abbrev pre1 (t : Fin cfg1.N) : sProp 𝕄 :=
  iprop(Rest spec1 c ∗ (dat1 V c).owesAt () t.castSucc
    ∗ (∃ d, owns c (st1_0 t) fullShare ((dat1 V c).before 0 t d)) ∗ (∃ d, owns c (st1_1 t) fullShare ((dat1 V c).before 1 t d))
    ∗ (∃ d, owns c (st1_2 t) fullShare ((dat1 V c).before 2 t d)) ∗ (∃ d, owns c (st1_3 t) fullShare ((dat1 V c).before 3 t d))
    ∗ (∃ d, owns c (st1_4 t) fullShare ((dat1 V c).before 4 t d)) ∗ (∃ d, owns c (st1_5 t) fullShare ((dat1 V c).before 5 t d))
    ∗ (∃ d, owns c (st1_6 t) fullShare ((dat1 V c).before 6 t d)) ∗ (∃ d, owns c (st1_7 t) fullShare ((dat1 V c).before 7 t d)))

abbrev post1 (t : Fin cfg1.N) : sProp 𝕄 :=
  iprop(Rest spec1 c ∗ (dat1 V c).owesAt () t.succ
    ∗ owns c (st1_0 t) fullShare (blk1 V 0 t) ∗ owns c (st1_1 t) fullShare (blk1 V 1 t) ∗ owns c (st1_2 t) fullShare (blk1 V 2 t)
    ∗ (∃ d, owns c (st1_3 t) fullShare ((cfg1.win 3).fill (cfg1.grid.coords t) d ((cfg1.win 3).cut (cfg1.grid.coords t) (wts1 V t zero1))))
    ∗ owns c (st1_4 t) fullShare (blk1 V 4 t) ∗ owns c (st1_5 t) fullShare (blk1 V 5 t) ∗ owns c (st1_6 t) fullShare (blk1 V 6 t)
    ∗ owns c (st1_7 t) fullShare (res1 V t))

theorem body1 (t : Fin cfg1.N) : pre1 V c t ⊢ wp frame (wpE (defs₀ (F := F)) Variants.none c none) Set.univ (bodyAt1 t) (fun _ => post1 V c t) := by
  have hw : ∀ d, (cfg1.win 3).fill (cfg1.grid.coords t) d ((cfg1.win 3).cut (cfg1.grid.coords t) (wts1 V t zero1)) = wts1 V t d := fun d => by
    unfold wts1; rw [Pipeline.Window.cut_fill]
  have b0 : ∀ d, (dat1 V c).before 0 t d = blk1 V 0 t := fun d => dat1_before V c 0 t (fetch1_0 t) d
  have b1 : ∀ d, (dat1 V c).before 1 t d = blk1 V 1 t := fun d => dat1_before V c 1 t (fetch1_1 t) d
  have b2 : ∀ d, (dat1 V c).before 2 t d = blk1 V 2 t := fun d => dat1_before V c 2 t (fetch1_2 t) d
  have b3 : ∀ d, (dat1 V c).before 3 t d = wts1 V t zero1 := fun d => (dat1_before V c 3 t (fetch1_3 t) d).trans (wts1_eq V t d zero1)
  have b4 : ∀ d, (dat1 V c).before 4 t d = blk1 V 4 t := fun d => dat1_before V c 4 t (fetch1_4 t) d
  have b5 : ∀ d, (dat1 V c).before 5 t d = blk1 V 5 t := fun d => dat1_before V c 5 t (fetch1_5 t) d
  have b6 : ∀ d, (dat1 V c).before 6 t d = blk1 V 6 t := fun d => dat1_before V c 6 t (fetch1_6 t) d
  unfold pre1 post1 bodyAt1
  simp only [hw, b0, b1, b2, b3, b4, b5, b6]
  iintro ⟨HR, HO, ⟨%d0, H0⟩, ⟨%d1, H1⟩, ⟨%d2, H2⟩, ⟨%d3, H3⟩, ⟨%d4, H4⟩, ⟨%d5, H5⟩, ⟨%d6, H6⟩, ⟨%d7, H7⟩⟩
  iapply (wp_stage3 c (grid1.coords t) (win1_0.stage (cfg1.slots t 0)) _ (win1_1.stage (cfg1.slots t 1)) _ (win1_2.stage (cfg1.slots t 2)) _ (win1_3.stage (cfg1.slots t 3)) _ (win1_4.stage (cfg1.slots t 4)) _ (win1_5.stage (cfg1.slots t 5)) _ (win1_6.stage (cfg1.slots t 6)) _ (win1_7.stage (cfg1.slots t 7)) _
    (blk1 V 0 t) (blk1 V 1 t) (blk1 V 2 t) (wts1 V t zero1) (blk1 V 4 t) (blk1 V 5 t) (blk1 V 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HR]; · iexact HR
  isplitl [HO]; · iexact HO
  isplitl [H0]; · iexact H0
  isplitl [H1]; · iexact H1
  isplitl [H2]; · iexact H2
  isplitl [H3]; · iexists _; iexact H3
  isplitl [H4]; · iexact H4
  isplitl [H5]; · iexact H5
  isplitl [H6]; · iexact H6
  iexact H7

set_option maxHeartbeats 1000000 in
set_option backward.isDefEq.respectTransparency.types false in
theorem obl1 : Pipeline.BodyObligationLoose (dat1 V c) (defs₀ (F := F)) Variants.none () Set.univ := fun t => by
  rw [bigSep_W1, bigSep_W1, show defs₀ (F := F) .tc cfg1.body (cfg1.bodyArgs t (cfg1.slots t)) = bodyAt1 t from by unfold defs₀; rw [Defs.onTc_tc]]
  exact triple_restated (body1 V c t) rfl .rfl fun _ => .rfl

/-- The data of the call; the other calls' are never read. -/
def rds1 (V : Dev nD → Valuation τ sig (Elt F)) (q : Fin 3) (c : Dev nD) : RDat τ (Elt F) Unit ℕ UU ℕ (Pipeline.pin (pcfgs (F := F)) adm q) c := match q with
  | 0 => (idleDat c).toR
  | 1 => (dat1 (V c) c).toR
  | 2 => (idleDat c).toR

/-- The buffers after the call. -/
def out1 : Valuation τ sig (Elt F) := Function.update V main_v7 ((dat1 V c).arrAt 7 cfg1.N)

theorem out1_ne {b : Ref sig .tc} (h : b ≠ main_v7) : out1 V c b = V b := by
  unfold out1; rw [Function.update_of_ne (StableHlo.devRef_ne_of_ne h)]
theorem out1_v7 : out1 V c main_v7 = (dat1 V c).arrAt 7 cfg1.N := by
  unfold out1; rw [Function.update_self]

set_option backward.isDefEq.respectTransparency.types false in
/-- At the call's end. -/
theorem exit1 (A : (w : Fin cfg1.W) → Buf (Elt F) ((spec1 w).arr.view.loc (c.tc : Thread nD τ))) (hA : ∀ w, (dat1 V c).toR.ArrAt w cfg1.N (A w)) :
    ∃ _ : Unit, True ∧ (∀ w, A w = out1 V c (Pipeline.arrRef spec1 w))
      ∧ ∀ b : Ref sig .tc, b ∉ Finset.univ.image (Pipeline.arrRef spec1) → out1 V c b = V b := by
  have hi : ∀ w, (cfg1.win w).isOut = false → A w = V (Pipeline.arrRef spec1 w) := fun w hw => by
    have h := hA w
    rw [RDat.ArrAt_in _ w hw] at h
    exact h
  refine ⟨(), trivial, ?_, ?_⟩
  · intro w
    match w with
    | ⟨0, _⟩ => exact (hi 0 rfl).trans (out1_ne V c (by decide)).symm
    | ⟨1, _⟩ => exact (hi 1 rfl).trans (out1_ne V c (by decide)).symm
    | ⟨2, _⟩ => exact (hi 2 rfl).trans (out1_ne V c (by decide)).symm
    | ⟨3, _⟩ => exact (hi 3 rfl).trans (out1_ne V c (by decide)).symm
    | ⟨4, _⟩ => exact (hi 4 rfl).trans (out1_ne V c (by decide)).symm
    | ⟨5, _⟩ => exact (hi 5 rfl).trans (out1_ne V c (by decide)).symm
    | ⟨6, _⟩ => exact (hi 6 rfl).trans (out1_ne V c (by decide)).symm
    | ⟨7, _⟩ => exact ((dat1 V c).toR_arrAt 7 _ _ (hA 7)).trans (out1_v7 V c).symm
  · intro b hb
    exact out1_ne V c (fun h => hb (Finset.mem_image.mpr ⟨7, Finset.mem_univ _, h.symm⟩))

set_option maxHeartbeats 1000000 in
set_option backward.isDefEq.respectTransparency.types false in
/-- The second call. -/
def rec1 (V : Dev nD → Valuation τ sig (Elt F)) : RDat.RegionSeg (pcfgs (F := F)) adm (rds1 V) () defs₀ Variants.none Lv lv 1 :=
  callRec 1 (rds1 V) launch1.toP (fun c => (obl1 (V c) c).toR) (fun c t => show (dat1 (V c) c).toR.owed t = 0 from rfl)
    (fun c => show (dat1 (V c) c).toR.recorded 0 = Set.univ from rfl) (fun c w => show (dat1 (V c) c).toR.share w = fullShare from ite_self _)
    (fun c t => show (dat1 (V c) c).toR.Φ t = Rest spec1 c from rfl)
    V (fun (_ : Unit) c => out1 (V c) c) (fun _ _ => True) (fun c w => show (dat1 (V c) c).toR.A w = V c (Pipeline.arrRef spec1 w) from rfl)
    (fun c A hA => exit1 (V c) c A hA)

end Cert.KernelIdeal.Gen

end
-- ==== Proof.Region2.lean ====
/-
  The third call as a segment of the program: two runs of ten points, each run summing ten blocks of the long product in
  its output buffer. The last block of the weights overhangs its array; the body masks what lies past the end.
-/
module

public import proofs.«01_k».proof.Proof.Stage23
public import proofs.«01_k».proof.Proof.Gen.KernelIdeal.Points
public import Idealize.ShloMosaic.Lib.Pipeline.FrameBody
public import Idealize.ShloMosaic.Lib.Pipeline.Value
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MT nD τ sig Unit (Elt F) ℕ UU ℕ

variable (V : Valuation τ sig (Elt F)) (c : Dev nD)

/-- A window's block at a point, read off its array as the call finds it. -/
def blk2 (w : Fin cfg2.W) (t : Fin cfg2.N) : ((cfg2.win w).xblock (cfg2.grid.coords t)).Idx → Elt F (cfg2.win w).elt :=
  ((cfg2.win w).blk t).view.read (Elt F) (V (Pipeline.arrRef spec2 w))

/-- The packed triangles' block, filled over any contents: the fetch covers the buffer. -/
def vec2 (t : Fin cfg2.N) (d : Vec F S64x7424 .f32) : Vec F S64x7424 .f32 := (cfg2.win 0).fill (cfg2.grid.coords t) d (blk2 V 0 t)
/-- The weights' block, filled over any contents: the last block's tail keeps them. -/
def wts2 (t : Fin cfg2.N) (d : Vec F S7424x256 .f32) : Vec F S7424x256 .f32 := (cfg2.win 1).fill (cfg2.grid.coords t) d (blk2 V 1 t)

theorem vec2_eq (t : Fin cfg2.N) (d d' : Vec F S64x7424 .f32) : vec2 V t d = vec2 V t d' := by
  have hx : ∀ t : Fin cfg2.N, ∀ a, (cfg2.win 0).xsize (cfg2.grid.coords t) a = (cfg2.win 0).size a := by decide +kernel
  have hm : ∀ j, (cfg2.win 0).moved (cfg2.grid.coords t) j = true := fun j => ((cfg2.win 0).moved_iff _ j).mpr fun a => by rw [hx t a]; exact (j a).isLt
  unfold vec2 Pipeline.Window.fill
  funext j
  rw [dif_pos (hm j), dif_pos (hm j)]

abbrev zero2v : Vec F S64x7424 .f32 := fun _ => (Scalar.ofBits .f32 0#32 : F .f32)
abbrev zero2w : Vec F S7424x256 .f32 := fun _ => (Scalar.ofBits .f32 0#32 : F .f32)

/-- How much of the weights' block a fetch moves. -/
theorem xsize2 : ∀ t : Fin cfg2.N, (cfg2.win 1).xsize (cfg2.grid.coords t) 0 = min 7424 (73920 - 7424 * (t.val % 10)) ∧ (cfg2.win 1).xsize (cfg2.grid.coords t) 1 = 256 := by decide +kernel
/-- The block's number at a point. -/
theorem coord2 : ∀ t : Fin cfg2.N, ((cfg2.grid.coords t : grid2.Coords) 1).val = t.val % 10 := by decide +kernel

open Idealize.ShloMosaic.WordCmp in
/-- The body's test of an index within the block against the weights' length, as a comparison of numbers. -/
theorem tailTest (k n : ℕ) (hk : k < 10) (hn : n < 7424) :
    IntOp.cmpi .slt (IntOp.addi (IntOp.muli (BitVec.ofNat 32 k) 7424#32) (BitVec.ofNat 32 n)) 73920#32 = if 7424 * k + n < 73920 then 1#1 else 0#1 := by
  rw [muli_ofNat, addi_ofNat, cmpi_slt_ofNat (by omega) (by omega), ofBool_decide_eq_ite, Nat.mul_comm]

/-- The masked weights, at a row within the array and at one past it. -/
theorem wts2_tail (t : Fin cfg2.N) (d d' : Vec F S7424x256 .f32) (j : S7424x256.Idx) (h : 7424 * (t.val % 10) + (j 0).val < 73920) :
    wts2 V t d j = wts2 V t d' j := by
  have hm : (cfg2.win 1).moved (cfg2.grid.coords t) j = true := ((cfg2.win 1).moved_iff _ j).mpr fun a => by
    have hj := (j a).isLt
    match a with
    | ⟨0, _⟩ => rw [show (⟨0, _⟩ : Fin 2) = 0 from rfl, (xsize2 t).1]; exact Nat.lt_min.mpr ⟨hj, by omega⟩
    | ⟨1, _⟩ => rw [show (⟨1, _⟩ : Fin 2) = 1 from rfl, (xsize2 t).2]; exact hj
  unfold wts2 Pipeline.Window.fill
  rw [dif_pos hm, dif_pos hm]

/-- A row past the end of the weights is masked: the body's product does not depend on it. -/
theorem pay2_tail (t : Fin cfg2.N) (x : Vec F S64x7424 .f32) (d d' : Vec F S7424x256 .f32) (y : Vec F S64x256 .f32) :
    k2_pay2 (cfg2.grid.coords t) x (wts2 V t d) y = k2_pay2 (cfg2.grid.coords t) x (wts2 V t d') y := by
  have hk : t.val % 10 < 10 := Nat.mod_lt _ (by decide)
  have key : ∀ z : FVec F S7424x256 .f32,
      select (cmpi .slt (addi (broadcast S7424x256 (Scalar.muli (BitVec.ofNat 32 ((cfg2.grid.coords t : grid2.Coords) 1).val) 7424#32)) (iota .tc S7424x256 32 [0] iota_S7424x256_d0_w32)) (broadcast S7424x256 73920#32)) (wts2 V t d) z
        = select (cmpi .slt (addi (broadcast S7424x256 (Scalar.muli (BitVec.ofNat 32 ((cfg2.grid.coords t : grid2.Coords) 1).val) 7424#32)) (iota .tc S7424x256 32 [0] iota_S7424x256_d0_w32)) (broadcast S7424x256 73920#32)) (wts2 V t d') z := fun z => by
    funext j
    have hi : (iota .tc S7424x256 32 [0] iota_S7424x256_d0_w32 : IVec S7424x256 32) j = BitVec.ofNat 32 (j 0).val := iota_single_apply ..
    show Scalar.select (IntOp.cmpi .slt (IntOp.addi (IntOp.muli (BitVec.ofNat 32 ((cfg2.grid.coords t : grid2.Coords) 1).val) 7424#32) (iota .tc S7424x256 32 [0] iota_S7424x256_d0_w32 j)) 73920#32) (wts2 V t d j) (z j)
      = Scalar.select (IntOp.cmpi .slt (IntOp.addi (IntOp.muli (BitVec.ofNat 32 ((cfg2.grid.coords t : grid2.Coords) 1).val) 7424#32) (iota .tc S7424x256 32 [0] iota_S7424x256_d0_w32 j)) 73920#32) (wts2 V t d' j) (z j)
    rw [hi]
    rw [coord2, tailTest _ _ hk (j 0).isLt]
    by_cases h : 7424 * (t.val % 10) + (j 0).val < 73920
    · rw [wts2_tail V t d d' j h]
    · rw [if_neg h]; rfl
  unfold k2_pay2
  dsimp only
  simp only [shapeCast_self]
  exact congrArg (fun z => addf y (matmul dot_S64x7424_S7424x256_S64x256_1_0_0_1_n_n none _ z _)) (key _)

/-- What the output buffer holds after the first `n` points. -/
def acc2 : ℕ → Vec F S64x256 .f32
  | 0 => fun _ => (Scalar.ofBits .f32 0#32 : F .f32)
  | n + 1 => if h : n < cfg2.N then
      s2Out (cfg2.grid.coords ⟨n, h⟩) (vec2 V ⟨n, h⟩ zero2v) (wts2 V ⟨n, h⟩ zero2w) (blk2 V 2 ⟨n, h⟩) (blk2 V 3 ⟨n, h⟩) (blk2 V 4 ⟨n, h⟩) (acc2 n)
    else acc2 n

theorem acc2_succ (t : Fin cfg2.N) : acc2 V (t.val + 1)
    = s2Out (cfg2.grid.coords t) (vec2 V t zero2v) (wts2 V t zero2w) (blk2 V 2 t) (blk2 V 3 t) (blk2 V 4 t) (acc2 V t.val) := by
  rw [acc2, dif_pos t.isLt]

/-- The call's data. -/
def dat2 : Dat τ (Elt F) Unit ℕ UU ℕ cfg2 c where
  A w := V (Pipeline.arrRef spec2 w)
  after w t := match w with
    | ⟨0, _⟩ => vec2 V t zero2v
    | ⟨1, _⟩ => wts2 V t zero2w
    | ⟨2, _⟩ => blk2 V 2 t
    | ⟨3, _⟩ => blk2 V 3 t
    | ⟨4, _⟩ => blk2 V 4 t
    | ⟨5, _⟩ => acc2 V (t.val + 1)
  Φ _ := Rest spec2 c
  q _ := fullShare
  owed _ := 0

theorem dat2_before0 (t : Fin cfg2.N) (d) : (dat2 V c).before 0 t d = vec2 V t zero2v := by
  refine Eq.trans ?_ (vec2_eq V t d zero2v)
  unfold Dat.before; rw [if_pos (fetch2_0 t)]; rfl
theorem dat2_before1 (t : Fin cfg2.N) (d) : (dat2 V c).before 1 t d = wts2 V t d := by
  unfold Dat.before; rw [if_pos (fetch2_1 t)]; rfl
theorem dat2_before2 (t : Fin cfg2.N) (d) : (dat2 V c).before 2 t d = blk2 V 2 t :=
  ((dat2 V c).before_in_eq_fetched 2 rfl (fun _ => rfl) (fun _ _ _ => rfl) (fun t => by rfl) t d).trans (by rfl)
theorem dat2_before3 (t : Fin cfg2.N) (d) : (dat2 V c).before 3 t d = blk2 V 3 t :=
  ((dat2 V c).before_in_eq_fetched 3 rfl (fun _ => rfl) (fun _ _ _ => rfl) (fun t => by rfl) t d).trans (by rfl)
theorem dat2_before4 (t : Fin cfg2.N) (d) : (dat2 V c).before 4 t d = blk2 V 4 t :=
  ((dat2 V c).before_in_eq_fetched 4 rfl (fun _ => rfl) (fun _ _ _ => rfl) (fun t => by rfl) t d).trans (by rfl)

/-- What a point leaves, whatever the first point of a run finds in the output buffer. -/
theorem s2Out_before (t : Fin cfg2.N) (d d') :
    s2Out (cfg2.grid.coords t) (vec2 V t zero2v) (wts2 V t d') (blk2 V 2 t) (blk2 V 3 t) (blk2 V 4 t) ((dat2 V c).before 5 t d) = acc2 V (t.val + 1) := by
  rw [acc2_succ]
  unfold s2Out
  rw [pay2_tail V t _ d' zero2w, coord2]
  by_cases h : t.val % 10 = 0
  · rw [if_pos h, if_pos h]
  · have ht : t.val ≠ 0 := fun h0 => h (by rw [h0])
    have hb : (dat2 V c).before 5 t d = acc2 V t.val := by
      rw [(dat2 V c).before_out_acc 5 rfl t ht (by
        rw [Bool.eq_false_iff]; intro hfl; have := (flush2_5 _).mp hfl; simp only at this; omega) (fun _ => rfl)]
      show acc2 V (t.val - 1 + 1) = _
      rw [Nat.sub_add_cancel (Nat.pos_of_ne_zero ht)]
    rw [hb]

abbrev pre2 (t : Fin cfg2.N) : sProp 𝕄 :=
  iprop(Rest spec2 c ∗ (dat2 V c).owesAt () t.castSucc
    ∗ (∃ d, owns c (st2_0 t) fullShare ((dat2 V c).before 0 t d)) ∗ (∃ d, owns c (st2_1 t) fullShare ((dat2 V c).before 1 t d))
    ∗ (∃ d, owns c (st2_2 t) fullShare ((dat2 V c).before 2 t d)) ∗ (∃ d, owns c (st2_3 t) fullShare ((dat2 V c).before 3 t d))
    ∗ (∃ d, owns c (st2_4 t) fullShare ((dat2 V c).before 4 t d)) ∗ (∃ d, owns c (st2_5 t) fullShare ((dat2 V c).before 5 t d)))

abbrev post2 (t : Fin cfg2.N) : sProp 𝕄 :=
  iprop(Rest spec2 c ∗ (dat2 V c).owesAt () t.succ
    ∗ (∃ d, owns c (st2_0 t) fullShare ((cfg2.win 0).fill (cfg2.grid.coords t) d ((cfg2.win 0).cut (cfg2.grid.coords t) (vec2 V t zero2v))))
    ∗ (∃ d, owns c (st2_1 t) fullShare ((cfg2.win 1).fill (cfg2.grid.coords t) d ((cfg2.win 1).cut (cfg2.grid.coords t) (wts2 V t zero2w))))
    ∗ owns c (st2_2 t) fullShare (blk2 V 2 t) ∗ owns c (st2_3 t) fullShare (blk2 V 3 t) ∗ owns c (st2_4 t) fullShare (blk2 V 4 t)
    ∗ owns c (st2_5 t) fullShare (acc2 V (t.val + 1)))

theorem body2 (t : Fin cfg2.N) : pre2 V c t ⊢ wp frame (wpE (defs₀ (F := F)) Variants.none c none) Set.univ (bodyAt2 t) (fun _ => post2 V c t) := by
  have hv : ∀ d, (cfg2.win 0).fill (cfg2.grid.coords t) d ((cfg2.win 0).cut (cfg2.grid.coords t) (vec2 V t zero2v)) = vec2 V t d := fun d => by
    unfold vec2; rw [Pipeline.Window.cut_fill]
  have hw : ∀ d, (cfg2.win 1).fill (cfg2.grid.coords t) d ((cfg2.win 1).cut (cfg2.grid.coords t) (wts2 V t zero2w)) = wts2 V t d := fun d => by
    unfold wts2; rw [Pipeline.Window.cut_fill]
  unfold pre2 post2 bodyAt2
  simp only [hv, hw, dat2_before0, dat2_before1, dat2_before2, dat2_before3, dat2_before4]
  iintro ⟨HR, HO, ⟨%d0, H0⟩, ⟨%d1, H1⟩, ⟨%d2, H2⟩, ⟨%d3, H3⟩, ⟨%d4, H4⟩, ⟨%d5, H5⟩⟩
  rw [← s2Out_before V c t d5 d1]
  iapply (wp_stage2 c (grid2.coords t) (win2_0.stage (cfg2.slots t 0)) _ (win2_1.stage (cfg2.slots t 1)) _ (win2_2.stage (cfg2.slots t 2)) _ (win2_3.stage (cfg2.slots t 3)) _ (win2_4.stage (cfg2.slots t 4)) _ (win2_5.stage (cfg2.slots t 5)) _
    (vec2 V t zero2v) (wts2 V t d1) (blk2 V 2 t) (blk2 V 3 t) (blk2 V 4 t) ((dat2 V c).before 5 t d5) Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HR]; · iexact HR
  isplitl [HO]; · iexact HO
  isplitl [H0]; · iexists _; iexact H0
  isplitl [H1]; · iexists _; iexact H1
  isplitl [H2]; · iexact H2
  isplitl [H3]; · iexact H3
  isplitl [H4]; · iexact H4
  iexact H5

set_option maxHeartbeats 1000000 in
set_option backward.isDefEq.respectTransparency.types false in
theorem obl2 : Pipeline.BodyObligationLoose (dat2 V c) (defs₀ (F := F)) Variants.none () Set.univ := fun t => by
  rw [bigSep_W2, bigSep_W2, show defs₀ (F := F) .tc cfg2.body (cfg2.bodyArgs t (cfg2.slots t)) = bodyAt2 t from by unfold defs₀; rw [Defs.onTc_tc]]
  exact triple_restated (body2 V c t) rfl .rfl fun _ => .rfl

/-- The data of the call; the other calls' are never read. -/
def rds2 (V : Dev nD → Valuation τ sig (Elt F)) (q : Fin 3) (c : Dev nD) : RDat τ (Elt F) Unit ℕ UU ℕ (Pipeline.pin (pcfgs (F := F)) adm q) c := match q with
  | 0 => (idleDat c).toR
  | 1 => (idleDat c).toR
  | 2 => (dat2 (V c) c).toR

/-- The buffers after the call. -/
def out2 : Valuation τ sig (Elt F) := Function.update V main_v13 ((dat2 V c).arrAt 5 cfg2.N)

theorem out2_ne {b : Ref sig .tc} (h : b ≠ main_v13) : out2 V c b = V b := by
  unfold out2; rw [Function.update_of_ne (StableHlo.devRef_ne_of_ne h)]
theorem out2_v13 : out2 V c main_v13 = (dat2 V c).arrAt 5 cfg2.N := by
  unfold out2; rw [Function.update_self]

set_option backward.isDefEq.respectTransparency.types false in
/-- At the call's end. -/
theorem exit2 (A : (w : Fin cfg2.W) → Buf (Elt F) ((spec2 w).arr.view.loc (c.tc : Thread nD τ))) (hA : ∀ w, (dat2 V c).toR.ArrAt w cfg2.N (A w)) :
    ∃ _ : Unit, True ∧ (∀ w, A w = out2 V c (Pipeline.arrRef spec2 w))
      ∧ ∀ b : Ref sig .tc, b ∉ Finset.univ.image (Pipeline.arrRef spec2) → out2 V c b = V b := by
  have hi : ∀ w, (cfg2.win w).isOut = false → A w = V (Pipeline.arrRef spec2 w) := fun w hw => by
    have h := hA w
    rw [RDat.ArrAt_in _ w hw] at h
    exact h
  refine ⟨(), trivial, ?_, ?_⟩
  · intro w
    match w with
    | ⟨0, _⟩ => exact (hi 0 rfl).trans (out2_ne V c (by decide)).symm
    | ⟨1, _⟩ => exact (hi 1 rfl).trans (out2_ne V c (by decide)).symm
    | ⟨2, _⟩ => exact (hi 2 rfl).trans (out2_ne V c (by decide)).symm
    | ⟨3, _⟩ => exact (hi 3 rfl).trans (out2_ne V c (by decide)).symm
    | ⟨4, _⟩ => exact (hi 4 rfl).trans (out2_ne V c (by decide)).symm
    | ⟨5, _⟩ => exact ((dat2 V c).toR_arrAt 5 _ _ (hA 5)).trans (out2_v13 V c).symm
  · intro b hb
    exact out2_ne V c (fun h => hb (Finset.mem_image.mpr ⟨5, Finset.mem_univ _, h.symm⟩))

set_option maxHeartbeats 1000000 in
set_option backward.isDefEq.respectTransparency.types false in
/-- The third call. -/
def rec2 (V : Dev nD → Valuation τ sig (Elt F)) : RDat.RegionSeg (pcfgs (F := F)) adm (rds2 V) () defs₀ Variants.none Lv lv 2 :=
  callRec 2 (rds2 V) launch2.toP (fun c => (obl2 (V c) c).toR) (fun c t => show (dat2 (V c) c).toR.owed t = 0 from rfl)
    (fun c => show (dat2 (V c) c).toR.recorded 0 = Set.univ from rfl) (fun c w => show (dat2 (V c) c).toR.share w = fullShare from ite_self _)
    (fun c t => show (dat2 (V c) c).toR.Φ t = Rest spec2 c from rfl)
    V (fun (_ : Unit) c => out2 (V c) c) (fun _ _ => True) (fun c w => show (dat2 (V c) c).toR.A w = V c (Pipeline.arrRef spec2 w) from rfl)
    (fun c A hA => exit2 (V c) c A hA)

end Cert.KernelIdeal.Gen

end
-- ==== Proof.Run.lean ====
/-
  The run of the whole program: the four host stretches and the three calls as a chain of segments. What the first call leaves
  in the packed triangles is known only where its rows of copies wrote, so from there on every segment is a family over those
  contents.
-/
module

public import proofs.«01_k».proof.Proof.Region0
public import proofs.«01_k».proof.Proof.Region1
public import proofs.«01_k».proof.Proof.Region2
public import proofs.«01_k».proof.Proof.Gen.KernelIdeal.Regions
public import Idealize.ShloMosaic.Lib.Pipeline.RegionsLoop
public import Idealize.ShloMosaic.Lib.Pipeline.RegionsForgetR
public import Idealize.ShloMosaic.Lib.Pipeline.RegionsForgetLinks
public import Idealize.ShloMosaic.Lib.HostLoop.Lifted

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat CSeg)

variable {F : FTy → Type} [FloatOps F]

local notation "𝕄" => MT nD τ sig Unit (Elt F) ℕ UU ℕ

/-- Contents of the packed triangles, a block for each of the first call's points. -/
abbrev Tri (F : FTy → Type) [FloatOps F] : Type := Fin 8 → Vec F S1x8x74304 .f32

variable (m : (ℓ : Loc nD τ sig) → Buf (Elt F) ℓ)

/-! ## The buffers between the items -/

def W1 (c : Dev nD) : Valuation τ sig (Elt F) := StableHlo.after hostOps0 (V0 m c)
def W2 (X : Tri F) (c : Dev nD) : Valuation τ sig (Elt F) := out0 (W1 m c) X c
def W3 (X : Tri F) (c : Dev nD) : Valuation τ sig (Elt F) := StableHlo.after hostOps1 (W2 m X c)
def W4 (X : Tri F) (c : Dev nD) : Valuation τ sig (Elt F) := out1 (W3 m X c) c
def W5 (X : Tri F) (c : Dev nD) : Valuation τ sig (Elt F) := StableHlo.after hostOps2 (W4 m X c)
def W6 (X : Tri F) (c : Dev nD) : Valuation τ sig (Elt F) := out2 (W5 m X c) c
def W7 (X : Tri F) (c : Dev nD) : Valuation τ sig (Elt F) := StableHlo.after hostOps3 (W6 m X c)

/-- A reference that no item writes. -/
def Kept (r : Ref sig .tc) : Prop :=
  r ∉ hostOps0_W ∧ r ≠ main_v2_0 ∧ r ≠ main_v2_1 ∧ r ∉ hostOps1_W ∧ r ≠ main_v7 ∧ r ∉ hostOps2_W ∧ r ≠ main_v13 ∧ r ∉ hostOps3_W

instance (r : Ref sig .tc) : Decidable (Kept r) := by unfold Kept; infer_instance

/-- It reaches the end as launched. -/
theorem W7_kept (X : Tri F) (c : Dev nD) (r : Ref sig .tc) (h : Kept r) : W7 m X c r = m ((c : Thread nD τ).loc r) := by
  obtain ⟨h0, ha, hb, h1, h7, h2, h13, h3⟩ := h
  have e7 : W7 m X c r = W6 m X c r := StableHlo.after_of_writes_sub hostOps3 _ hostOps3_writes h3
  have e6 : W6 m X c r = W5 m X c r := out2_ne _ c h13
  have e5 : W5 m X c r = W4 m X c r := StableHlo.after_of_writes_sub hostOps2 _ hostOps2_writes h2
  have e4 : W4 m X c r = W3 m X c r := out1_ne _ c h7
  have e3 : W3 m X c r = W2 m X c r := StableHlo.after_of_writes_sub hostOps1 _ hostOps1_writes h1
  have e2 : W2 m X c r = W1 m c r := out0_ne _ X c ha hb
  have e1 : W1 m c r = V0 m c r := StableHlo.after_of_writes_sub hostOps0 _ hostOps0_writes h0
  rw [e7, e6, e5, e4, e3, e2, e1]

/-! ## The segments -/

abbrev loops : Fin 0 → Prog (TpuEff nD τ sig (Elt F) (HostLoop.Sig (Pipeline.Sig Λ₀ (Fin 3) fun p => Pipeline.PCfg.Adm (pcfgs (F := F) p)) 0) .tc) PUnit := fun l => l.elim0

/-- One ticket for each call, in its own copy of the pipelines' algebra. -/
def tk (j : Fin 3) : Pipeline.Ticket (Ix := Unit) (Name := ℕ) (U := UU) (Lvl := ℕ) (nD := nD) (τ := τ) (pcfgs (F := F)) adm :=
  { p := j, pdats := fun _ c => idleDat c, EP := embAt j }

abbrev KitSeg (F : FTy → Type) [FloatOps F] : Type 1 := CSeg (Ix := Unit) (Name := ℕ) (U := UU) (Lvl := ℕ) (pcfgs (F := F)) adm defs₀ Variants.none Lv lv loops tk

/-- Nothing is owed. -/
abbrev R0 (c : Dev nD) : sProp 𝕄 := iprop(∃ W, owes (c : Thread nD τ) (0 : CellTallies nD τ sig Unit) W)

/-- What is known of the packed triangles after the first call. -/
def SelAt (X : Tri F) (c : Dev nD) : Prop := Sel (W1 m c) X

/-- A host stretch from the buffers `V`. -/
def hseg (ops : List (HloOp τ sig (Elt F))) (hs : ops.Forall fun op => op.bufs ⊆ StableHlo.tcRefs τ sig) (hf : ops.Forall fun op => op.fresh = ∅)
    (V : Dev nD → Valuation τ sig (Elt F)) : KitSeg F :=
  CSeg.ofOps _ _ _ _ _ _ _ _ (Pipeline.ucRefs τ sig) ops (fun op h => Pipeline.sub_ucRefs op ((List.forall_iff_forall_mem.mp hs) op h))
    (fun op h => (List.forall_iff_forall_mem.mp hf) op h) V R0

/-- A host stretch, for every contents of the packed triangles that the first call may leave. -/
def xseg (ops : List (HloOp τ sig (Elt F))) (hs : ops.Forall fun op => op.bufs ⊆ StableHlo.tcRefs τ sig) (hf : ops.Forall fun op => op.fresh = ∅)
    (V : Tri F → Dev nD → Valuation τ sig (Elt F)) : KitSeg F :=
  CSeg.exSel (SelAt m) (fun X => hseg ops hs hf (V X)) (StableHlo.seq ops) (fun _ => rfl) 0 (fun _ => Nat.le_refl _) ∅ (fun _ => rfl)

def s1 : KitSeg F := CSeg.regionAtR (pcfgs (F := F)) adm () cellOf_inj defs₀ Variants.none Lv lv loops tk 0 (rds0 (W1 m)) (rec0 (W1 m))
def s3 : KitSeg F := CSeg.regionFR (pcfgs (F := F)) adm () cellOf_inj defs₀ Variants.none Lv lv loops tk 1 (fun X : Tri F => rds1 (W3 m X)) (fun X => rec1 (W3 m X)) (SelAt m)
def s5 : KitSeg F := CSeg.regionFR (pcfgs (F := F)) adm () cellOf_inj defs₀ Variants.none Lv lv loops tk 2 (fun X : Tri F => rds2 (W5 m X)) (fun X => rec2 (W5 m X)) (SelAt m)

def segs7 : List (KitSeg F) :=
  [hseg hostOps0 hostOps0_sub hostOps0_fresh (V0 m), s1 m, xseg m hostOps1 hostOps1_sub hostOps1_fresh (W2 m), s3 m,
   xseg m hostOps2 hostOps2_sub hostOps2_fresh (W4 m), s5 m, xseg m hostOps3 hostOps3_sub hostOps3_fresh (W6 m)]

/-- The state at the end. -/
abbrev Tn (c : Dev nD) : sProp 𝕄 := iprop(∃ X : Tri F, ⌜SelAt m X c⌝ ∗ StableHlo.held (c : Thread nD τ) (Pipeline.ucRefs τ sig) (W7 m X c))

set_option backward.isDefEq.respectTransparency.types false in
/-- A call whose contents are exact, entered from the family of states before it. -/
theorem forget_unit (A : sProp 𝕄) : (iprop(∃ _ : Unit, ⌜True⌝ ∗ A) : sProp 𝕄) ⊢ A := by
  iintro ⟨%u, -, H⟩; iexact H

theorem fam_mono (c : Dev nD) {A B : Tri F → sProp 𝕄} (h : ∀ X, A X ⊢ B X) : (iprop(∃ X : Tri F, ⌜SelAt m X c⌝ ∗ A X) : sProp 𝕄) ⊢ iprop(∃ X : Tri F, ⌜SelAt m X c⌝ ∗ B X) := by
  iintro ⟨%X, %hX, H⟩
  iexists X
  isplitr; · ipureintro; exact hX
  iapply (h X); iexact H

theorem fam_out (c : Dev nD) : (iprop(∃ X : Tri F, ⌜SelAt m X c⌝ ∗ StableHlo.held (c : Thread nD τ) (Pipeline.ucRefs τ sig) (W7 m X c) ∗ R0 c) : sProp 𝕄) ⊢ iprop(Tn m c ∗ R0 c) := by
  iintro ⟨%X, %hX, H, HO⟩
  isplitr [HO]
  · iexists X
    isplitr; · ipureintro; exact hX
    iexact H
  iexact HO

theorem left_only (A B : sProp 𝕄) : iprop(A ∗ B) ⊢ A := by
  iintro ⟨H, -⟩; iexact H

/-- A core's first state, from what the launch gives it. -/
theorem launch_core (g : Dev nD → PrngReg) (c : Dev nD) :
    (iprop(unscopedBufs c (fun b => m ((c.tc : Thread nD τ).loc b)) ∗ unscopedSems0 c ∗ owes (c.tc : Thread nD τ) (0 : CellTallies nD τ sig Unit) ∅
      ∗ Pipeline.launchCred (fun _ => 0) c ∗ prngReg c (g c) ∗ BI.emp) : sProp 𝕄)
      ⊢ iprop(StableHlo.held (c : Thread nD τ) (Pipeline.ucRefs τ sig) (V0 m c) ∗ R0 c) := by
  rw [← Pipeline.unscopedBufs_held (Ix := Unit) (Name := ℕ) (U := UU) (Lvl := ℕ) c (V0 m c)]
  iintro ⟨Hb, -, HO, -⟩
  isplitl [Hb]; · iexact Hb
  iexists _; iexact HO

set_option maxHeartbeats 1000000 in
set_option backward.isDefEq.respectTransparency.types false in
theorem chain7 : CSeg.Chains (fun c => iprop(StableHlo.held (c : Thread nD τ) (Pipeline.ucRefs τ sig) (V0 m c) ∗ R0 c)) (segs7 m)
    (fun c => iprop(Tn m c ∗ ∃ W, owes (c : Thread nD τ) (0 : CellTallies nD τ sig Unit) W)) :=
  ⟨fun _ => .rfl, fun _ => .rfl, fun _ => .rfl, fun _ => .rfl, fun c => fam_mono m c fun X => forget_unit _, fun _ => .rfl,
    fun c => fam_mono m c fun X => forget_unit _, fun c => fam_out m c⟩

theorem disj7 : (segs7 m).Pairwise fun s s' => Disjoint s.T s'.T := by
  have h0 : ∀ ops hs hf V, (hseg (F := F) ops hs hf V).T = ∅ := fun _ _ _ _ => rfl
  have hx : ∀ ops hs hf V, (xseg m ops hs hf V).T = ∅ := fun _ _ _ _ => rfl
  have h1 : (s1 m).T = {0} := rfl
  have h3 : (s3 m).T = {1} := rfl
  have h5 : (s5 m).T = {2} := rfl
  unfold segs7
  simp only [List.pairwise_cons, List.mem_cons, List.mem_nil_iff, or_false, forall_eq_or_imp, forall_eq, h0, hx, h1, h3, h5,
    Finset.disjoint_empty_left, Finset.disjoint_empty_right, Finset.disjoint_singleton, List.Pairwise.nil]
  refine ⟨by decide, by decide, by decide, by decide, by decide, trivial, fun _ h => h.elim, trivial⟩

/-- The launch element: every ticket's cells and duty tokens. -/
def u0 : UU := (fun _ => initOf (Pipeline.cells (Pipeline.pin (pcfgs (F := F)) adm) cellOf_inj) (Pipeline.launchToks (Pipeline.pin (pcfgs (F := F)) adm) cellOf_inj), 1)

theorem fund : (ownU (u0 (F := F)) : sProp 𝕄) ⊢ |={Set.univ}=> iprop((bigSep Finset.univ fun j => BI.own ((tk (F := F) j).EP (initOf (Pipeline.cells (Pipeline.pin (pcfgs (F := F)) adm) cellOf_inj) (Pipeline.launchToks (Pipeline.pin (pcfgs (F := F)) adm) cellOf_inj))))
    ∗ bigSep Finset.univ (fun _ : Dev nD => (BI.emp : sProp 𝕄))) := by
  unfold u0
  iintro Hu
  ihave H' := (ownU_pair _ _) $$ Hu
  icases H' with ⟨HP, -⟩
  ihave HP := (own_iprod _) $$ HP
  imodintro
  isplitl [HP]; · iexact HP
  iapply (show (BI.emp : sProp 𝕄) ⊢ bigSep Finset.univ (fun _ : Dev nD => (BI.emp : sProp 𝕄)) from by rw [BI.bigSep_emp_const])
  iempintro

/-- The program over the loops' signature is the segments' run. -/
theorem main_lift (c : Dev nD) : HostLoop.liftProg (L := 0) (main (F := F) c) = CSeg.runL (segs7 m) := by
  rw [main_chain c, HostLoop.liftProg_chain]
  simp only [List.map_cons, List.map_nil, HostLoop.liftProg_seq]
  rfl

set_option maxHeartbeats 1000000 in
set_option backward.isDefEq.respectTransparency.types false in
/-- Every run terminates. At its end the buffers are those of the last valuation, at some contents of the packed triangles that
    the first call may leave, and every counter is at zero. -/
theorem run_all (g : Dev nD → PrngReg) : θ_run defs (onTc (τ := τ) (main (F := F))) ⟨m, fun _ => 0, g⟩ (fun r =>
    (∀ c : Dev nD, ∃ X : Tri F, SelAt m X c ∧ ∀ b : Ref sig .tc, (Proc.devRef .tc b : DevRef τ sig) ∈ Pipeline.ucRefs τ sig → r.2.mem ((c : Thread nD τ).loc b) = W7 m X c b)
      ∧ r.2.sem = fun _ => 0) := by
  refine HostLoop.θ_run_of_lift (loops (F := F)) _ (main (F := F)) _ _ ?_
  refine Pipeline.θ_run_regions_loop_kit_sems (pcfgs (F := F)) adm cellOf_inj defs₀ Variants.none Lv lv loops tk m g _ (segs7 m)
    (fun c Q => by rw [main_lift m c]) (disj7 m) (fun _ => 0) (fun _ _ => rfl) (fun _ => BI.emp) (u0 (F := F)) fund
    (fun c => iprop(StableHlo.held (c : Thread nD τ) (Pipeline.ucRefs τ sig) (V0 m c) ∗ R0 c)) (Tn m) (chain7 m) ?_
    (fun c s => ∃ X : Tri F, SelAt m X c ∧ ∀ b : Ref sig .tc, (Proc.devRef .tc b : DevRef τ sig) ∈ Pipeline.ucRefs τ sig → s.mem ((c : Thread nD τ).loc b) = W7 m X c b)
    (fun c s' => ?_) (fun _ h hz => ⟨h, funext fun g => hz g (.inr (regions_no_unscoped g.2))⟩)
  · refine .trans ?_ (fupd_intro)
    refine .trans (left_only _ _) (bigSep_mono fun c _ => ?_)
    exact launch_core m g c
  · unfold Tn StableHlo.held
    iintro ⟨⟨%X, %hX, Hh⟩, HSI⟩
    ihave Hr := (pointsTo_read_all (Pipeline.ucRefs τ sig) (fun b => ((c : Thread nD τ).1, b)) (W7 m X c) s') $$ [Hh HSI]
    · isplitl [Hh] <;> iassumption
    icases Hr with ⟨%h, HSI⟩
    imodintro
    isplitr
    · ipureintro
      exact ⟨X, hX, fun b hb => h (Proc.devRef .tc b) hb⟩
    · iexact HSI

end Cert.KernelIdeal.Gen

end
-- ==== Proof.Frames.lean ====
/-
  From the runs to the frames: the kernel's program, over any reading of its floats, ends with its twelve arguments as they
  were and with every counter at zero. The two printed texts of that program are the same, so the one run serves both.
-/
module

public import proofs.«01_k».proof.Defs
public import proofs.«01_k».proof.Proof.Run
public import proofs.«01_k».proof.Proof.Gen.ReferenceIdeal.Run
public import Idealize.ShloMosaic.Lib.StableHlo.RunHlo

@[expose] public section

set_option maxRecDepth 16384

noncomputable section

namespace Cert.KernelIdeal.Gen

open Idealize.ShloMosaic Idealize.ShloMosaic.TcCoe Idealize.SL.Sem

variable {F : FTy → Type} [FloatOps F]
variable (m : (ℓ : Loc nD τ sig) → Buf (Elt F) ℓ)

/-- The twelve arguments in a final state are those of the start. -/
def ArgsKept (c : Dev nD) (s : (ℓ : Loc nD τ sig) → Buf (Elt F) ℓ) : Prop :=
  s ((c : Thread nD τ).loc main_arg0) = m ((c : Thread nD τ).loc main_arg0)
      ∧ s ((c : Thread nD τ).loc main_arg1) = m ((c : Thread nD τ).loc main_arg1)
      ∧ s ((c : Thread nD τ).loc main_arg2) = m ((c : Thread nD τ).loc main_arg2)
      ∧ s ((c : Thread nD τ).loc main_arg3) = m ((c : Thread nD τ).loc main_arg3)
      ∧ s ((c : Thread nD τ).loc main_arg4) = m ((c : Thread nD τ).loc main_arg4)
      ∧ s ((c : Thread nD τ).loc main_arg5) = m ((c : Thread nD τ).loc main_arg5)
      ∧ s ((c : Thread nD τ).loc main_arg6) = m ((c : Thread nD τ).loc main_arg6)
      ∧ s ((c : Thread nD τ).loc main_arg7) = m ((c : Thread nD τ).loc main_arg7)
      ∧ s ((c : Thread nD τ).loc main_arg8) = m ((c : Thread nD τ).loc main_arg8)
      ∧ s ((c : Thread nD τ).loc main_arg9) = m ((c : Thread nD τ).loc main_arg9)
      ∧ s ((c : Thread nD τ).loc main_arg10) = m ((c : Thread nD τ).loc main_arg10)
      ∧ s ((c : Thread nD τ).loc main_arg11) = m ((c : Thread nD τ).loc main_arg11)

/-- A final state that agrees with the last valuation has the arguments as they were. -/
theorem argsKept_of (X : Tri F) (c : Dev nD) (s : (ℓ : Loc nD τ sig) → Buf (Elt F) ℓ)
    (h : ∀ b : Ref sig .tc, (Proc.devRef .tc b : DevRef τ sig) ∈ Pipeline.ucRefs τ sig → s ((c : Thread nD τ).loc b) = W7 m X c b) :
    ArgsKept m c s :=
  ⟨(h main_arg0 (Finset.mem_filter.mpr ⟨StableHlo.devRef_mem_tcRefs main_arg0, by decide⟩)).trans (W7_kept m X c main_arg0 (by decide)),
    (h main_arg1 (Finset.mem_filter.mpr ⟨StableHlo.devRef_mem_tcRefs main_arg1, by decide⟩)).trans (W7_kept m X c main_arg1 (by decide)),
    (h main_arg2 (Finset.mem_filter.mpr ⟨StableHlo.devRef_mem_tcRefs main_arg2, by decide⟩)).trans (W7_kept m X c main_arg2 (by decide)),
    (h main_arg3 (Finset.mem_filter.mpr ⟨StableHlo.devRef_mem_tcRefs main_arg3, by decide⟩)).trans (W7_kept m X c main_arg3 (by decide)),
    (h main_arg4 (Finset.mem_filter.mpr ⟨StableHlo.devRef_mem_tcRefs main_arg4, by decide⟩)).trans (W7_kept m X c main_arg4 (by decide)),
    (h main_arg5 (Finset.mem_filter.mpr ⟨StableHlo.devRef_mem_tcRefs main_arg5, by decide⟩)).trans (W7_kept m X c main_arg5 (by decide)),
    (h main_arg6 (Finset.mem_filter.mpr ⟨StableHlo.devRef_mem_tcRefs main_arg6, by decide⟩)).trans (W7_kept m X c main_arg6 (by decide)),
    (h main_arg7 (Finset.mem_filter.mpr ⟨StableHlo.devRef_mem_tcRefs main_arg7, by decide⟩)).trans (W7_kept m X c main_arg7 (by decide)),
    (h main_arg8 (Finset.mem_filter.mpr ⟨StableHlo.devRef_mem_tcRefs main_arg8, by decide⟩)).trans (W7_kept m X c main_arg8 (by decide)),
    (h main_arg9 (Finset.mem_filter.mpr ⟨StableHlo.devRef_mem_tcRefs main_arg9, by decide⟩)).trans (W7_kept m X c main_arg9 (by decide)),
    (h main_arg10 (Finset.mem_filter.mpr ⟨StableHlo.devRef_mem_tcRefs main_arg10, by decide⟩)).trans (W7_kept m X c main_arg10 (by decide)),
    (h main_arg11 (Finset.mem_filter.mpr ⟨StableHlo.devRef_mem_tcRefs main_arg11, by decide⟩)).trans (W7_kept m X c main_arg11 (by decide))⟩

/-- The frame of the kernel's program. -/
theorem frame_all (g : Dev nD → PrngReg) : θ_run defs (onTc (τ := τ) (main (F := F))) ⟨m, fun _ => 0, g⟩ (fun r =>
    (∀ c : Dev nD, ArgsKept m c r.2.mem) ∧ r.2.sem = fun _ => 0) :=
  θ_run_mono (run_all m g) fun r h => ⟨fun c => let ⟨X, _, hb⟩ := h.1 c; argsKept_of m X c _ hb, h.2⟩

end Cert.KernelIdeal.Gen

namespace Cert.Proof

open Idealize.ShloMosaic Idealize.SL.Sem

/-- The frame of the kernel as printed for the ideal reading. -/
theorem frame_kernelIdeal : Cert.quiescent_KernelIdeal (hKernelIdeal := Cert.KernelIdeal.Gen.facts) :=
  fun m g _ => Cert.KernelIdeal.Gen.frame_all (F := Ideal) m g

/-- The frame of the reference. It has no counters. -/
theorem frame_referenceIdeal : Cert.quiescent_ReferenceIdeal (hReferenceIdeal := Cert.ReferenceIdeal.Gen.facts) :=
  fun m g _ => θ_run_mono (Cert.ReferenceIdeal.Value.run (F := Ideal) m g)
    fun r h => ⟨fun c => (h c).2, sem_eq_zero_of_no_sems (by decide) r.2⟩

end Cert.Proof

end
-- ==== Proof.FrameBits.lean ====
/-
  The two printed texts of the kernel are one program, so the frame of the one is the frame of the other.
-/
module

public import proofs.«01_k».proof.Proof.Frames
public import proofs.«01_k».proof.Proof.Gen.Kernel

@[expose] public section

set_option maxRecDepth 65536

noncomputable section

namespace Cert.Proof

open Idealize.ShloMosaic Idealize.ShloMosaic.TcCoe Idealize.SL.Sem

/-- The frame's statement over the text printed for the ideal reading, here at the words of the floats. -/
def FrameAtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩
      (fun r => (∀ c : Dev Cert.KernelIdeal.nD, Cert.KernelIdeal.Gen.ArgsKept m c r.2.mem) ∧ r.2.sem = fun _ => 0)

/-- The two statements are the same. -/
theorem frame_texts : Cert.quiescent_Kernel (hKernel := Cert.Kernel.Gen.facts) = FrameAtBits := by
  chain_rfl

/-- The frame of the kernel at the words of the floats. -/
theorem frame_kernel : Cert.quiescent_Kernel (hKernel := Cert.Kernel.Gen.facts) :=
  frame_texts.mpr fun m g _ => Cert.KernelIdeal.Gen.frame_all (F := Bits) m g

end Cert.Proof

end
-- ==== Proof.Moments.lean ====
/-
  One sample's moments as functions of its graph and its tokens, over the extended reals, in the order in which the
  kernel computes them.
-/
module

public import Idealize.ShloMosaic.Lib.Pointwise
public import Idealize.ShloMosaic.Lib.WordCmp

@[expose] public section

noncomputable section

namespace Cert.Moments

open Idealize.ShloMosaic

/-- A choice by the equality of two words that hold small numbers. -/
theorem select_eq_ofNat {α : Type} {a b : ℕ} (ha : a < 2 ^ 32) (hb : b < 2 ^ 32) (x y : α) :
    Scalar.select (IntOp.cmpi .eq (BitVec.ofNat 32 a) (BitVec.ofNat 32 b)) x y = if a = b then x else y := by
  rw [WordCmp.cmpi_eq_ofNat ha hb, WordCmp.select_ofBool]
  simp only [decide_eq_true_eq]

/-- The same choice between coordinates of one axis. -/
theorem select_eq_fin {α : Type} {n : ℕ} (hn : n ≤ 2 ^ 32) (a b : Fin n) (x y : α) :
    Scalar.select (IntOp.cmpi .eq (BitVec.ofNat 32 a.val) (BitVec.ofNat 32 b.val)) x y = if a = b then x else y := by
  rw [select_eq_ofNat (by omega) (by omega)]
  simp only [Fin.ext_iff]

/-- The small number added to the divisors. -/
def eps : EReal := Ideal.ofBits .f32 0x3727C5AC#32
/-- One half. -/
def half : EReal := Ideal.ofBits .f32 0x3F000000#32
/-- Three. -/
def three : EReal := Ideal.ofBits .f32 0x40400000#32
/-- One and a half. -/
def threeHalves : EReal := Ideal.ofBits .f32 0x3FC00000#32

variable (A : Fin 196 → Fin 196 → EReal) (T : Fin 196 → Fin 384 → EReal)

/-- The inverse square root of a node's degree. -/
def dinv (n : Fin 196) : EReal := Ideal.rsqrt (max (∑ k, A n k) eps)
/-- A row's sum of the normalised graph. -/
def row (n : Fin 196) : EReal := dinv A n * ∑ k, A n k * dinv A k
/-- The trace of the normalised graph. -/
def trw : EReal := ∑ n, A n n * dinv A n * dinv A n
/-- The inverse of the trace, moved off zero. -/
def itrw : EReal := Ideal.div 1 (trw A + eps)
/-- The weighted mean. -/
def mu (d : Fin 384) : EReal := (∑ n, row A n * T n d) * itrw A
/-- The centred tokens. -/
def tc (n : Fin 196) (d : Fin 384) : EReal := T n d - mu A T d
/-- The first moment of the centred tokens. -/
def wc (d : Fin 384) : EReal := (∑ n, row A n * tc A T n d) * itrw A
/-- The centred tokens, scaled. -/
def uu (n : Fin 196) (d : Fin 384) : EReal := tc A T n d * dinv A n
/-- The graph applied to them. -/
def gu (n : Fin 196) (d : Fin 384) : EReal := ∑ k, A n k * uu A T k d
/-- The second moment. -/
def m2 (d e : Fin 384) : EReal := ∑ n, uu A T n d * gu A T n e
/-- Its trace. -/
def tr : EReal := ∑ n, ∑ d, uu A T n d * gu A T n d

/-- The unit matrix. -/
def eye (i j : Fin 384) : EReal := if i = j then 1 else 0
/-- A product of square matrices. -/
def mm (X Y : Fin 384 → Fin 384 → EReal) (i j : Fin 384) : EReal := ∑ k, X i k * Y k j
/-- A step of the iteration towards the inverse square root. -/
def step (Z Y : Fin 384 → Fin 384 → EReal) (i j : Fin 384) : EReal :=
  half * mm Y (fun i j => three * eye i j - mm Z Y i j) i j
/-- The second moment over its trace. -/
def zz (i j : Fin 384) : EReal := m2 A T i j * Ideal.div 1 (tr A T + eps)
/-- The first step, with the unit matrix multiplied out. -/
def y1 (i j : Fin 384) : EReal := threeHalves * eye i j - half * zz A T i j
/-- The square root's factor, after three steps. -/
def yy (i j : Fin 384) : EReal :=
  step (zz A T) (step (zz A T) (y1 A T)) i j * Ideal.div 1 (Ideal.sqrt (tr A T + eps))

/-- A sum over the entries where two counts agree. -/
theorem diag_sum {n : ℕ} (hn : n ≤ 2 ^ 32) (f : Fin n → Fin n → EReal) :
    ∑ x, ∑ y, Scalar.select (IntOp.cmpi .eq (IntOp.addi (BitVec.ofNat 32 x.val) 0#32) (BitVec.ofNat 32 y.val)) (f x y) 0 = ∑ x, f x x := by
  refine Finset.sum_congr rfl fun x _ => ?_
  have h : IntOp.addi (BitVec.ofNat 32 x.val) 0#32 = BitVec.ofNat 32 x.val := BitVec.add_zero _
  simp only [h, select_eq_fin hn, Finset.sum_ite_eq, Finset.mem_univ, if_true]

/-! ## The same moments in the order in which they are defined -/

theorem eps_pos : 0 < eps := by
  unfold eps
  simp [Ideal.ofBits, Ideal.ieee, -EReal.coe_mul]

theorem half_eq : half = ((1 / 2 : ℝ) : EReal) := by
  unfold half
  simp [Ideal.ofBits, Ideal.ieee, -EReal.coe_mul]; norm_num

theorem three_eq : three = ((3 : ℝ) : EReal) := by
  unfold three
  simp [Ideal.ofBits, Ideal.ieee, -EReal.coe_mul]; norm_num

theorem threeHalves_eq : threeHalves = ((3 / 2 : ℝ) : EReal) := by
  unfold threeHalves
  simp [Ideal.ofBits, Ideal.ieee, -EReal.coe_mul]; norm_num

/-- Off zero, a division is a product with the inverse. -/
theorem div_eq_mul {y : EReal} (h : y ≠ 0) (x : EReal) : Ideal.div x y = x * Ideal.div 1 y := by
  unfold Ideal.div
  rw [if_neg h, if_neg h, one_mul]

theorem sqrt_bot : Ideal.sqrt ⊥ = ⊥ := rfl

theorem sqrt_top : Ideal.sqrt ⊤ = ⊤ := rfl

theorem sqrt_coe (r : ℝ) : Ideal.sqrt (r : EReal) = if r < 0 then ⊥ else ((Real.sqrt r : ℝ) : EReal) := rfl

theorem rsqrt_top : Ideal.rsqrt ⊤ = 0 := rfl

theorem rsqrt_coe (r : ℝ) :
    Ideal.rsqrt (r : EReal) = if r < 0 then ⊥ else if r = 0 then ⊤ else (((Real.sqrt r)⁻¹ : ℝ) : EReal) := rfl

/-- Above zero the root of the inverse is the inverse of the root. -/
theorem div_one_sqrt {x : EReal} (h : 0 < x) : Ideal.div 1 (Ideal.sqrt x) = Ideal.rsqrt x := by
  induction x using EReal.rec with
  | bot => exact absurd h (by simp)
  | top => rw [sqrt_top, rsqrt_top]; simp [Ideal.div]
  | coe r =>
    have hr : 0 < r := by exact_mod_cast h
    have hs : Real.sqrt r ≠ 0 := (Real.sqrt_pos.mpr hr).ne'
    have h0 : ((Real.sqrt r : ℝ) : EReal) ≠ 0 := by exact_mod_cast hs
    rw [sqrt_coe, rsqrt_coe, if_neg (not_lt.mpr hr.le), if_neg (not_lt.mpr hr.le), if_neg hr.ne']
    simp only [Ideal.div, if_neg h0, one_mul, EReal.coe_inv]

/-- Above zero the inverse root is a number at least zero. -/
theorem rsqrt_pos {x : EReal} (h : 0 < x) : 0 ≤ Ideal.rsqrt x ∧ Ideal.rsqrt x ≠ ⊤ := by
  induction x using EReal.rec with
  | bot => exact absurd h (by simp)
  | top => rw [rsqrt_top]; simp
  | coe r =>
    have hr : 0 < r := by exact_mod_cast h
    rw [rsqrt_coe, if_neg (not_lt.mpr hr.le), if_neg hr.ne']
    refine ⟨?_, EReal.coe_ne_top _⟩
    exact_mod_cast inv_nonneg.mpr (Real.sqrt_nonneg r)

/-- Off zero the root is not zero. -/
theorem sqrt_ne_zero {x : EReal} (h : x ≠ 0) : Ideal.sqrt x ≠ 0 := by
  induction x using EReal.rec with
  | bot => rw [sqrt_bot]; simp
  | top => rw [sqrt_top]; simp
  | coe r =>
    have hr : r ≠ 0 := by exact_mod_cast h
    rw [sqrt_coe]
    split
    · simp
    · rename_i hn
      have : Real.sqrt r ≠ 0 := (Real.sqrt_pos.mpr (lt_of_le_of_ne (not_lt.mp hn) hr.symm)).ne'
      exact_mod_cast this

/-- A number at least zero goes into a sum. -/
theorem mul_sum_of_nonneg {ι : Type} {c : EReal} (h0 : 0 ≤ c) (ht : c ≠ ⊤) (s : Finset ι) (f : ι → EReal) :
    c * ∑ k ∈ s, f k = ∑ k ∈ s, c * f k := by
  classical
  induction s using Finset.induction_on with
  | empty => simp
  | insert a s ha ih => rw [Finset.sum_insert ha, Finset.sum_insert ha, EReal.left_distrib_of_nonneg_of_ne_top h0 ht, ih]

theorem dinv_pos (n : Fin 196) : 0 ≤ dinv A n ∧ dinv A n ≠ ⊤ := rsqrt_pos (lt_max_of_lt_right eps_pos)

/-- A row's sum of the normalised graph, entry by entry. -/
theorem row_eq (n : Fin 196) : ∑ k, A n k * dinv A n * dinv A k = row A n := by
  unfold row
  rw [mul_sum_of_nonneg (dinv_pos A n).1 (dinv_pos A n).2]
  exact Finset.sum_congr rfl fun k _ => by rw [mul_comm (A n k), mul_assoc]

/-- The second moment through the normalised graph. -/
theorem m2_term (n : Fin 196) (d e : Fin 384) :
    tc A T n d * ∑ k, A n k * dinv A n * dinv A k * tc A T k e = uu A T n d * gu A T n e := by
  unfold uu gu uu
  have : ∑ k, A n k * dinv A n * dinv A k * tc A T k e = dinv A n * ∑ k, A n k * (tc A T k e * dinv A k) := by
    rw [mul_sum_of_nonneg (dinv_pos A n).1 (dinv_pos A n).2]
    exact Finset.sum_congr rfl fun k _ => by ac_rfl
  rw [this, mul_assoc]

/-- The trace of the second moment. -/
theorem tr_eq : ∑ d, m2 A T d d = tr A T := Finset.sum_comm

theorem mm_eye (X : Fin 384 → Fin 384 → EReal) (i j : Fin 384) : mm X eye i j = X i j := by
  unfold mm eye
  simp only [mul_ite, mul_one, mul_zero, Finset.sum_ite_eq', Finset.mem_univ, if_true]

theorem eye_mm (X : Fin 384 → Fin 384 → EReal) (i j : Fin 384) : mm eye X i j = X i j := by
  unfold mm eye
  simp only [ite_mul, one_mul, zero_mul, Finset.sum_ite_eq, Finset.mem_univ, if_true]

/-- The first step, from the unit matrix. -/
theorem step_eye (Z : Fin 384 → Fin 384 → EReal) (i j : Fin 384) : step Z eye i j = threeHalves * eye i j - half * Z i j := by
  unfold step
  rw [eye_mm, mm_eye, sub_eq_add_neg, EReal.left_distrib_of_nonneg_of_ne_top, mul_neg, ← sub_eq_add_neg, ← mul_assoc]
  · congr 2
    rw [half_eq, three_eq, threeHalves_eq, ← EReal.coe_mul]
    norm_num
  · rw [half_eq]; exact_mod_cast (by norm_num : (0 : ℝ) ≤ 1 / 2)
  · rw [half_eq]; exact EReal.coe_ne_top _

end Cert.Moments

end
-- ==== Proof.KernelMoments.lean ====
/-
  What the kernel's first call computes of one sample: the moments.
-/
module

public import proofs.«01_k».proof.Proof.Moments
public import proofs.«01_k».proof.Proof.Loop
public import Idealize.ShloMosaic.Lib.Pointwise

@[expose] public section

set_option maxRecDepth 16384

noncomputable section

namespace Cert.KernelIdeal.Gen

open Idealize.ShloMosaic Cert.Moments

variable (gm : Vec Ideal S196x1x196 .f32) (t : Vec Ideal S196x1x384 .f32)

/-- The sample's graph as a matrix. -/
abbrev grp (n k : Fin 196) : EReal := gm (ix3 n 0 k)
/-- The sample's tokens as a matrix. -/
abbrev tok (n : Fin 196) (d : Fin 384) : EReal := t (ix3 n 0 d)

theorem pay3_at (n k : Fin 196) : k0_pay3 gm (ix2 n k) = grp gm n k := by
  pointwise [k0_pay3]

theorem pay4_at (n : Fin 196) : k0_pay4 gm (ix2 n 0) = dinv (grp gm) n := by
  pointwise [k0_pay4, k0_pay3]
  rfl

theorem pay5_at (n : Fin 196) : k0_pay5 gm (ix2 n 0) = row (grp gm) n := by
  unfold k0_pay5
  pointwise
  simp only [pay4_at, pay3_at]
  rfl

theorem pay6_at : k0_pay6 gm (ix2 0 0) = itrw (grp gm) := by
  unfold k0_pay6
  pointwise
  simp only [pay4_at, pay3_at]
  simp only [select_eq_fin (n := 196) (by decide), Finset.sum_ite_eq, Finset.mem_univ, if_true, Finset.sum_const, Finset.card_univ, Fintype.card_fin, one_smul]
  rfl

theorem pay7_at (n : Fin 196) (d : Fin 384) : k0_pay7 gm t (ix2 n d) = tc (grp gm) (tok t) n d := by
  unfold k0_pay7
  pointwise
  simp only [pay5_at, pay6_at]
  rfl

theorem pay8_at (d : Fin 384) : k0_pay8 gm t (ix2 0 d) = ∑ n, row (grp gm) n * tc (grp gm) (tok t) n d := by
  unfold k0_pay8
  pointwise
  simp only [pay5_at, pay7_at]

theorem wcPay_at (d : Fin 384) : wcPay gm t (ix3 0 0 d) = wc (grp gm) (tok t) d := by
  unfold wcPay k0_pay9
  pointwise
  simp only [pay8_at, pay6_at]
  rfl

theorem pay10_at (n : Fin 196) (d : Fin 384) : k0_pay10 (k0_pay4 gm) (k0_pay7 gm t) (ix2 n d) = uu (grp gm) (tok t) n d := by
  unfold k0_pay10
  pointwise
  simp only [pay4_at, pay7_at]
  rfl

theorem pay11_at (n : Fin 196) (d : Fin 384) :
    k0_pay11 (k0_pay3 gm) (k0_pay4 gm) (k0_pay7 gm t) (ix2 n d) = gu (grp gm) (tok t) n d := by
  unfold k0_pay11
  pointwise
  simp only [pay3_at, pay10_at]
  rfl

theorem pay12_at : k0_pay12 (k0_pay3 gm) (k0_pay4 gm) (k0_pay7 gm t) (ix2 0 0) = tr (grp gm) (tok t) := by
  unfold k0_pay12
  pointwise
  simp only [pay10_at, pay11_at]
  rfl

theorem pay2_at (i j : Fin 384) : (k0_pay2 : FVec Ideal S384x384 .f32) (ix2 i j) = eye i j := by
  unfold k0_pay2
  pointwise
  simp only [select_eq_fin (n := 384) (by decide)]
  rfl

theorem pay13_at (i j : Fin 384) :
    k0_pay13 k0_pay2 (k0_pay3 gm) (k0_pay4 gm) (k0_pay7 gm t) (ix2 i j)
      = step (zz (grp gm) (tok t)) (step (zz (grp gm) (tok t)) (y1 (grp gm) (tok t))) i j := by
  unfold k0_pay13
  pointwise
  simp only [pay10_at, pay11_at, pay12_at, pay2_at]
  rfl

theorem yPay_at (i j : Fin 384) : yPay gm t (ix3 0 i j) = yy (grp gm) (tok t) i j := by
  unfold yPay k0_pay14
  pointwise
  simp only [pay12_at, pay13_at]
  rfl

end Cert.KernelIdeal.Gen

end
-- ==== Proof.Arrays.lean ====
/-
  The arrays between the calls, at an index.
-/
module

public import proofs.«01_k».proof.Proof.Run
public import proofs.«01_k».proof.Proof.KernelMoments
public import Idealize.ShloMosaic.Lib.Pipeline.ValueKit
public import Idealize.ShloMosaic.Lib.Claim
public import Idealize.ShloMosaic.Lib.Pointwise

@[expose] public section

set_option maxRecDepth 16384

noncomputable section

namespace Cert.KernelIdeal.Gen

open Idealize.ShloMosaic Idealize.ShloMosaic.TcCoe Idealize.SL.Sem Idealize.ShloMosaic.StableHlo
open Idealize.ShloMosaic.Pipeline (Dat)
open Cert.Moments

variable (m : (ℓ : Loc nD τ sig) → Buf (Elt Ideal) ℓ) (c : Dev nD) (X : Tri Ideal)

theorem W1_v0 (n : Fin 196) (b : Fin 64) (d : Fin 384) :
    (W1 m c main_v0 : Vec Ideal S196x64x384 .f32) (ix3 n b d) = (m ((c : Thread nD τ).loc main_arg0) : Vec Ideal S64x196x384 .f32) (ix3 b n d) := by
  unfold W1
  after_results
  pointwise

theorem W1_v1 (n : Fin 196) (b : Fin 64) (k : Fin 196) :
    (W1 m c main_v1 : Vec Ideal S196x64x196 .f32) (ix3 n b k) = (m ((c : Thread nD τ).loc main_arg1) : Vec Ideal S64x196x196 .f32) (ix3 b n k) := by
  unfold W1
  after_results
  pointwise

/-- A sample's graph. -/
def graph (b : Fin 64) (n k : Fin 196) : EReal := (m ((c : Thread nD τ).loc main_arg1) : Vec Ideal S64x196x196 .f32) (ix3 b n k)
/-- A sample's tokens. -/
def tokens (b : Fin 64) (n : Fin 196) (d : Fin 384) : EReal := (m ((c : Thread nD τ).loc main_arg0) : Vec Ideal S64x196x384 .f32) (ix3 b n d)

/-- The sample that a point of the first call and a row of its block stand for. -/
def smp (t g : Fin 8) : Fin 64 := ⟨8 * t.val + g.val, by omega⟩

theorem idx0_0 : ∀ t : Fin cfg0.N, win0_0.index t = ![0, t.val, 0] := by decide +kernel
theorem idx0_1 : ∀ t : Fin cfg0.N, win0_1.index t = ![0, t.val, 0] := by decide +kernel
theorem idx0_2 : ∀ t : Fin cfg0.N, win0_2.index t = ![t.val, 0, 0] := by decide +kernel
theorem idx0_3 : ∀ t : Fin cfg0.N, win0_3.index t = ![t.val, 0, 0] := by decide +kernel

theorem gmOf_at (x : Vec Ideal S196x8x196 .f32) (g : Fin 8) (n k : Fin 196) : gmOf x g (ix3 n 0 k) = x (ix3 n g k) :=
  congrArg x (funext fun a => by fin_cases a <;> rfl)

theorem tkOf_at (x : Vec Ideal S196x8x384 .f32) (g : Fin 8) (n : Fin 196) (d : Fin 384) : tkOf x g (ix3 n 0 d) = x (ix3 n g d) :=
  congrArg x (funext fun a => by fin_cases a <;> rfl)

theorem grp_blk (t : Fin cfg0.N) (g : Fin 8) : grp (gmOf (blk0 (W1 m c) 1 t) g) = graph m c (smp (t.cast N_0) g) := by
  funext n k
  refine Eq.trans ?_ (W1_v1 m c n (smp (t.cast N_0) g) k)
  unfold grp
  rw [gmOf_at]
  unfold blk0 smp
  blk_ext [idx0_1 t]
  show t.val * 8 + g.val = 8 * t.val + g.val
  omega

theorem tok_blk (t : Fin cfg0.N) (g : Fin 8) : tok (tkOf (blk0 (W1 m c) 0 t) g) = tokens m c (smp (t.cast N_0) g) := by
  funext n d
  refine Eq.trans ?_ (W1_v0 m c n (smp (t.cast N_0) g) d)
  unfold tok
  rw [tkOf_at]
  unfold blk0 smp
  blk_ext [idx0_0 t]
  show t.val * 8 + g.val = 8 * t.val + g.val
  omega

theorem out_v2_1 (t g : Fin 8) (d : Fin 384) :
    (out0 (W1 m c) X c main_v2_1 : Vec Ideal S8x8x384 .f32) (ix3 t g d) = wc (graph m c (smp t g)) (tokens m c (smp t g)) d := by
  rw [out0_v2_1]
  let G : Vec Ideal S8x8x384 .f32 := fun i => wc (graph m c (smp (i 0) (i 1))) (tokens m c (smp (i 0) (i 1))) (i 2)
  have h : (dat0 (W1 m c) X c).arrAt 3 cfg0.N = G := by
    refine (dat0 (W1 m c) X c).arrAt_eq_of_covers 3 G (by decide +kernel) fun t hf (y : S1x8x384.Idx) => ?_
    have e : ((win0_3.blk t).view.emb y : S8x8x384.Idx) = ix3 (t.cast N_0) (y 1) (y 2) := by
      idx_vars y
      blk_ext [idx0_3 t]
      rfl
    refine Eq.trans ?_ (congrArg G e).symm
    refine (wcPay_at (gmOf (blk0 (W1 m c) 1 t) (y 1)) (tkOf (blk0 (W1 m c) 0 t) (y 1)) (y 2)).trans ?_
    exact congrArg₂ (fun a b => wc a b (y 2)) (grp_blk m c t (y 1)) (tok_blk m c t (y 1))
  exact congrFun h _

theorem out_v2_0 (t g : Fin 8) (q : Fin 74304) :
    (out0 (W1 m c) X c main_v2_0 : Vec Ideal S8x8x74304 .f32) (ix3 t g q) = X t (ix3 0 g q) := by
  rw [out0_v2_0]
  let G : Vec Ideal S8x8x74304 .f32 := fun i => X (i 0) (ix3 0 (i 1) (i 2))
  have h : (dat0 (W1 m c) X c).arrAt 2 cfg0.N = G := by
    refine (dat0 (W1 m c) X c).arrAt_eq_of_covers 2 G (by decide +kernel) fun t hf (y : S1x8x74304.Idx) => ?_
    have e : ((win0_2.blk t).view.emb y : S8x8x74304.Idx) = ix3 (t.cast N_0) (y 1) (y 2) := by
      idx_vars y
      blk_ext [idx0_2 t]
      rfl
    refine Eq.trans ?_ (congrArg G e).symm
    show X (t.cast N_0) y = X (t.cast N_0) (ix3 0 (y 1) (y 2))
    refine congrArg (X (t.cast N_0)) (funext fun a => ?_)
    idx_vars y
    fin_cases a
    · exact Subsingleton.elim (α := Fin 1) _ _
    · rfl
    · rfl
  exact congrFun h _

/-- The packed triangles, when the first call left `X`. -/
theorem out_tri (hX : SelAt m X c) (t g : Fin 8) (n : ℕ) (hn : n < 384) (k : ℕ) (hk : k < n + 1) :
    (out0 (W1 m c) X c main_v2_0 : Vec Ideal S8x8x74304 .f32) (ix3 t g ⟨rowOff n + k, by have := rowOff_le hn; omega⟩)
      = yy (graph m c (smp t g)) (tokens m c (smp t g)) ⟨383 - n, by omega⟩ ⟨383 - n + k, by omega⟩ := by
  rw [out_v2_0]
  have h := hX (t.cast N_0.symm) n hn k hk g (Nat.zero_le _)
  refine Eq.trans ?_ (h.trans ?_)
  · refine congrArg (X t) (funext fun a => ?_)
    fin_cases a <;> rfl
  · refine (yPay_at (gmOf (blk0 (W1 m c) 1 (t.cast N_0.symm)) g) (tkOf (blk0 (W1 m c) 0 (t.cast N_0.symm)) g) _ _).trans ?_
    rw [grp_blk, tok_blk]
    rfl

theorem W3_v3 (b : Fin 64) (d : Fin 384) :
    (W3 m X c main_v3 : Vec Ideal S64x384 .f32) (ix2 b d) = wc (graph m c b) (tokens m c b) d := by
  unfold W3
  after_results
  unfold W2
  have h := out_v2_1 m c X ⟨b.val / 8, by omega⟩ ⟨b.val % 8, by omega⟩ d
  have e : smp ⟨b.val / 8, by omega⟩ ⟨b.val % 8, by omega⟩ = b := Fin.ext (by show 8 * (b.val / 8) + b.val % 8 = b.val; omega)
  rw [e] at h
  refine Eq.trans ?_ h
  pointwise

/-- What the stretches and calls before the second call do not write is as launched. -/
theorem W2_kept (r : Ref sig .tc) (h0 : r ∉ hostOps0_W) (ha : r ≠ main_v2_0) (hb : r ≠ main_v2_1) : W2 m X c r = m ((c : Thread nD τ).loc r) :=
  (out0_ne _ X c ha hb).trans (StableHlo.after_of_writes_sub hostOps0 _ hostOps0_writes h0)

theorem W3_kept (r : Ref sig .tc) (h0 : r ∉ hostOps0_W) (ha : r ≠ main_v2_0) (hb : r ≠ main_v2_1) (h1 : r ∉ hostOps1_W) :
    W3 m X c r = m ((c : Thread nD τ).loc r) :=
  (StableHlo.after_of_writes_sub hostOps1 _ hostOps1_writes h1).trans (W2_kept m c X r h0 ha hb)

theorem W4_kept (r : Ref sig .tc) (h0 : r ∉ hostOps0_W) (ha : r ≠ main_v2_0) (hb : r ≠ main_v2_1) (h1 : r ∉ hostOps1_W) (h7 : r ≠ main_v7) :
    W4 m X c r = m ((c : Thread nD τ).loc r) :=
  (out1_ne _ c h7).trans (W3_kept m c X r h0 ha hb h1)

theorem W3_v4 (j : Fin 512) : (W3 m X c main_v4 : Vec Ideal S1x512 .f32) (ix2 0 j) = (m ((c : Thread nD τ).loc main_arg8) : Vec Ideal S512 .f32) (ix1 j) := by
  unfold W3
  after_results
  pointwise
  exact congrFun (W2_kept m c X main_arg8 (by decide) (by decide) (by decide)) (ix1 j)

theorem W3_v5 (j : Fin 512) : (W3 m X c main_v5 : Vec Ideal S1x512 .f32) (ix2 0 j) = (m ((c : Thread nD τ).loc main_arg9) : Vec Ideal S512 .f32) (ix1 j) := by
  unfold W3
  after_results
  pointwise
  exact congrFun (W2_kept m c X main_arg9 (by decide) (by decide) (by decide)) (ix1 j)

theorem W3_v6 (j : Fin 512) : (W3 m X c main_v6 : Vec Ideal S1x512 .f32) (ix2 0 j) = (m ((c : Thread nD τ).loc main_arg10) : Vec Ideal S512 .f32) (ix1 j) := by
  unfold W3
  after_results
  pointwise
  exact congrFun (W2_kept m c X main_arg10 (by decide) (by decide) (by decide)) (ix1 j)

/-- The packed triangles as rows of 74304 values. -/
theorem W5_v8 (b : Fin 64) (q : Fin 74304) :
    (W5 m X c main_v8 : Vec Ideal S64x74304 .f32) (ix2 b q)
      = (out0 (W1 m c) X c main_v2_0 : Vec Ideal S8x8x74304 .f32) (ix3 ⟨b.val / 8, by omega⟩ ⟨b.val % 8, by omega⟩ q) := by
  unfold W5
  after_results
  have e : (W4 m X c main_v2_0 : Vec Ideal S8x8x74304 .f32) = out0 (W1 m c) X c main_v2_0 :=
    (out1_ne _ c (by decide)).trans (StableHlo.after_of_writes_sub hostOps1 _ hostOps1_writes (by decide))
  rw [← e]
  pointwise

theorem W5_v9 (p : Fin 73920) (j : Fin 512) :
    (W5 m X c main_v9 : Vec Ideal S73920x512 .f32) (ix2 p j) = (m ((c : Thread nD τ).loc main_arg3) : Vec Ideal S512x73920 .f32) (ix2 j p) := by
  unfold W5
  after_results
  pointwise
  exact congrFun (W4_kept m c X main_arg3 (by decide) (by decide) (by decide) (by decide) (by decide)) (ix2 j p)

theorem W5_v10 (j : Fin 512) : (W5 m X c main_v10 : Vec Ideal S1x512 .f32) (ix2 0 j) = (m ((c : Thread nD τ).loc main_arg4) : Vec Ideal S512 .f32) (ix1 j) := by
  unfold W5
  after_results
  pointwise
  exact congrFun (W4_kept m c X main_arg4 (by decide) (by decide) (by decide) (by decide) (by decide)) (ix1 j)

theorem W5_v11 (j : Fin 512) : (W5 m X c main_v11 : Vec Ideal S1x512 .f32) (ix2 0 j) = (m ((c : Thread nD τ).loc main_arg5) : Vec Ideal S512 .f32) (ix1 j) := by
  unfold W5
  after_results
  pointwise
  exact congrFun (W4_kept m c X main_arg5 (by decide) (by decide) (by decide) (by decide) (by decide)) (ix1 j)

theorem W5_v12 (j : Fin 512) : (W5 m X c main_v12 : Vec Ideal S1x512 .f32) (ix2 0 j) = (m ((c : Thread nD τ).loc main_arg6) : Vec Ideal S512 .f32) (ix1 j) := by
  unfold W5
  after_results
  pointwise
  exact congrFun (W4_kept m c X main_arg6 (by decide) (by decide) (by decide) (by decide) (by decide)) (ix1 j)

end Cert.KernelIdeal.Gen

end
-- ==== Proof.Layers.lean ====
/-
  The count sketches and a dense layer with its normalization and activation, as functions of rows over the extended
  reals.
-/
module

public import proofs.«01_k».proof.Proof.Moments

@[expose] public section

noncomputable section

namespace Cert.Layers

open Idealize.ShloMosaic Cert.Moments

/-- The normalization's scale, the reciprocal root of one and the small number. -/
def bn : EReal := Ideal.ofBits .f32 0x3F7FFFAC#32
/-- The reciprocal root of two. -/
def rt : EReal := Ideal.ofBits .f32 0x3F3504F3#32

/-- Bias, scale and offset of one output. -/
def affine (x b g be : EReal) : EReal := (x + b) * (g * bn) + be

/-- One output: bias, scale, offset and activation. -/
def layer (x b g be : EReal) : EReal := half * affine x b g be * (1 + Ideal.erf (affine x b g be * rt))

/-- The same output with the scale in two factors and the complement of the error function. -/
theorem layer_eq (x b g be : EReal) :
    half * ((x + b) * bn * g + be) * Ideal.erfc (-((x + b) * bn * g + be) * rt) = layer x b g be := by
  have e : (x + b) * bn * g + be = affine x b g be := by
    unfold affine
    rw [mul_assoc, mul_comm bn g]
  rw [e, EReal.neg_mul, Ideal.erfc_neg]
  rfl

/-- Bin `j` of one sketch: the signed entries that the hash sends there. -/
def bin (h : Fin 384 → BitVec 32) (s v : Fin 384 → EReal) (j : Fin 768) : EReal :=
  ∑ d, if h d = BitVec.ofNat 32 j.val then v d * s d else 0

/-- The bin by a one-hot row. -/
theorem bin_hot (h : Fin 384 → BitVec 32) (s v : Fin 384 → EReal) (j : Fin 768) :
    ∑ d, v d * s d * Scalar.select (IntOp.cmpi .eq (BitVec.ofNat 32 j.val) (h d)) 1 0 = bin h s v j := by
  refine Finset.sum_congr rfl fun d _ => ?_
  have e : IntOp.cmpi .eq (BitVec.ofNat 32 j.val) (h d) = BitVec.ofBool (decide (h d = BitVec.ofNat 32 j.val)) := by
    show BitVec.ofBool (_ == _) = _
    congr 1
    rw [beq_eq_decide, decide_eq_decide]
    exact eq_comm
  rw [e, WordCmp.select_ofBool]
  by_cases hd : h d = BitVec.ofNat 32 j.val
  · rw [if_pos hd, if_pos (decide_eq_true hd), mul_one]
  · rw [if_neg hd, if_neg (by simpa using hd), mul_zero]

/-- The three sketches multiplied. -/
def bins (h : Fin 3 → Fin 384 → BitVec 32) (s : Fin 3 → Fin 384 → EReal) (v : Fin 384 → EReal) (j : Fin 768) : EReal :=
  bin (h 0) (s 0) v j * bin (h 1) (s 1) v j * bin (h 2) (s 2) v j

end Cert.Layers

end
-- ==== Proof.KernelLayers.lean ====
/-
  The second and third calls' stored values, read at an index.
-/
module

public import proofs.«01_k».proof.Proof.Layers
public import proofs.«01_k».proof.Proof.Region2
public import Idealize.ShloMosaic.Lib.Pointwise

@[expose] public section

set_option maxRecDepth 16384

noncomputable section

namespace Cert.KernelIdeal.Gen

open Idealize.ShloMosaic Cert.KernelIdeal Cert.Moments Cert.Layers

theorem row3_at {e : EltTy} (x : (⟨S3x384, e⟩ : BufTy).Contents (Elt Ideal)) (s : Fin 3) (h : ∀ a, (![s.val, 0] : Fin 2 → ℕ) a + S1x384.size a ≤ S3x384.size a) (d : Fin 384) :
    row3 (F := Ideal) x ![s.val, 0] h (ix2 0 d) = x (ix2 s d) := by
  refine congrArg x (funext fun a => ?_)
  fin_cases a
  · refine Fin.ext ?_
    show s.val + 1 * 0 = s.val
    omega
  · refine Fin.ext ?_
    show 0 + 1 * d.val = d.val
    omega

variable (x0 : Vec Ideal S64x384 .f32) (x1 : Vec Ideal S3x384 .f32) (x2 : Vec Ideal S3x384 .i32) (x3 : Vec Ideal S512x768 .f32)
  (x4 x5 x6 : Vec Ideal S1x512 .f32)

theorem k1_pay3_at (h0 h1 : Vec Ideal S1x384 .i32) (s0 s1 : Vec Ideal S1x384 .f32) (b : Fin 64) (j : Fin 768) :
    k1_pay3 x0 h0 s0 h1 s1 (ix2 b j)
      = bin (fun d => h0 (ix2 0 d)) (fun d => s0 (ix2 0 d)) (fun d => x0 (ix2 b d)) j
        * bin (fun d => h1 (ix2 0 d)) (fun d => s1 (ix2 0 d)) (fun d => x0 (ix2 b d)) j := by
  rw [← bin_hot, ← bin_hot]
  unfold k1_pay3 k1_pay2
  pointwise

theorem s3Out_at (b : Fin 64) (o : Fin 512) :
    s3Out x0 x1 x2 x3 x4 x5 x6 (ix2 b o)
      = layer (∑ j : Fin 768, bins (fun s d => x2 (ix2 s d)) (fun s d => x1 (ix2 s d)) (fun d => x0 (ix2 b d)) j * x3 (ix2 o j))
          (x4 (ix2 0 o)) (x5 (ix2 0 o)) (x6 (ix2 0 o)) := by
  have e : ∀ j : Fin 768,
      k1_pay3 x0 (row3 x2 ![0, 0] inb_S3x384_S1x384_0_0) (row3 x1 ![0, 0] inb_S3x384_S1x384_0_0) (row3 x2 ![1, 0] inb_S3x384_S1x384_1_0)
          (row3 x1 ![1, 0] inb_S3x384_S1x384_1_0) (ix2 b j)
        * (∑ d : Fin 384, k1_pay5 x0 (row3 x1 ![2, 0] inb_S3x384_S1x384_2_0) (ix2 b d) * k1_pay4 (row3 x2 ![2, 0] inb_S3x384_S1x384_2_0) (ix2 j d))
        = bins (fun s d => x2 (ix2 s d)) (fun s d => x1 (ix2 s d)) (fun d => x0 (ix2 b d)) j := fun j => by
    have p : ∑ d : Fin 384, k1_pay5 x0 (row3 x1 ![2, 0] inb_S3x384_S1x384_2_0) (ix2 b d) * k1_pay4 (row3 x2 ![2, 0] inb_S3x384_S1x384_2_0) (ix2 j d)
        = bin (fun d => row3 x2 ![2, 0] inb_S3x384_S1x384_2_0 (ix2 0 d)) (fun d => row3 x1 ![2, 0] inb_S3x384_S1x384_2_0 (ix2 0 d)) (fun d => x0 (ix2 b d)) j := by
      rw [← bin_hot]
      unfold k1_pay5 k1_pay4 k1_pay2
      pointwise
    rw [p, k1_pay3_at]
    have h0 := fun d => row3_at x2 0 inb_S3x384_S1x384_0_0 d
    have h1 := fun d => row3_at x2 1 inb_S3x384_S1x384_1_0 d
    have h2 := fun d => row3_at x2 2 inb_S3x384_S1x384_2_0 d
    have s0 := fun d => row3_at x1 0 inb_S3x384_S1x384_0_0 d
    have s1 := fun d => row3_at x1 1 inb_S3x384_S1x384_1_0 d
    have s2 := fun d => row3_at x1 2 inb_S3x384_S1x384_2_0 d
    exact congrArg₂ (· * ·) (congrArg₂ (· * ·) (congrArg₂ (bin · · _ j) (funext h0) (funext s0)) (congrArg₂ (bin · · _ j) (funext h1) (funext s1)))
      (congrArg₂ (bin · · _ j) (funext h2) (funext s2))
  unfold s3Out k1_pay1
  pointwise
  simp only [e]
  rfl

/-- One block's masked products added to what was there. -/
theorem k2_pay2_at (i : grid2.Coords) (v : Vec Ideal S64x7424 .f32) (w : Vec Ideal S7424x256 .f32) (y : Vec Ideal S64x256 .f32) (b : Fin 64) (o : Fin 256) :
    k2_pay2 i v w y (ix2 b o)
      = y (ix2 b o) + ∑ n : Fin 7424, if 7424 * (i 1).val + n.val < 73920 then v (ix2 b n) * w (ix2 n o) else 0 := by
  unfold k2_pay2
  pointwise
  congr 1
  refine Finset.sum_congr rfl fun n _ => ?_
  refine (congrArg (fun c => Scalar.select c (Scalar.select c (v (ix2 b n) * w (ix2 n o)) 0) 0) (tailTest (i 1).val n.val (i 1).isLt n.isLt)).trans ?_
  by_cases h : 7424 * (i 1).val + n.val < 73920
  · simp only [if_pos h]; rfl
  · simp only [if_neg h]; rfl

/-- The bias, the normalization and the activation of the sum. -/
theorem k2_pay3_at (y : Vec Ideal S64x256 .f32) (v w z : Vec Ideal S1x256 .f32) (b : Fin 64) (o : Fin 256) :
    k2_pay3 y v w z (ix2 b o) = layer (y (ix2 b o)) (v (ix2 0 o)) (w (ix2 0 o)) (z (ix2 0 o)) := by
  unfold k2_pay3
  pointwise
  rfl

end Cert.KernelIdeal.Gen

end
-- ==== Proof.ArraysOut.lean ====
/-
  The second and third calls' results, at an index.
-/
module

public import proofs.«01_k».proof.Proof.Arrays
public import proofs.«01_k».proof.Proof.KernelLayers

@[expose] public section

set_option maxRecDepth 16384

noncomputable section

namespace Cert.KernelIdeal.Gen

open Idealize.ShloMosaic Idealize.ShloMosaic.TcCoe Idealize.SL.Sem Idealize.ShloMosaic.StableHlo
open Idealize.ShloMosaic.Pipeline (Dat)
open Cert.Moments Cert.Layers

variable (V : Valuation τ sig (Elt Ideal)) (c : Dev nD)

theorem idx1_0 : ∀ t : Fin cfg1.N, win1_0.index t = ![0, 0] := by decide +kernel
theorem idx1_1 : ∀ t : Fin cfg1.N, win1_1.index t = ![0, 0] := by decide +kernel
theorem idx1_2 : ∀ t : Fin cfg1.N, win1_2.index t = ![0, 0] := by decide +kernel
theorem idx1_3 : ∀ t : Fin cfg1.N, win1_3.index t = ![0, 0] := by decide +kernel
theorem idx1_4 : ∀ t : Fin cfg1.N, win1_4.index t = ![0, 0] := by decide +kernel
theorem idx1_5 : ∀ t : Fin cfg1.N, win1_5.index t = ![0, 0] := by decide +kernel
theorem idx1_6 : ∀ t : Fin cfg1.N, win1_6.index t = ![0, 0] := by decide +kernel
theorem idx1_7 : ∀ t : Fin cfg1.N, win1_7.index t = ![0, 0] := by decide +kernel

theorem blk1_0 (t : Fin cfg1.N) (b : Fin 64) (d : Fin 384) : blk1 V 0 t (ix2 b d) = (V main_v3 : Vec Ideal S64x384 .f32) (ix2 b d) := by
  unfold blk1
  blk_ext [idx1_0 t]
theorem blk1_1 (t : Fin cfg1.N) (s : Fin 3) (d : Fin 384) : blk1 V 1 t (ix2 s d) = (V main_arg2 : Vec Ideal S3x384 .f32) (ix2 s d) := by
  unfold blk1
  blk_ext [idx1_1 t]
theorem blk1_2 (t : Fin cfg1.N) (s : Fin 3) (d : Fin 384) : blk1 V 2 t (ix2 s d) = (V main_arg11 : Vec Ideal S3x384 .i32) (ix2 s d) := by
  unfold blk1
  blk_ext [idx1_2 t]
theorem blk1_4 (t : Fin cfg1.N) (o : Fin 512) : blk1 V 4 t (ix2 0 o) = (V main_v4 : Vec Ideal S1x512 .f32) (ix2 0 o) := by
  unfold blk1
  blk_ext [idx1_4 t]
theorem blk1_5 (t : Fin cfg1.N) (o : Fin 512) : blk1 V 5 t (ix2 0 o) = (V main_v5 : Vec Ideal S1x512 .f32) (ix2 0 o) := by
  unfold blk1
  blk_ext [idx1_5 t]
theorem blk1_6 (t : Fin cfg1.N) (o : Fin 512) : blk1 V 6 t (ix2 0 o) = (V main_v6 : Vec Ideal S1x512 .f32) (ix2 0 o) := by
  unfold blk1
  blk_ext [idx1_6 t]

theorem wts1_at (t : Fin cfg1.N) (d) (o : Fin 512) (j : Fin 768) :
    wts1 V t d (ix2 o j) = (V main_arg7 : Vec Ideal S512x2048 .f32) (ix2 o ⟨j.val, by omega⟩) := by
  have hx : ∀ t : Fin cfg1.N, ∀ a, (cfg1.win 3).xsize (cfg1.grid.coords t) a = (cfg1.win 3).size a := by decide +kernel
  have hm : (cfg1.win 3).moved (cfg1.grid.coords t) (ix2 o j) = true :=
    ((cfg1.win 3).moved_iff _ _).mpr fun a => by rw [hx t a]; exact ((ix2 o j : S512x768.Idx) a).isLt
  unfold wts1 Pipeline.Window.fill
  rw [dif_pos hm]
  unfold blk1
  blk_ext [idx1_3 t]

/-- The second call's result. -/
theorem arr1_7 : (dat1 V c).arrAt 7 cfg1.N = (res1 V (0 : Fin 1) : Vec Ideal S64x512 .f32) := by
  refine (dat1 V c).arrAt_eq_of_covers 7 (res1 V (0 : Fin 1) : Vec Ideal S64x512 .f32) (by decide +kernel) fun t hf (y : S64x512.Idx) => ?_
  have e : ((win1_7.blk t).view.emb y : S64x512.Idx) = y := by
    idx_vars y
    blk_ext [idx1_7 t]
  have ht : t = (0 : Fin 1) := Subsingleton.elim (α := Fin 1) _ _
  refine Eq.trans ?_ (congrArg _ e).symm
  rw [ht]
  rfl

section Second

variable (m : (ℓ : Loc nD τ sig) → Buf (Elt Ideal) ℓ) (X : Tri Ideal)

/-- The rows of words at the launch. -/
def hashArg (s : Fin 3) (d : Fin 384) : BitVec 32 := (m ((c : Thread nD τ).loc main_arg11) : Vec Ideal S3x384 .i32) (ix2 s d)
/-- The rows of signs at the launch. -/
def signArg (s : Fin 3) (d : Fin 384) : EReal := (m ((c : Thread nD τ).loc main_arg2) : Vec Ideal S3x384 .f32) (ix2 s d)

/-- The second call's result from the arguments. -/
theorem W4_v7 (b : Fin 64) (o : Fin 512) :
    (W4 m X c main_v7 : Vec Ideal S64x512 .f32) (ix2 b o)
      = layer (∑ j : Fin 768, bins (hashArg c m) (signArg c m) (fun d => wc (graph m c b) (tokens m c b) d) j
            * (m ((c : Thread nD τ).loc main_arg7) : Vec Ideal S512x2048 .f32) (ix2 o ⟨j.val, by omega⟩))
          ((m ((c : Thread nD τ).loc main_arg8) : Vec Ideal S512 .f32) (ix1 o)) ((m ((c : Thread nD τ).loc main_arg9) : Vec Ideal S512 .f32) (ix1 o))
          ((m ((c : Thread nD τ).loc main_arg10) : Vec Ideal S512 .f32) (ix1 o)) := by
  have e : (W4 m X c main_v7 : Vec Ideal S64x512 .f32) = res1 (W3 m X c) (0 : Fin 1) := (out1_v7 (W3 m X c) c).trans (arr1_7 (W3 m X c) c)
  rw [e]
  unfold res1
  refine (s3Out_at _ _ _ _ _ _ _ b o).trans ?_
  have h2 : (W3 m X c main_arg2 : Vec Ideal S3x384 .f32) = m ((c : Thread nD τ).loc main_arg2) := W3_kept m c X main_arg2 (by decide) (by decide) (by decide) (by decide)
  have h11 : (W3 m X c main_arg11 : Vec Ideal S3x384 .i32) = m ((c : Thread nD τ).loc main_arg11) := W3_kept m c X main_arg11 (by decide) (by decide) (by decide) (by decide)
  have h7 : (W3 m X c main_arg7 : Vec Ideal S512x2048 .f32) = m ((c : Thread nD τ).loc main_arg7) := W3_kept m c X main_arg7 (by decide) (by decide) (by decide) (by decide)
  have a0 : (fun d : Fin 384 => blk1 (W3 m X c) 0 (0 : Fin 1) (ix2 b d)) = fun d => wc (graph m c b) (tokens m c b) d :=
    funext fun d => (blk1_0 _ _ b d).trans (W3_v3 m c X b d)
  have a1 : (fun (s : Fin 3) (d : Fin 384) => blk1 (W3 m X c) 1 (0 : Fin 1) (ix2 s d)) = signArg c m :=
    funext fun s => funext fun d => (blk1_1 _ _ s d).trans (congrFun h2 _)
  have a2 : (fun (s : Fin 3) (d : Fin 384) => blk1 (W3 m X c) 2 (0 : Fin 1) (ix2 s d)) = hashArg c m :=
    funext fun s => funext fun d => (blk1_2 _ _ s d).trans (congrFun h11 _)
  have a3 : ∀ j : Fin 768, wts1 (W3 m X c) (0 : Fin 1) zero1 (ix2 o j) = (m ((c : Thread nD τ).loc main_arg7) : Vec Ideal S512x2048 .f32) (ix2 o ⟨j.val, by omega⟩) :=
    fun j => (wts1_at _ _ _ o j).trans (congrFun h7 _)
  have a4 := (blk1_4 (W3 m X c) (0 : Fin 1) o).trans (W3_v4 m c X o)
  have a5 := (blk1_5 (W3 m X c) (0 : Fin 1) o).trans (W3_v5 m c X o)
  have a6 := (blk1_6 (W3 m X c) (0 : Fin 1) o).trans (W3_v6 m c X o)
  have s : ∀ j : Fin 768, bins (fun (s : Fin 3) (d : Fin 384) => blk1 (W3 m X c) 2 (0 : Fin 1) (ix2 s d)) (fun (s : Fin 3) (d : Fin 384) => blk1 (W3 m X c) 1 (0 : Fin 1) (ix2 s d))
        (fun d : Fin 384 => blk1 (W3 m X c) 0 (0 : Fin 1) (ix2 b d)) j * wts1 (W3 m X c) (0 : Fin 1) zero1 (ix2 o j)
      = bins (hashArg c m) (signArg c m) (fun d => wc (graph m c b) (tokens m c b) d) j
            * (m ((c : Thread nD τ).loc main_arg7) : Vec Ideal S512x2048 .f32) (ix2 o ⟨j.val, by omega⟩) := fun j => by
    rw [a0, a1, a2, a3]
  rw [← a4, ← a5, ← a6]
  exact congrArg (fun x => layer x _ _ _) (Finset.sum_congr rfl fun j _ => s j)

end Second

/-! ## The third call -/

theorem idx2_0 : ∀ t : Fin cfg2.N, win2_0.index t = ![0, t.val % 10] := by decide +kernel
theorem idx2_1 : ∀ t : Fin cfg2.N, win2_1.index t = ![t.val % 10, t.val / 10] := by decide +kernel
theorem idx2_2 : ∀ t : Fin cfg2.N, win2_2.index t = ![0, t.val / 10] := by decide +kernel
theorem idx2_3 : ∀ t : Fin cfg2.N, win2_3.index t = ![0, t.val / 10] := by decide +kernel
theorem idx2_4 : ∀ t : Fin cfg2.N, win2_4.index t = ![0, t.val / 10] := by decide +kernel
theorem idx2_5 : ∀ t : Fin cfg2.N, win2_5.index t = ![0, t.val / 10] := by decide +kernel

/-- The column that a column of a point's block stands for. -/
def col (t : Fin cfg2.N) (o : Fin 256) : Fin 512 := ⟨256 * (t.val / 10) + o.val, by have := t.isLt; have : cfg2.N = 20 := N_2; omega⟩

theorem blk2_2 (t : Fin cfg2.N) (o : Fin 256) : blk2 V 2 t (ix2 0 o) = (V main_v10 : Vec Ideal S1x512 .f32) (ix2 0 (col t o)) := by
  unfold blk2 col
  blk_ext [idx2_2 t]
theorem blk2_3 (t : Fin cfg2.N) (o : Fin 256) : blk2 V 3 t (ix2 0 o) = (V main_v11 : Vec Ideal S1x512 .f32) (ix2 0 (col t o)) := by
  unfold blk2 col
  blk_ext [idx2_3 t]
theorem blk2_4 (t : Fin cfg2.N) (o : Fin 256) : blk2 V 4 t (ix2 0 o) = (V main_v12 : Vec Ideal S1x512 .f32) (ix2 0 (col t o)) := by
  unfold blk2 col
  blk_ext [idx2_4 t]

theorem vec2_at (t : Fin cfg2.N) (d) (b : Fin 64) (n : Fin 7424) (hq : 7424 * (t.val % 10) + n.val < 74304) :
    vec2 V t d (ix2 b n) = (V main_v8 : Vec Ideal S64x74304 .f32) (ix2 b ⟨7424 * (t.val % 10) + n.val, hq⟩) := by
  have hx : ∀ t : Fin cfg2.N, ∀ a, (cfg2.win 0).xsize (cfg2.grid.coords t) a = (cfg2.win 0).size a := by decide +kernel
  have hm : (cfg2.win 0).moved (cfg2.grid.coords t) (ix2 b n) = true :=
    ((cfg2.win 0).moved_iff _ _).mpr fun a => by rw [hx t a]; exact ((ix2 b n : S64x7424.Idx) a).isLt
  unfold vec2 Pipeline.Window.fill
  rw [dif_pos hm]
  unfold blk2
  blk_ext [idx2_0 t]

theorem wts2_at (t : Fin cfg2.N) (d) (n : Fin 7424) (o : Fin 256) (hq : 7424 * (t.val % 10) + n.val < 73920) :
    wts2 V t d (ix2 n o) = (V main_v9 : Vec Ideal S73920x512 .f32) (ix2 ⟨7424 * (t.val % 10) + n.val, hq⟩ (col t o)) := by
  have hm : (cfg2.win 1).moved (cfg2.grid.coords t) (ix2 n o) = true := ((cfg2.win 1).moved_iff _ _).mpr fun a => by
    match a with
    | ⟨0, _⟩ => rw [show (⟨0, _⟩ : Fin 2) = 0 from rfl, (xsize2 t).1]; exact Nat.lt_min.mpr ⟨n.isLt, by show n.val < _; omega⟩
    | ⟨1, _⟩ => rw [show (⟨1, _⟩ : Fin 2) = 1 from rfl, (xsize2 t).2]; exact o.isLt
  unfold wts2 Pipeline.Window.fill
  rw [dif_pos hm]
  unfold blk2 col
  blk_ext [idx2_1 t]

/-- The packed triangles as the third call finds them. -/
def vecIn (b : Fin 64) (q : Fin 74304) : EReal := (V main_v8 : Vec Ideal S64x74304 .f32) (ix2 b q)
/-- The long product's weights as the third call finds them. -/
def wtsIn (p : Fin 73920) (o : Fin 512) : EReal := (V main_v9 : Vec Ideal S73920x512 .f32) (ix2 p o)
/-- The long product. -/
def long (b : Fin 64) (o : Fin 512) : EReal := ∑ p : Fin 73920, vecIn V b ⟨p.val, by omega⟩ * wtsIn V p o

/-- One product of the long sum, nothing past the triangle's end. -/
def prod2 (b : Fin 64) (o : Fin 512) (p : ℕ) : EReal :=
  if h : p < 73920 then vecIn V b ⟨p, by omega⟩ * wtsIn V ⟨p, h⟩ o else 0

/-- One point's sum added to what was there. -/
theorem step2 (t : Fin cfg2.N) (y : Vec Ideal S64x256 .f32) (b : Fin 64) (o : Fin 256) :
    k2_pay2 (cfg2.grid.coords t) (vec2 V t zero2v) (wts2 V t zero2w) y (ix2 b o)
      = y (ix2 b o) + ∑ n ∈ Finset.range 7424, prod2 V b (col t o) (7424 * (t.val % 10) + n) := by
  rw [k2_pay2_at, ← Fin.sum_univ_eq_sum_range (fun n => prod2 V b (col t o) (7424 * (t.val % 10) + n)) 7424]
  refine congrArg (y (ix2 b o) + ·) (Finset.sum_congr rfl fun n _ => ?_)
  rw [coord2]
  unfold prod2
  by_cases h : 7424 * (t.val % 10) + n.val < 73920
  · rw [if_pos h, dif_pos h, vec2_at V t _ b n (by omega), wts2_at V t _ n o h]; rfl
  · rw [if_neg h, dif_neg h]

/-- The running sum of a run, before its last point. -/
theorem acc2_at (q : Fin 2) (k : ℕ) (hk : k < 9) (b : Fin 64) (o : Fin 256) :
    acc2 V (10 * q.val + k + 1) (ix2 b o) = ∑ s ∈ Finset.range (k + 1), ∑ n ∈ Finset.range 7424, prod2 V b ⟨256 * q.val + o.val, by omega⟩ (7424 * s + n) := by
  have hN : cfg2.N = 20 := N_2
  have key : ∀ (t : Fin cfg2.N) (k : ℕ), t.val = 10 * q.val + k → k < 10 → t.val % 10 = k ∧ col t o = ⟨256 * q.val + o.val, by omega⟩ := fun t k ht hk =>
    ⟨by omega, Fin.ext (by show 256 * (t.val / 10) + o.val = 256 * q.val + o.val; have : t.val / 10 = q.val := by omega
                           rw [this])⟩
  induction k with
  | zero =>
    obtain ⟨h10, hc⟩ := key ⟨10 * q.val + 0, by omega⟩ 0 rfl (by omega)
    refine (congrFun (acc2_succ V ⟨10 * q.val + 0, by omega⟩) _).trans ?_
    unfold s2Out
    rw [coord2, h10, if_neg (by omega), if_pos rfl, step2, h10, hc, Finset.sum_range_one]
    have z : k2_pay1 (F := Ideal) (ix2 b o) = 0 := by
      unfold k2_pay1
      pointwise
    rw [z, zero_add]
  | succ k ih =>
    obtain ⟨h10, hc⟩ := key ⟨10 * q.val + (k + 1), by omega⟩ (k + 1) rfl (by omega)
    refine (congrFun (acc2_succ V ⟨10 * q.val + (k + 1), by omega⟩) _).trans ?_
    unfold s2Out
    rw [coord2, h10, if_neg (by omega), if_neg (by omega), step2, h10, hc, Finset.sum_range_succ _ (k + 1)]
    exact congrArg₂ (· + ·) (ih (by omega) key) rfl

/-- Ten blocks of a sum are the sum up to the triangle's end. -/
theorem blocks_sum (b : Fin 64) (o : Fin 512) :
    ∑ s ∈ Finset.range 10, ∑ n ∈ Finset.range 7424, prod2 V b o (7424 * s + n)
      = long V b o := by
  have h : ∀ k : ℕ, ∑ s ∈ Finset.range k, ∑ n ∈ Finset.range 7424, prod2 V b o (7424 * s + n) = ∑ p ∈ Finset.range (7424 * k), prod2 V b o p := fun k => by
    induction k with
    | zero => rfl
    | succ k ih => rw [Finset.sum_range_succ, ih, Nat.mul_succ, Finset.sum_range_add]
  rw [h, ← Finset.sum_subset (Finset.range_mono (show 73920 ≤ 7424 * 10 by omega)) (fun p _ hp => by
    unfold prod2
    rw [dif_neg (fun hlt => hp (Finset.mem_range.mpr hlt))]),
    ← Fin.sum_univ_eq_sum_range (fun p => prod2 V b o p) 73920]
  refine Finset.sum_congr rfl fun p _ => ?_
  unfold prod2
  rw [dif_pos p.isLt]

/-- A run's last point leaves the layer's output. -/
theorem acc2_last (q : Fin 2) (t : Fin cfg2.N) (ht : t.val = 10 * q.val + 9) (b : Fin 64) (o : Fin 256) :
    acc2 V (t.val + 1) (ix2 b o)
      = layer (long V b (col t o))
          ((V main_v10 : Vec Ideal S1x512 .f32) (ix2 0 (col t o))) ((V main_v11 : Vec Ideal S1x512 .f32) (ix2 0 (col t o)))
          ((V main_v12 : Vec Ideal S1x512 .f32) (ix2 0 (col t o))) := by
  have h10 : t.val % 10 = 9 := by omega
  have hc : col t o = ⟨256 * q.val + o.val, by omega⟩ := Fin.ext (by
    show 256 * (t.val / 10) + o.val = 256 * q.val + o.val
    have : t.val / 10 = q.val := by omega
    rw [this])
  rw [acc2_succ]
  unfold s2Out
  rw [coord2, h10, if_pos rfl, if_neg (by omega)]
  refine (k2_pay3_at _ _ _ _ b o).trans ?_
  rw [blk2_2, blk2_3, blk2_4, step2, h10, ← blocks_sum, Finset.sum_range_succ _ 9]
  have a := acc2_at V q 8 (by omega) b o
  rw [← hc] at a
  have e : acc2 V t.val = acc2 V (10 * q.val + 8 + 1) := congrArg (acc2 V) (by omega)
  rw [e, a]

/-- The third call's result. -/
theorem arr2_5 (b : Fin 64) (o : Fin 512) :
    ((dat2 V c).arrAt 5 cfg2.N : Vec Ideal S64x512 .f32) (ix2 b o)
      = layer (long V b o)
          ((V main_v10 : Vec Ideal S1x512 .f32) (ix2 0 o)) ((V main_v11 : Vec Ideal S1x512 .f32) (ix2 0 o)) ((V main_v12 : Vec Ideal S1x512 .f32) (ix2 0 o)) := by
  let G : Vec Ideal S64x512 .f32 := fun i =>
    layer (long V (i 0) (i 1))
      ((V main_v10 : Vec Ideal S1x512 .f32) (ix2 0 (i 1))) ((V main_v11 : Vec Ideal S1x512 .f32) (ix2 0 (i 1))) ((V main_v12 : Vec Ideal S1x512 .f32) (ix2 0 (i 1)))
  have h : (dat2 V c).arrAt 5 cfg2.N = G := by
    refine (dat2 V c).arrAt_eq_of_covers 5 G (by decide +kernel) fun t hf (y : S64x256.Idx) => ?_
    have hN : cfg2.N = 20 := N_2
    have hlt : t.val < 20 := hN ▸ t.isLt
    have hf' : t.val % 10 = 9 := (flush2_5 t).mp hf
    have e : ((win2_5.blk t).view.emb y : S64x512.Idx) = ix2 (y 0) (col t (y 1)) := by
      unfold col
      idx_vars y
      blk_ext [idx2_5 t]
    refine Eq.trans ?_ (congrArg G e).symm
    have hy : y = ix2 (y 0) (y 1) := by idx_vars y; rfl
    refine Eq.trans ?_ (acc2_last V ⟨t.val / 10, by omega⟩ t (by show t.val = 10 * (t.val / 10) + 9; omega) (y 0) (y 1))
    exact congrArg (acc2 V (t.val + 1)) hy
  exact congrFun h _

end Cert.KernelIdeal.Gen

end
-- ==== Proof.RefMoments.lean ====
/-
  The reference's moments of one sample, read off its named values.
-/
module

public import proofs.«01_k».proof.Proof.Moments
public import proofs.«01_k».proof.Proof.Gen.ReferenceIdeal.Read
public import Idealize.ShloMosaic.Lib.Pointwise

@[expose] public section

set_option maxRecDepth 16384

noncomputable section

namespace Cert.ReferenceIdeal.Read

open Idealize.ShloMosaic Cert.ReferenceIdeal Cert.ReferenceIdeal.Gen Cert.Moments

variable (t : (⟨S64x196x384, .f32⟩ : BufTy).Contents (Elt Ideal)) (g : (⟨S64x196x196, .f32⟩ : BufTy).Contents (Elt Ideal))

/-- A sample's graph. -/
def grp (b : Fin 64) (n k : Fin 196) : EReal := g (ix3 b n k)

/-- A sample's tokens. -/
def tok (b : Fin 64) (n : Fin 196) (d : Fin 384) : EReal := t (ix3 b n d)

theorem v5_at (b : Fin 64) (n : Fin 196) : val_main_v5 (F := Ideal) g (ix2 b n) = dinv (grp g b) n := by
  unfold val_main_v5 val_main_v4 val_main_v3 val_main_v2 val_main_v1 val_main_v0 val_main_cst val_main_cst_0 val_main_cst_1
  pointwise
  exact div_one_sqrt (lt_max_of_lt_right eps_pos)

theorem v11_at (b : Fin 64) (n k : Fin 196) :
    val_main_v11 (F := Ideal) g (ix3 b n k) = grp g b n k * dinv (grp g b) n * dinv (grp g b) k := by
  unfold val_main_v11 val_main_v10 val_main_v9 val_main_v8 val_main_v7 val_main_v6
  pointwise
  simp only [v5_at]
  rfl

theorem v12_at (b : Fin 64) (n : Fin 196) : val_main_v12 (F := Ideal) g (ix2 b n) = row (grp g b) n := by
  unfold val_main_v12 val_main_cst_2
  pointwise
  simp only [v11_at]
  exact row_eq (A := grp g b) n

theorem v13_at (b : Fin 64) : val_main_v13 (F := Ideal) g (ix1 b) = trw (grp g b) := by
  unfold val_main_v13 val_main_call0_v6 val_main_call0_call0_v0 val_main_call0_v5 val_main_call0_v4 val_main_call0_v3 val_main_call0_v2 val_main_call0_v1 val_main_call0_v0 val_main_call0_cst val_main_call0_cst_0 val_main_call0_c
  pointwise
  simp only [v11_at]
  exact diag_sum (by norm_num) _

theorem v17_at (b : Fin 64) : val_main_v17 (F := Ideal) g (ix2 b 0) = trw (grp g b) + eps := by
  unfold val_main_v17 val_main_v16 val_main_v15 val_main_cst_3
  pointwise
  simp only [v13_at]
  rfl

section
variable (b : Fin 64) (h1 : trw (grp g b) + eps ≠ 0)
include h1

theorem v19_at (d : Fin 384) : val_main_v19 (F := Ideal) t g (ix2 b d) = mu (grp g b) (tok t b) d := by
  unfold val_main_v19 val_main_v18 val_main_v14
  pointwise
  simp only [v12_at, v17_at]
  rw [div_eq_mul h1]
  unfold mu
  exact congrArg (· * itrw (grp g b)) (Finset.sum_congr rfl fun n _ => mul_comm _ _)

theorem v22_at (n : Fin 196) (d : Fin 384) : val_main_v22 (F := Ideal) t g (ix3 b n d) = tc (grp g b) (tok t b) n d := by
  unfold val_main_v22 val_main_v21 val_main_v20
  pointwise
  simp only [v19_at t g b h1]
  rfl

theorem v24_at (d e : Fin 384) : val_main_v24 (F := Ideal) t g (ix3 b d e) = m2 (grp g b) (tok t b) d e := by
  unfold val_main_v24 val_main_v23
  pointwise
  simp only [v22_at t g b h1, v11_at]
  exact Finset.sum_congr rfl fun n _ => m2_term (A := grp g b) (T := tok t b) n d e

theorem v25_at : val_main_v25 (F := Ideal) t g (ix1 b) = tr (grp g b) (tok t b) := by
  unfold val_main_v25 val_main_call1_v6 val_main_call1_call0_v0 val_main_call1_v5 val_main_call1_v4 val_main_call1_v3 val_main_call1_v2 val_main_call1_v1 val_main_call1_v0 val_main_call1_cst val_main_call1_cst_0 val_main_call1_c
  pointwise
  simp only [v24_at t g b h1]
  rw [diag_sum (by norm_num)]
  exact tr_eq _ _

theorem v28_at : val_main_v28 (F := Ideal) t g (ix3 b 0 0) = tr (grp g b) (tok t b) + eps := by
  unfold val_main_v28 val_main_v27 val_main_v26 val_main_cst_4
  pointwise
  simp only [v25_at t g b h1]
  rfl

theorem v66_at : val_main_v66 (F := Ideal) t g (ix3 b 0 0) = tr (grp g b) (tok t b) + eps := by
  unfold val_main_v66 val_main_v65 val_main_v26 val_main_cst_11
  pointwise
  simp only [v25_at t g b h1]
  rfl

omit h1 in
theorem v36_at (i j : Fin 384) : val_main_v36 (F := Ideal) (ix2 i j) = eye i j := by
  unfold val_main_v36 val_main_v35 val_main_v34 val_main_v33 val_main_v32 val_main_v31 val_main_c
  pointwise
  have h : IntOp.addi (BitVec.ofNat 32 i.val) 0#32 = BitVec.ofNat 32 i.val := BitVec.add_zero _
  rw [h, WordCmp.cmpi_eq_ofNat (by omega) (by omega)]
  unfold eye
  by_cases hij : i = j
  · subst hij
    simp [FloatOps.uitofp]
  · have : i.val ≠ j.val := fun e => hij (Fin.ext e)
    simp [FloatOps.uitofp, hij, this]

theorem v137_at (d : Fin 384) : val_main_v137 (F := Ideal) t g (ix2 b d) = wc (grp g b) (tok t b) d := by
  unfold val_main_v137 val_main_v136 val_main_v135 val_main_v134 val_main_v133 val_main_v132 val_main_v131 val_main_v130 val_main_v129 val_main_cst_26 val_main_cst_27
  pointwise
  simp only [v12_at, v13_at, v22_at t g b h1]
  refine (div_eq_mul h1 _).trans ?_
  exact congrArg (· * itrw (grp g b)) (Finset.sum_congr rfl fun n _ => mul_comm _ _)

variable (h2 : tr (grp g b) (tok t b) + eps ≠ 0)
include h2

theorem v30_at (i j : Fin 384) : val_main_v30 (F := Ideal) t g (ix3 b i j) = zz (grp g b) (tok t b) i j := by
  unfold val_main_v30 val_main_v29
  pointwise
  simp only [v24_at t g b h1, v28_at t g b h1]
  exact div_eq_mul h2 _

theorem v46_at (i j : Fin 384) : val_main_v46 (F := Ideal) t g (ix3 b i j) = y1 (grp g b) (tok t b) i j := by
  unfold val_main_v46 val_main_v45 val_main_v44 val_main_v43 val_main_v42 val_main_v41 val_main_v40 val_main_v39 val_main_v38 val_main_v37 val_main_cst_5 val_main_cst_6
  pointwise
  simp only [v30_at t g b h1 h2, v36_at]
  exact step_eye _ i j

theorem v55_at (i j : Fin 384) :
    val_main_v55 (F := Ideal) t g (ix3 b i j) = step (zz (grp g b) (tok t b)) (y1 (grp g b) (tok t b)) i j := by
  unfold val_main_v55 val_main_v54 val_main_v53 val_main_v52 val_main_v51 val_main_v50 val_main_v49 val_main_v48 val_main_v47 val_main_cst_7 val_main_cst_8
  pointwise
  simp only [v30_at t g b h1 h2, v46_at t g b h1 h2, v36_at]
  rfl

theorem v69_at (i j : Fin 384) : val_main_v69 (F := Ideal) t g (ix3 b i j) = yy (grp g b) (tok t b) i j := by
  unfold val_main_v69 val_main_v68 val_main_v67 val_main_v64 val_main_v63 val_main_v62 val_main_v61 val_main_v60 val_main_v59 val_main_v58 val_main_v57 val_main_v56 val_main_cst_9 val_main_cst_10
  pointwise
  simp only [v30_at t g b h1 h2, v55_at t g b h1 h2, v66_at t g b h1, v36_at]
  exact div_eq_mul (sqrt_ne_zero h2) _

end

end Cert.ReferenceIdeal.Read

end
-- ==== Proof.RefSketch.lean ====
/-
  The reference's count sketches and their layer, read at an index.
-/
module

public import proofs.«01_k».proof.Proof.Layers
public import proofs.«01_k».proof.Proof.RefMoments
public import Idealize.ShloMosaic.Lib.Routing.OpsPair

@[expose] public section

set_option maxRecDepth 16384

noncomputable section

namespace Cert.ReferenceIdeal.Read

open Idealize.ShloMosaic Cert.ReferenceIdeal Cert.ReferenceIdeal.Gen Cert.Moments Cert.Layers

/-- The bins' scatter. -/
abbrev scat : ScatterDims S64x768 S384x1 S64x384 := scatter_S64x768_S384x1_S64x384_0_1_1_1

theorem scat_lands (idx : IVec S384x1 32) (b b' : Fin 64) (d : Fin 384) (j : Fin 768) :
    scat.resultIdx? (ix2 b' d) idx = some (ix2 b j) ↔ b' = b ∧ (idx (ix2 d 0)).toInt = (j.val : Int) := by
  rw [Routing.resultIdx?_eq_some]
  have s0 : scat.start (ix2 b' d) idx 0 = 0 := rfl
  have s1 : scat.start (ix2 b' d) idx 1 = (idx (ix2 d 0)).toInt := by
    unfold ScatterDims.start
    rw [dif_pos (by decide)]
    refine congrArg (fun i => (idx i).toInt) (funext fun a => ?_)
    fin_cases a <;> rfl
  have w0 : scat.window (ix2 b' d) 0 = b'.val := rfl
  have w1 : scat.window (ix2 b' d) 1 = 0 := rfl
  constructor
  · intro h
    have h0 := h 0
    have h1 := h 1
    rw [s0, w0] at h0
    rw [s1, w1] at h1
    refine ⟨Fin.ext ?_, ?_⟩
    · have : ((ix2 b j : S64x768.Idx) 0).val = b.val := rfl
      omega
    · have : ((ix2 b j : S64x768.Idx) 1).val = j.val := rfl
      omega
  · rintro ⟨rfl, h1⟩ a
    fin_cases a
    · show scat.start (ix2 b' d) idx 0 + (scat.window (ix2 b' d) 0 : Int) = (b'.val : Int)
      rw [s0, w0]; omega
    · show scat.start (ix2 b' d) idx 1 + (scat.window (ix2 b' d) 1 : Int) = (j.val : Int)
      rw [s1, w1, h1]; omega

/-- Scattered sums at one bin: the entries of the row whose word is the bin. -/
theorem scat_at (x : FVec Ideal S64x768 .f32) (idx : IVec S384x1 32) (upd : FVec Ideal S64x384 .f32) (h : Fin 384 → BitVec 32)
    (hi : ∀ d, idx (ix2 d 0) = h d) (hh : ∀ d, (h d).msb = false) (b : Fin 64) (j : Fin 768) :
    Host.scatterAdd scat x idx upd (ix2 b j) = x (ix2 b j) + ∑ d : Fin 384, if h d = BitVec.ofNat 32 j.val then upd (ix2 b d) else 0 := by
  show x (ix2 b j) + ∑ k ∈ Finset.univ.filter (fun k => scat.resultIdx? k idx = some (ix2 b j)), upd k = _
  congr 1
  rw [← Finset.sum_filter]
  have key : ∀ d : Fin 384, (idx (ix2 d 0)).toInt = (j.val : Int) ↔ h d = BitVec.ofNat 32 j.val := fun d => by
    rw [hi, BitVec.toInt_eq_msb_cond, hh, ← BitVec.toNat_inj, BitVec.toNat_ofNat, Nat.mod_eq_of_lt (by have := j.isLt; omega)]
    simp
  refine Finset.sum_bij' (fun k _ => k 1) (fun d _ => ix2 b d) ?_ ?_ ?_ ?_ ?_
  · intro k hk
    idx_vars k
    have h2 := (scat_lands idx b _ _ j).mp (Finset.mem_filter.mp hk).2
    exact Finset.mem_filter.mpr ⟨Finset.mem_univ _, (key _).mp h2.2⟩
  · intro d hd
    exact Finset.mem_filter.mpr ⟨Finset.mem_univ _, (scat_lands idx b b d j).mpr ⟨rfl, (key d).mpr (Finset.mem_filter.mp hd).2⟩⟩
  · intro k hk
    idx_vars k
    have h2 := (scat_lands idx b _ _ j).mp (Finset.mem_filter.mp hk).2
    rw [← h2.1]
  · intro d hd
    rfl
  · intro k hk
    idx_vars k
    have h2 := (scat_lands idx b _ _ j).mp (Finset.mem_filter.mp hk).2
    rw [← h2.1]

/-- An index that is not negative is not wrapped. -/
theorem keep_index (x y : BitVec 32) (h : x.msb = false) : Scalar.select (IntOp.cmpi .slt x 0#32) y x = x := by
  have e : IntOp.cmpi .slt x 0#32 = 0#1 := by
    show BitVec.ofBool (x.slt 0#32) = 0#1
    have : x.slt 0#32 = false := by
      rw [BitVec.slt_zero_eq_msb, h]
    rw [this]; rfl
  rw [e]; rfl

variable (t : (⟨S64x196x384, .f32⟩ : BufTy).Contents (Elt Ideal)) (g : (⟨S64x196x196, .f32⟩ : BufTy).Contents (Elt Ideal)) (x2 : (⟨S3x384, .f32⟩ : BufTy).Contents (Elt Ideal)) (x11 : (⟨S3x384, .i32⟩ : BufTy).Contents (Elt Ideal))
  (hx : ∀ s d, BitVec.msb (x11 (ix2 s d)) = false)

/-- The rows of words. -/
def hashes (s : Fin 3) (d : Fin 384) : BitVec 32 := x11 (ix2 s d)
/-- The rows of signs. -/
def signs (s : Fin 3) (d : Fin 384) : EReal := x2 (ix2 s d)

include hx in
theorem v153_at (b : Fin 64) (j : Fin 768) :
    val_main_v153 (F := Ideal) t g x2 x11 (ix2 b j) = bin (hashes x11 0) (signs x2 0) (fun d => val_main_v137 (F := Ideal) t g (ix2 b d)) j := by
  unfold val_main_v153
  refine (scat_at _ _ _ (hashes x11 0) (fun d => ?_) (hx 0) b j).trans ?_
  · unfold val_main_v152 val_main_v151 val_main_v150 val_main_v149 val_main_v148 val_main_v147 val_main_v141 val_main_v140 val_main_c_30 val_main_c_31
    pointwise
    exact keep_index _ _ (hx 0 d)
  · unfold val_main_v139 val_main_cst_29 val_main_v146 val_main_v145 val_main_v144 val_main_v143 val_main_v142
    pointwise
    rfl

include hx in
theorem v169_at (b : Fin 64) (j : Fin 768) :
    val_main_v169 (F := Ideal) t g x2 x11 (ix2 b j) = bin (hashes x11 1) (signs x2 1) (fun d => val_main_v137 (F := Ideal) t g (ix2 b d)) j := by
  unfold val_main_v169
  refine (scat_at _ _ _ (hashes x11 1) (fun d => ?_) (hx 1) b j).trans ?_
  · unfold val_main_v168 val_main_v167 val_main_v166 val_main_v165 val_main_v164 val_main_v163 val_main_v157 val_main_v156 val_main_c_33 val_main_c_34
    pointwise
    exact keep_index _ _ (hx 1 d)
  · unfold val_main_v155 val_main_cst_32 val_main_v162 val_main_v161 val_main_v160 val_main_v159 val_main_v158
    pointwise
    rfl

include hx in
theorem v185_at (b : Fin 64) (j : Fin 768) :
    val_main_v185 (F := Ideal) t g x2 x11 (ix2 b j) = bin (hashes x11 2) (signs x2 2) (fun d => val_main_v137 (F := Ideal) t g (ix2 b d)) j := by
  unfold val_main_v185
  refine (scat_at _ _ _ (hashes x11 2) (fun d => ?_) (hx 2) b j).trans ?_
  · unfold val_main_v184 val_main_v183 val_main_v182 val_main_v181 val_main_v180 val_main_v179 val_main_v173 val_main_v172 val_main_c_36 val_main_c_37
    pointwise
    exact keep_index _ _ (hx 2 d)
  · unfold val_main_v171 val_main_cst_35 val_main_v178 val_main_v177 val_main_v176 val_main_v175 val_main_v174
    pointwise
    rfl

include hx in
/-- The three sketches of a row multiplied. -/
theorem v186_at (b : Fin 64) (j : Fin 768) :
    val_main_v186 (F := Ideal) t g x2 x11 (ix2 b j) = bins (hashes x11) (signs x2) (fun d => val_main_v137 (F := Ideal) t g (ix2 b d)) j := by
  unfold val_main_v186 val_main_v170 val_main_v154 val_main_v138 val_main_cst_28
  pointwise
  rw [v153_at t g x2 x11 hx, v169_at t g x2 x11 hx, v185_at t g x2 x11 hx]
  rfl

variable (x7 : (⟨S512x2048, .f32⟩ : BufTy).Contents (Elt Ideal)) (x8 x9 x10 : (⟨S512, .f32⟩ : BufTy).Contents (Elt Ideal))

include hx in
/-- The padded row's product with the weights stops at its own length. -/
theorem v189_at (b : Fin 64) (o : Fin 512) :
    val_main_v189 (F := Ideal) t g x2 x7 x11 (ix2 b o)
      = ∑ j : Fin 768, bins (hashes x11) (signs x2) (fun d => val_main_v137 (F := Ideal) t g (ix2 b d)) j * x7 (ix2 o ⟨j.val, by omega⟩) := by
  unfold val_main_v189 val_main_v188 val_main_v187 val_main_call2_v0 val_main_c_38
  pointwise
  have z : FloatOps.sitofp (F := Ideal) .f32 (0#32 : BitVec 32) = 0 := by
    show (((0#32 : BitVec 32).toInt : ℝ) : EReal) = 0
    simp
  simp only [z, zero_mul, Finset.sum_const_zero, add_zero, v186_at t g x2 x11 hx]

include hx in
/-- The sketch branch's result. -/
theorem v207_at (b : Fin 64) (o : Fin 512) :
    val_main_v207 (F := Ideal) t g x2 x7 x8 x9 x10 x11 (ix2 b o)
      = layer (∑ j : Fin 768, bins (hashes x11) (signs x2) (fun d => val_main_v137 (F := Ideal) t g (ix2 b d)) j * x7 (ix2 o ⟨j.val, by omega⟩))
          (x8 (ix1 o)) (x9 (ix1 o)) (x10 (ix1 o)) := by
  rw [← layer_eq, ← v189_at t g x2 x11 hx x7]
  unfold val_main_v207 val_main_v206 val_main_v205 val_main_v204 val_main_v203 val_main_v202 val_main_v201 val_main_v200 val_main_v199 val_main_v198
    val_main_v197 val_main_v196 val_main_v195 val_main_v194 val_main_v193 val_main_v192 val_main_v191 val_main_v190 val_main_cst_39 val_main_cst_40 val_main_cst_41
  pointwise
  rfl

end Cert.ReferenceIdeal.Read

end
-- ==== Proof.RefTriangle.lean ====
/-
  The reference's reading of the upper triangle in row order, and the layer on it.
-/
module

public import proofs.«01_k».proof.Proof.RefSketch
public import Idealize.ShloMosaic.Lib.Routing.Ops

@[expose] public section

set_option maxRecDepth 16384

noncomputable section

namespace Cert.ReferenceIdeal.Read

open Idealize.ShloMosaic Cert.ReferenceIdeal Cert.ReferenceIdeal.Gen Cert.Moments Cert.Layers

/-- The row starts that a position has reached are those up to its own row. -/
theorem reached {i k p q : ℕ} (hi : i + k < 384) (hp : 2 * p = i * (769 - i) + 2 * k) (hq : q < 384) : q * (769 - q) ≤ 2 * p ↔ q ≤ i := by
  obtain ⟨u, hu⟩ : ∃ u, u = 769 - i := ⟨_, rfl⟩
  constructor
  · intro h
    by_contra hlt
    obtain ⟨d, rfl⟩ : ∃ d, q = i + 1 + d := ⟨q - (i + 1), by omega⟩
    have e1 : 769 - (i + 1 + d) = 769 - i - 1 - d := by omega
    rw [e1, hp] at h
    zify [show i ≤ 769 by omega, show 1 ≤ 769 - i by omega, show d ≤ 769 - i - 1 by omega] at h
    nlinarith
  · intro h
    obtain ⟨d, rfl⟩ : ∃ d, i = q + d := ⟨i - q, by omega⟩
    rw [hp]
    zify [show q ≤ 769 by omega, show q + d ≤ 769 by omega]
    nlinarith

theorem count_reached {i k p : ℕ} (hi : i + k < 384) (hp : 2 * p = i * (769 - i) + 2 * k) : Nat.count (fun q => q * (769 - q) ≤ 2 * p) 384 = i + 1 := by
  rw [Nat.count_eq_card_filter_range]
  have : (Finset.range 384).filter (fun q => q * (769 - q) ≤ 2 * p) = Finset.range (i + 1) := by
    ext q
    rw [Finset.mem_filter, Finset.mem_range, Finset.mem_range]
    constructor
    · rintro ⟨h1, h2⟩
      have := (reached hi hp h1).mp h2
      omega
    · intro h
      exact ⟨by omega, (reached hi hp (by omega)).mpr (by omega)⟩
  rw [this, Finset.card_range]

theorem subi_ofNat {a b : ℕ} (h : b ≤ a) : IntOp.subi (BitVec.ofNat 32 a) (BitVec.ofNat 32 b) = BitVec.ofNat 32 (a - b) := by
  show BitVec.ofNat 32 a - BitVec.ofNat 32 b = _
  rw [sub_eq_iff_eq_add, ← BitVec.ofNat_add, Nat.sub_add_cancel h]

theorem half_ofNat {a : ℕ} (h : a < 2 ^ 32) : IntOp.shrui .host (BitVec.ofNat 32 a) 1#32 = BitVec.ofNat 32 (a / 2) := by
  refine BitVec.eq_of_toNat_eq ?_
  have e : IntOp.shrui .host (BitVec.ofNat 32 a) 1#32 = BitVec.ofNat 32 a >>> 1 := rfl
  rw [e, BitVec.toNat_ushiftRight, BitVec.toNat_ofNat, BitVec.toNat_ofNat, Nat.mod_eq_of_lt h, Nat.shiftRight_eq_div_pow]
  omega

theorem small_msb {a : ℕ} (h : a < 384) : (BitVec.ofNat 32 a).msb = false := by
  rw [BitVec.msb_eq_decide, BitVec.toNat_ofNat]
  simp only [decide_eq_false_iff_not]
  omega

theorem v81_at (p : Fin 73920) (q : Fin 384) : val_main_v81 (F := Ideal) (ix2 p q) = 1#1 ↔ q.val * (769 - q.val) ≤ 2 * p.val := by
  have h : val_main_v81 (F := Ideal) (ix2 p q) = IntOp.cmpi .sle (BitVec.ofNat 32 (q.val * (769 - q.val))) (BitVec.ofNat 32 (2 * p.val)) := by
    unfold val_main_v81 val_main_v80 val_main_v79 val_main_v78 val_main_v77 val_main_v76 val_main_v75 val_main_v74 val_main_v73 val_main_v72 val_main_v71
      val_main_v70 val_main_c_12 val_main_c_13
    pointwise
    rw [subi_ofNat (by omega), WordCmp.muli_ofNat, WordCmp.muli_ofNat]
  rw [h]
  have hq : q.val * (769 - q.val) < 384 * 770 := Nat.mul_lt_mul_of_lt_of_le q.isLt (by omega) (by omega)
  exact WordCmp.cmpi_sle_ofNat_eq_one_iff (by omega) (by omega)

variable {i k : ℕ} {p : Fin 73920} (hi : i + k < 384) (hp : 2 * p.val = i * (769 - i) + 2 * k)

include hi hp in
theorem v85_at : val_main_v85 (F := Ideal) (ix1 p) = BitVec.ofNat 32 i := by
  have h : val_main_v83 (F := Ideal) (ix1 p) = BitVec.ofNat 32 (i + 1) := by
    unfold val_main_v83 val_main_v82 val_main_c_14
    refine (Routing.reduce_count (by omega) _ _ _ _ p (fun q => q * (769 - q) ≤ 2 * p.val) (fun q => v81_at p q)).trans ?_
    rw [count_reached hi hp]
  unfold val_main_v85 val_main_v84 val_main_c_15
  pointwise
  rw [h]
  exact subi_ofNat (by omega)

include hi hp in
theorem v94_at : val_main_v94 (F := Ideal) (ix1 p) = BitVec.ofNat 32 (i + k) := by
  unfold val_main_v94 val_main_v93 val_main_v92 val_main_v91 val_main_v90 val_main_v89 val_main_v88 val_main_v87 val_main_v86 val_main_v70 val_main_c_16
    val_main_c_17 val_main_c_18
  pointwise
  rw [v85_at hi hp, WordCmp.muli_ofNat, WordCmp.addi_ofNat, WordCmp.muli_ofNat, half_ofNat (by have := Nat.mul_lt_mul'' (show i < 384 by omega) (show i + 1 < 385 by omega); omega)]
  show BitVec.ofNat 32 p.val - BitVec.ofNat 32 (i * 384) + BitVec.ofNat 32 (i * (i + 1) / 2) = BitVec.ofNat 32 (i + k)
  have e : 2 * (i * (i + 1) / 2) = i * (i + 1) := Nat.two_mul_div_two_of_even (Nat.even_mul_succ_self i)
  have h : p.val + i * (i + 1) / 2 = (i + k) + i * 384 := by
    obtain ⟨w, hw⟩ : ∃ w, w = i * (i + 1) / 2 := ⟨_, rfl⟩
    rw [← hw] at e ⊢
    zify [show i ≤ 769 by omega] at hp
    zify at e ⊢
    nlinarith
  have h' : BitVec.ofNat 32 p.val + BitVec.ofNat 32 (i * (i + 1) / 2) = BitVec.ofNat 32 (i + k) + BitVec.ofNat 32 (i * 384) := by
    rw [← BitVec.ofNat_add, ← BitVec.ofNat_add, h]
  rw [sub_add_eq_add_sub, h', add_sub_cancel_right]

include hi hp in
theorem v107_0 : val_main_v107 (F := Ideal) (ix2 p 0) = BitVec.ofNat 32 i := by
  unfold val_main_v107 val_main_v105 val_main_v99 val_main_v98 val_main_v97 val_main_v96 val_main_v95 val_main_c_19 val_main_c_20
  pointwise
  rw [v85_at hi hp]
  exact keep_index _ _ (small_msb (by omega))

include hi hp in
theorem v107_1 : val_main_v107 (F := Ideal) (ix2 p 1) = BitVec.ofNat 32 (i + k) := by
  unfold val_main_v107 val_main_v106 val_main_v104 val_main_v103 val_main_v102 val_main_v101 val_main_v100 val_main_c_21 val_main_c_22
  pointwise
  rw [v94_at hi hp]
  exact keep_index _ _ (small_msb hi)

/-- The triangle's gather. -/
abbrev gath : GatherDims S64x384x384 S73920x2 S64x73920 := gather_S64x384x384_S73920x2_S64x73920_0_12_n_n_12_1_6411

theorem gath_at {α : Type} (x : S64x384x384.Idx → α) (idx : IVec S73920x2 32) (b : Fin 64) (p : Fin 73920) (i j : Fin 384)
    (h0 : idx (ix2 p 0) = BitVec.ofNat 32 i.val) (h1 : idx (ix2 p 1) = BitVec.ofNat 32 j.val) :
    Host.gather gath x idx (ix2 b p) = x (ix3 b i j) := by
  refine congrArg x (funext fun a => Fin.ext ?_)
  have c : ∀ v : Fin 384, (BitVec.ofNat 32 v.val).toInt.toNat = v.val := fun v => by
    rw [WordCmp.toInt_eq_toNat_of_lt_half (by rw [BitVec.toNat_ofNat]; have := v.isLt; omega), BitVec.toNat_ofNat]
    have := v.isLt
    omega
  have b0 : ∀ a, gath.batchCoord (ix2 b p) a = 0 := fun a => by fin_cases a <;> rfl
  have o0 : gath.offCoord (ix2 b p) 0 = b.val := rfl
  have o1 : gath.offCoord (ix2 b p) 1 = 0 := rfl
  have o2 : gath.offCoord (ix2 b p) 2 = 0 := rfl
  have s0 : gath.start (ix2 b p) idx 0 = 0 := by
    unfold GatherDims.start
    rw [dif_neg (by decide)]
  have s1 : gath.start (ix2 b p) idx 1 = i.val := by
    unfold GatherDims.start
    rw [dif_pos (by decide)]
    refine Eq.trans (congrArg (fun z => min (idx z).toInt.toNat _) (?_ : _ = ix2 p 0)) ?_
    · funext a
      fin_cases a <;> rfl
    · rw [h0, c]
      exact Nat.min_eq_left (by have := i.isLt; show i.val ≤ 384 - 1; omega)
  have s2 : gath.start (ix2 b p) idx 2 = j.val := by
    unfold GatherDims.start
    rw [dif_pos (by decide)]
    refine Eq.trans (congrArg (fun z => min (idx z).toInt.toNat _) (?_ : _ = ix2 p 1)) ?_
    · funext a
      fin_cases a <;> rfl
    · rw [h1, c]
      exact Nat.min_eq_left (by have := j.isLt; show j.val ≤ 384 - 1; omega)
  fin_cases a
  · show gath.start (ix2 b p) idx 0 + gath.batchCoord (ix2 b p) 0 + gath.offCoord (ix2 b p) 0 = b.val
    rw [s0, b0, o0, Nat.zero_add]
  · show gath.start (ix2 b p) idx 1 + gath.batchCoord (ix2 b p) 1 + gath.offCoord (ix2 b p) 1 = i.val
    rw [s1, b0, o1, Nat.add_zero]
  · show gath.start (ix2 b p) idx 2 + gath.batchCoord (ix2 b p) 2 + gath.offCoord (ix2 b p) 2 = j.val
    rw [s2, b0, o2, Nat.add_zero]

variable (t : (⟨S64x196x384, .f32⟩ : BufTy).Contents (Elt Ideal)) (g : (⟨S64x196x196, .f32⟩ : BufTy).Contents (Elt Ideal))

include hp in
/-- Position `p` of the triangle is the entry that stands there in row order. -/
theorem v108_at (b : Fin 64) : val_main_v108 (F := Ideal) t g (ix2 b p) = val_main_v69 (F := Ideal) t g (ix3 b ⟨i, by omega⟩ ⟨i + k, hi⟩) := by
  unfold val_main_v108
  exact gath_at _ _ b p ⟨i, by omega⟩ ⟨i + k, hi⟩ (v107_0 hi hp) (v107_1 hi hp)

variable (x3 : (⟨S512x73920, .f32⟩ : BufTy).Contents (Elt Ideal)) (x4 x5 x6 : (⟨S512, .f32⟩ : BufTy).Contents (Elt Ideal))

/-- The triangle branch's result. -/
theorem v128_at (b : Fin 64) (o : Fin 512) :
    val_main_v128 (F := Ideal) t g x3 x4 x5 x6 (ix2 b o)
      = layer (∑ p : Fin 73920, val_main_v108 (F := Ideal) t g (ix2 b p) * x3 (ix2 o p)) (x4 (ix1 o)) (x5 (ix1 o)) (x6 (ix1 o)) := by
  rw [← layer_eq]
  unfold val_main_v128 val_main_v127 val_main_v126 val_main_v125 val_main_v124 val_main_v123 val_main_v122 val_main_v121 val_main_v120 val_main_v119
    val_main_v118 val_main_v117 val_main_v116 val_main_v115 val_main_v114 val_main_v113 val_main_v112 val_main_v111 val_main_v110 val_main_v109
    val_main_cst_23 val_main_cst_24 val_main_cst_25
  pointwise
  rfl

end Cert.ReferenceIdeal.Read

end
-- ==== Proof.Pre.lean ====
/-
  What the precondition says of one sample, and of the sketch's rows.
-/
module

public import proofs.«01_k».proof.Pre_well_posed
public import proofs.«01_k».proof.Proof.RefMoments
public import Idealize.ShloMosaic.Lib.ReduceAll

@[expose] public section

set_option maxRecDepth 16384

noncomputable section

namespace Cert.Pre_well_posed

open Idealize.ShloMosaic Cert.Moments Cert.ReferenceIdeal.Read

instance facts : Facts where
  reducesTo_S64x196x196_S64x196_d2 := by decide
  h_S_ := by decide
  bcast_S_S64x196 := by decide
  bcast_S64x196_S64x196x1_0_1 := by decide
  bcast_S64x196x1_S64x196x196_0_1_2 := by decide
  bcast_S64x196_S64x1x196_0_2 := by decide
  bcast_S64x1x196_S64x196x196_0_1_2 := by decide
  bcast_S_S64x196x196 := by decide
  reducesTo_S64x196x196_S64_d1_2 := by decide
  bcast_S64_S64x1_0 := by decide
  bcast_S_S64x1 := by decide
  bcast_S64x1_S64x384_0_1 := by decide
  bcast_S64x384_S64x1x384_0_2 := by decide
  bcast_S64x1x384_S64x196x384_0_1_2 := by decide
  reducesTo_S64x196x384_S64_d1_2 := by decide
  bcast_S_S64 := by decide
  reducesTo_S64_S_d0 := by decide
  bcast_S_S3x384 := by decide
  reducesTo_S3x384_S_d0_1 := by decide
  dot_S64x196x384_S64x196_S64x384_1_1_2_n_0_0_wf := by decide
  dot_S64x196x196_S64x196x384_S64x196x384_2_1_1_2_0_0_wf := by decide

open Facts

variable (t : FVec Ideal S64x196x384 .f32) (g : FVec Ideal S64x196x196 .f32)

/-- The traces of the normalised graphs. -/
def trwVec : FVec Ideal S64 .f32 :=
  Host.reduceAdd (select (cmpi .eq (iotaInDim S64x196x196 32 1) (iotaInDim S64x196x196 32 2)) (val_main_v11 (F := Ideal) g)
    (broadcastInDim S64x196x196 ![] bcast_S_S64x196x196 (constant (F := Ideal) S_ .f32 0x00000000#32)))
    (constant S_ .f32 0x00000000#32) reducesTo_S64x196x196_S64_d1_2 h_S_

/-- The centred tokens. -/
def tcVec : FVec Ideal S64x196x384 .f32 :=
  subf t (broadcastInDim S64x196x384 ![0, 1, 2] bcast_S64x1x384_S64x196x384_0_1_2 (broadcastInDim S64x1x384 ![0, 2] bcast_S64x384_S64x1x384_0_2
    (Host.divf (Host.dotGeneral (φ₁ := .f32) (φ₂ := .f32) dot_S64x196x384_S64x196_S64x384_1_1_2_n_0_0 none t (val_main_v12 (F := Ideal) g : FVec Ideal S64x196 .f32))
      (broadcastInDim S64x384 ![0, 1] bcast_S64x1_S64x384_0_1 (addf (broadcastInDim S64x1 ![0] bcast_S64_S64x1_0 (trwVec g))
        (broadcastInDim S64x1 ![] bcast_S_S64x1 (constant (F := Ideal) S_ .f32 0x3727C5AC#32)))))))

/-- The traces of the second moments. -/
def trVec : FVec Ideal S64 .f32 :=
  Host.reduceAdd (mulf (tcVec t g) (Host.dotGeneral (φ₁ := .f32) (φ₂ := .f32) dot_S64x196x196_S64x196x384_S64x196x384_2_1_1_2_0_0 none (val_main_v11 (F := Ideal) g : FVec Ideal S64x196x196 .f32) (tcVec t g)))
    (constant S_ .f32 0x00000000#32) reducesTo_S64x196x384_S64_d1_2 h_S_

/-- Where a small number added gives something other than zero. -/
def offZero (x : FVec Ideal S64 .f32) : IVec S64 1 :=
  cmpf .une (addf x (broadcastInDim S64 ![] bcast_S_S64 (constant (F := Ideal) S_ .f32 0x3727C5AC#32)))
    (broadcastInDim S64 ![] bcast_S_S64 (constant (F := Ideal) S_ .f32 0x00000000#32))

theorem trwVec_at (b : Fin 64) : trwVec g (ix1 b) = trw (grp g b) := by
  unfold trwVec
  pointwise
  simp only [v11_at]
  have h (x : BitVec 32) : IntOp.addi x 0#32 = x := BitVec.add_zero _
  have := diag_sum (n := 196) (by norm_num) fun n k => grp g b n k * dinv (grp g b) n * dinv (grp g b) k
  simp only [h] at this
  exact this

theorem offZero_at {x : FVec Ideal S64 .f32} {b : Fin 64} (h : offZero x (ix1 b) = 1#1) : x (ix1 b) + eps ≠ 0 := by
  revert h
  unfold offZero
  pointwise
  intro h
  have := decide_eq_true_eq.mp (show decide (x (ix1 b) + Ideal.ofBits .f32 0x3727C5AC#32 ≠ 0) = true by
    revert h; cases decide (x (ix1 b) + Ideal.ofBits .f32 0x3727C5AC#32 ≠ 0) <;> simp)
  exact this

section
variable (b : Fin 64) (h1 : trw (grp g b) + eps ≠ 0)
include h1

theorem tcVec_at (n : Fin 196) (d : Fin 384) : tcVec t g (ix3 b n d) = tc (grp g b) (tok t b) n d := by
  unfold tcVec
  pointwise
  simp only [v12_at, trwVec_at]
  refine congrArg (t (ix3 b n d) - ·) ((div_eq_mul h1 _).trans ?_)
  exact congrArg (· * itrw (grp g b)) (Finset.sum_congr rfl fun n _ => mul_comm _ _)

theorem trVec_at : trVec t g (ix1 b) = tr (grp g b) (tok t b) := by
  unfold trVec
  pointwise
  simp only [tcVec_at t g b h1, v11_at]
  exact Finset.sum_congr rfl fun n _ => Finset.sum_congr rfl fun d _ => m2_term (A := grp g b) (T := tok t b) n d d

end

/-- The precondition, unfolded. -/
theorem fn_eq (x2 x3 x4 x5 x6 x7 x8 x9 x10) (x11 : IVec S3x384 32) :
    fn (F := Ideal) t g x2 x3 x4 x5 x6 x7 x8 x9 x10 x11 =
      andi (andi (Host.reduce IntOp.andi (offZero (trwVec g)) (constantI S_ 1 1#1) reducesTo_S64_S_d0 h_S_)
        (Host.reduce IntOp.andi (offZero (trVec t g)) (constantI S_ 1 1#1) reducesTo_S64_S_d0 h_S_))
        (Host.reduce IntOp.andi (cmpi .sge x11 (broadcastInDim S3x384 ![] bcast_S_S3x384 (constantI S_ 32 0#32)))
          (constantI S_ 1 1#1) reducesTo_S3x384_S_d0_1 h_S_) := by
  chain_rfl

theorem andi_one {x y : BitVec 1} (h : IntOp.andi x y = 1#1) : x = 1#1 ∧ y = 1#1 := by
  revert x y; decide

/-- The precondition: the divisors of every sample are not zero, and the sketch's rows are not below zero. -/
theorem of_fn (x2 x3 x4 x5 x6 x7 x8 x9 x10) (x11 : IVec S3x384 32)
    (h : fn (F := Ideal) t g x2 x3 x4 x5 x6 x7 x8 x9 x10 x11 = fun _ => 1#1) :
    (∀ b, trw (grp g b) + eps ≠ 0) ∧ (∀ b, tr (grp g b) (tok t b) + eps ≠ 0) ∧ ∀ s d, (x11 (ix2 s d)).msb = false := by
  have : Subsingleton S_.Idx := ⟨fun a b => funext fun i => i.elim0⟩
  rw [fn_eq] at h
  obtain ⟨h12, h3⟩ := andi_one (congrFun h ix0)
  obtain ⟨h1, h2⟩ := andi_one h12
  have hw b : trw (grp g b) + eps ≠ 0 := by
    have := offZero_at (Host.reduce_andi_all _ _ _ _ _ h1 (ix1 b))
    rwa [trwVec_at] at this
  refine ⟨hw, fun b => ?_, fun s d => ?_⟩
  · have := offZero_at (Host.reduce_andi_all _ _ _ _ _ h2 (ix1 b))
    rwa [trVec_at t g b (hw b)] at this
  · have := Host.reduce_andi_all _ _ _ _ _ h3 (ix2 s d)
    revert this
    pointwise
    simp only [IntOp.cmpi]
    intro h
    cases hm : (x11 (ix2 s d)).msb with
    | false => rfl
    | true =>
      rw [BitVec.msb_eq_toInt, decide_eq_true_eq] at hm
      have hs : (0#32).sle (x11 (ix2 s d)) = true := by
        revert h; cases (0#32).sle (x11 (ix2 s d)) <;> simp
      rw [BitVec.sle, decide_eq_true_eq] at hs
      simp only [BitVec.toInt_zero] at hs
      omega

end Cert.Pre_well_posed

end
-- ==== Proof.Result.lean ====
/-
  The kernel's result is the reference's: the two halves of the joined array, and the runs that leave them.
-/
module

public import proofs.«01_k».proof.Proof.Frames
public import proofs.«01_k».proof.Proof.ArraysOut
public import proofs.«01_k».proof.Proof.RefTriangle
public import proofs.«01_k».proof.Proof.Pre

@[expose] public section

set_option maxRecDepth 16384

noncomputable section

namespace Cert.KernelIdeal.Gen

open Idealize.ShloMosaic Idealize.ShloMosaic.TcCoe Idealize.SL.Sem Idealize.ShloMosaic.StableHlo
open Cert.Moments Cert.Layers
open Cert.ReferenceIdeal.Read (val_main_v69 val_main_v108 val_main_v128 val_main_v137 val_main_v207 val_main_v208)

/-- Every position of the triangle lies in one of its rows. -/
theorem exists_row {p : ℕ} (hp : p < 73920) : ∃ n k, n < 384 ∧ k < n + 1 ∧ p = rowOff n + k := by
  have h0 : ∃ n, rowOff n ≤ p := ⟨383, by show 73920 - 384 * 385 / 2 ≤ p; omega⟩
  classical
  obtain ⟨n, hn, hmin⟩ : ∃ n, rowOff n ≤ p ∧ ∀ q, q < n → p < rowOff q :=
    ⟨Nat.find h0, Nat.find_spec h0, fun q hq => Nat.lt_of_not_le (Nat.find_min h0 hq)⟩
  have hlt : n < 384 := by
    by_contra hge
    have h : rowOff 383 = 0 := by decide
    have := hmin 383 (by omega)
    omega
  refine ⟨n, p - rowOff n, hlt, ?_, by omega⟩
  rcases Nat.eq_zero_or_pos n with rfl | hpos
  · have h : rowOff 0 = 73919 := by decide
    omega
  · have h := hmin (n - 1) (by omega)
    have e : rowOff (n - 1) = rowOff n + (n + 1) := by
      obtain ⟨q, rfl⟩ : ∃ q, n = q + 1 := ⟨n - 1, by omega⟩
      have hl := rowOff_le hlt
      show 73920 - (q + 1) * (q + 2) / 2 = 73920 - (q + 1 + 1) * (q + 1 + 2) / 2 + (q + 1 + 1)
      have hl : 73920 - (q + 1 + 1) * (q + 1 + 2) / 2 + (q + 1 + 1) ≤ 73920 := hl
      have e : (q + 1 + 1) * (q + 1 + 2) = (q + 1) * (q + 2) + 2 * (q + 2) := by ring
      have hb : (q + 1 + 1) * (q + 1 + 2) ≤ 384 * 385 := Nat.mul_le_mul (by omega) (by omega)
      rw [e] at hb ⊢
      omega
    omega

/-- Twice a row's start. -/
theorem two_rowOff {n : ℕ} (hn : n < 384) : 2 * rowOff n = (383 - n) * (769 - (383 - n)) := by
  obtain ⟨i, hi⟩ : ∃ i, n + i = 383 := ⟨383 - n, by omega⟩
  have e1 : 383 - n = i := by omega
  rw [e1]
  have ev : 2 * ((n + 1) * (n + 2) / 2) = (n + 1) * (n + 2) := Nat.two_mul_div_two_of_even (Nat.even_mul_succ_self (n + 1))
  have hb : (n + 1) * (n + 2) ≤ 384 * 385 := Nat.mul_le_mul (by omega) (by omega)
  have hr : 2 * rowOff n + (n + 1) * (n + 2) = 147840 := by
    show 2 * (73920 - (n + 1) * (n + 2) / 2) + _ = _
    omega
  have h2 : i * (769 - i) + (n + 1) * (n + 2) = 147840 := by
    have : n = 383 - i := by omega
    subst this
    zify [show i ≤ 769 by omega, show i ≤ 383 by omega]
    ring
  omega

variable (m : (ℓ : Loc nD τ sig) → Buf (Elt Ideal) ℓ) (c : Dev nD) (X : Tri Ideal)

/-- What the precondition gives of the launch's arrays. -/
structure Posed : Prop where
  weight : ∀ b, trw (graph m c b) + eps ≠ 0
  spread : ∀ b, tr (graph m c b) (tokens m c b) + eps ≠ 0
  index : ∀ s d, (hashArg c m s d).msb = false

variable (hP : Posed m c) (hX : SelAt m X c)

include hP hX in
/-- An entry of the packed triangle is the reference's. -/
theorem vecIn_at (b : Fin 64) (p : Fin 73920) :
    vecIn (W5 m X c) b ⟨p.val, by omega⟩
      = val_main_v108 (F := Ideal) (m ((c : Thread nD τ).loc main_arg0)) (m ((c : Thread nD τ).loc main_arg1)) (ix2 b p) := by
  obtain ⟨n, k, hn, hk, hp⟩ := exists_row p.isLt
  have h2 := two_rowOff hn
  unfold vecIn
  rw [W5_v8]
  have h := out_tri m c X hX ⟨b.val / 8, by omega⟩ ⟨b.val % 8, by omega⟩ n hn k hk
  have e : smp ⟨b.val / 8, by omega⟩ ⟨b.val % 8, by omega⟩ = b := Fin.ext (by show 8 * (b.val / 8) + b.val % 8 = b.val; omega)
  rw [e] at h
  have ep : (⟨p.val, by omega⟩ : Fin 74304) = ⟨rowOff n + k, by have := rowOff_le hn; omega⟩ := Fin.ext hp
  rw [ep, h]
  exact ((Cert.ReferenceIdeal.Read.v108_at (i := 383 - n) (k := k) (by omega) (by omega) _ _ b).trans
    (Cert.ReferenceIdeal.Read.v69_at _ _ b (hP.weight b) (hP.spread b) _ _)).symm

include hP hX in
/-- The triangle branch. -/
theorem W6_v13 (b : Fin 64) (o : Fin 512) :
    (W6 m X c main_v13 : Vec Ideal S64x512 .f32) (ix2 b o)
      = val_main_v128 (F := Ideal) (m ((c : Thread nD τ).loc main_arg0)) (m ((c : Thread nD τ).loc main_arg1)) (m ((c : Thread nD τ).loc main_arg3))
          (m ((c : Thread nD τ).loc main_arg4)) (m ((c : Thread nD τ).loc main_arg5)) (m ((c : Thread nD τ).loc main_arg6)) (ix2 b o) := by
  have e : (W6 m X c main_v13 : Vec Ideal S64x512 .f32) = (dat2 (W5 m X c) c).arrAt 5 cfg2.N := out2_v13 (W5 m X c) c
  rw [e, arr2_5, W5_v10, W5_v11, W5_v12, Cert.ReferenceIdeal.Read.v128_at]
  have hs : long (W5 m X c) b o
      = ∑ p : Fin 73920, val_main_v108 (F := Ideal) (m ((c : Thread nD τ).loc main_arg0)) (m ((c : Thread nD τ).loc main_arg1)) (ix2 b p)
          * (m ((c : Thread nD τ).loc main_arg3) : Vec Ideal S512x73920 .f32) (ix2 o p) := by
    unfold long
    refine Finset.sum_congr rfl fun p _ => ?_
    rw [vecIn_at m c X hP hX]
    unfold wtsIn
    rw [W5_v9]
  rw [hs]

include hP in
/-- The sketch branch. -/
theorem W6_v7 (b : Fin 64) (o : Fin 512) :
    (W6 m X c main_v7 : Vec Ideal S64x512 .f32) (ix2 b o)
      = val_main_v207 (F := Ideal) (m ((c : Thread nD τ).loc main_arg0)) (m ((c : Thread nD τ).loc main_arg1)) (m ((c : Thread nD τ).loc main_arg2))
          (m ((c : Thread nD τ).loc main_arg7)) (m ((c : Thread nD τ).loc main_arg8)) (m ((c : Thread nD τ).loc main_arg9))
          (m ((c : Thread nD τ).loc main_arg10)) (m ((c : Thread nD τ).loc main_arg11)) (ix2 b o) := by
  have e : (W6 m X c main_v7 : Vec Ideal S64x512 .f32) = W4 m X c main_v7 :=
    (out2_ne _ c (by decide)).trans (StableHlo.after_of_writes_sub hostOps2 _ hostOps2_writes (by decide))
  rw [e, W4_v7, Cert.ReferenceIdeal.Read.v207_at _ _ _ _ (fun s d => hP.index s d)]
  have hw : (fun d => val_main_v137 (F := Ideal) (m ((c : Thread nD τ).loc main_arg0)) (m ((c : Thread nD τ).loc main_arg1)) (ix2 b d))
      = fun d => wc (graph m c b) (tokens m c b) d :=
    funext fun d => Cert.ReferenceIdeal.Read.v137_at _ _ b (hP.weight b) d
  rw [hw]
  rfl

include hP hX in
/-- The joined result. -/
theorem W7_v14 :
    (W7 m X c main_v14 : Vec Ideal S64x1024 .f32)
      = val_main_v208 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9))
          (m ((c : Thread nD τ).loc main_arg10)) (m ((c : Thread nD τ).loc main_arg11)) := by
  have hl : (W6 m X c main_v13 : Vec Ideal S64x512 .f32) = val_main_v128 (F := Ideal) _ _ _ _ _ _ := funext fun y => by
    idx_vars y
    exact W6_v13 m c X hP hX _ _
  have hr : (W6 m X c main_v7 : Vec Ideal S64x512 .f32) = val_main_v207 (F := Ideal) _ _ _ _ _ _ _ _ := funext fun y => by
    idx_vars y
    exact W6_v7 m c X hP _ _
  unfold W7
  after_results
  rw [hl, hr]
  rfl

/-- The precondition's word at the launch, taken apart. -/
theorem posed_of (h : Cert.Pre_KernelIdeal_well_posed (hPre_well_posed := Cert.Pre_well_posed.facts) m) : Posed m c :=
  let ⟨h1, h2, h3⟩ := Cert.Pre_well_posed.of_fn _ _ _ _ _ _ _ _ _ _ _ _ (h c)
  ⟨h1, h2, h3⟩

end Cert.KernelIdeal.Gen

namespace Cert.Proof

open Idealize.ShloMosaic Idealize.ShloMosaic.TcCoe Idealize.SL.Sem

/-- The frames again, where the precondition is given. -/
theorem frame_kernelIdeal_posed : Cert.quiescent_KernelIdeal_pre_well_posed (hKernelIdeal := Cert.KernelIdeal.Gen.facts) (hPre_well_posed := Cert.Pre_well_posed.facts) :=
  fun m g _ => Cert.KernelIdeal.Gen.frame_all (F := Ideal) m g

theorem frame_referenceIdeal_posed : Cert.quiescent_ReferenceIdeal_pre_well_posed (hReferenceIdeal := Cert.ReferenceIdeal.Gen.facts) (hPre_well_posed := Cert.Pre_well_posed.facts) :=
  fun m g _ => frame_referenceIdeal m g trivial

/-- The kernel and the reference end with the same array. -/
theorem same_result : Cert.algebraic_KernelIdeal_ReferenceIdeal_pre_well_posed (hKernelIdeal := Cert.KernelIdeal.Gen.facts)
    (hReferenceIdeal := Cert.ReferenceIdeal.Gen.facts) (hPre_well_posed := Cert.Pre_well_posed.facts) := by
  intro m g m' g' hpre hargs
  refine ⟨fun c => Cert.ReferenceIdeal.Read.val_main_v208 (F := Ideal)
      (m ((c : Thread Cert.KernelIdeal.nD Cert.KernelIdeal.τ).loc Cert.KernelIdeal.main_arg0)) (m ((c : Thread Cert.KernelIdeal.nD Cert.KernelIdeal.τ).loc Cert.KernelIdeal.main_arg1))
      (m ((c : Thread Cert.KernelIdeal.nD Cert.KernelIdeal.τ).loc Cert.KernelIdeal.main_arg2)) (m ((c : Thread Cert.KernelIdeal.nD Cert.KernelIdeal.τ).loc Cert.KernelIdeal.main_arg3))
      (m ((c : Thread Cert.KernelIdeal.nD Cert.KernelIdeal.τ).loc Cert.KernelIdeal.main_arg4)) (m ((c : Thread Cert.KernelIdeal.nD Cert.KernelIdeal.τ).loc Cert.KernelIdeal.main_arg5))
      (m ((c : Thread Cert.KernelIdeal.nD Cert.KernelIdeal.τ).loc Cert.KernelIdeal.main_arg6)) (m ((c : Thread Cert.KernelIdeal.nD Cert.KernelIdeal.τ).loc Cert.KernelIdeal.main_arg7))
      (m ((c : Thread Cert.KernelIdeal.nD Cert.KernelIdeal.τ).loc Cert.KernelIdeal.main_arg8)) (m ((c : Thread Cert.KernelIdeal.nD Cert.KernelIdeal.τ).loc Cert.KernelIdeal.main_arg9))
      (m ((c : Thread Cert.KernelIdeal.nD Cert.KernelIdeal.τ).loc Cert.KernelIdeal.main_arg10)) (m ((c : Thread Cert.KernelIdeal.nD Cert.KernelIdeal.τ).loc Cert.KernelIdeal.main_arg11)), ?_, ?_⟩
  · refine θ_run_mono (Cert.KernelIdeal.Gen.run_all (F := Ideal) m g) fun r h c => ?_
    obtain ⟨X, hX, hb⟩ := h.1 c
    exact ⟨(hb Cert.KernelIdeal.main_v14 (Finset.mem_filter.mpr ⟨StableHlo.devRef_mem_tcRefs Cert.KernelIdeal.main_v14, by decide⟩)).trans
        (Cert.KernelIdeal.Gen.W7_v14 m c X (Cert.KernelIdeal.Gen.posed_of m c hpre) hX),
      Cert.KernelIdeal.Gen.argsKept_of m X c _ hb⟩
  · refine θ_run_mono (Cert.ReferenceIdeal.Value.run (F := Ideal) m' g') fun r h c => ⟨((h c).1.trans (Cert.ReferenceIdeal.Read.val_main_v208_eq _)).trans ?_, (h c).2⟩
    obtain ⟨a0, a1, a2, a3, a4, a5, a6, a7, a8, a9, a10, a11⟩ := hargs c
    exact congr (congr (congr (congr (congr (congr (congr (congr (congr (congr (congr (congrArg (Cert.ReferenceIdeal.Read.val_main_v208 (F := Ideal)) a0) a1) a2) a3) a4) a5) a6) a7) a8) a9) a10) a11

end Cert.Proof

end
-- ==== Proof.lean ====
/-
  The certificate: the kernel's result is the reference's, the frames of both, and that the ideal reading is the program's
  own text.
-/
module

public import proofs.«01_k».proof.Defs
public import proofs.«01_k».proof.Proof.FrameBits
public import proofs.«01_k».proof.Proof.Result

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_well_posed.facts,
  frame_kernel, frame_kernelIdeal, frame_kernelIdeal_posed, frame_referenceIdeal, frame_referenceIdeal_posed, trivial, same_result⟩

end Cert.Proof

end
